-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Pool [hPre_batch_in_range : Cert.Pre_batch_in_range.Facts] (m : (ℓ : Loc Cert.Pool.nD Cert.Pool.τ Cert.Pool.sig) → Buf (Elt Bits) ℓ) : Prop :=
  ∀ c : Dev Cert.Pool.nD,
    (Cert.Pre_batch_in_range.fn (F := Bits) (m ((c.tc : Thread Cert.Pool.nD Cert.Pool.τ).loc Cert.Pool.main_arg0)) (m ((c.tc : Thread Cert.Pool.nD Cert.Pool.τ).loc Cert.Pool.main_arg1)) (m ((c.tc : Thread Cert.Pool.nD Cert.Pool.τ).loc Cert.Pool.main_arg2)) (m ((c.tc : Thread Cert.Pool.nD Cert.Pool.τ).loc Cert.Pool.main_arg3)) (m ((c.tc : Thread Cert.Pool.nD Cert.Pool.τ).loc Cert.Pool.main_arg4)) (m ((c.tc : Thread Cert.Pool.nD Cert.Pool.τ).loc Cert.Pool.main_arg5)) (m ((c.tc : Thread Cert.Pool.nD Cert.Pool.τ).loc Cert.Pool.main_arg6))) = (fun _ => 1#1)

def Pre_PoolIdeal [hPre_batch_in_range : Cert.Pre_batch_in_range.Facts] (m : (ℓ : Loc Cert.PoolIdeal.nD Cert.PoolIdeal.τ Cert.PoolIdeal.sig) → Buf (Elt Ideal) ℓ) : Prop :=
  ∀ c : Dev Cert.PoolIdeal.nD,
    (Cert.Pre_batch_in_range.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6))) = (fun _ => 1#1)

def Pre_PoolIdeal_regular [hPre_regular : Cert.Pre_regular.Facts] (m : (ℓ : Loc Cert.PoolIdeal.nD Cert.PoolIdeal.τ Cert.PoolIdeal.sig) → Buf (Elt Ideal) ℓ) : Prop :=
  ∀ c : Dev Cert.PoolIdeal.nD,
    (Cert.Pre_regular.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_regular [hPre_regular : Cert.Pre_regular.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_regular.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4)) (m ((c.tc : Thread Cert.PoolReferenceIdeal.nD Cert.PoolReferenceIdeal.τ).loc Cert.PoolReferenceIdeal.main_arg5)) (m ((c.tc : Thread Cert.PoolReferenceIdeal.nD Cert.PoolReferenceIdeal.τ).loc Cert.PoolReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Pool [hPool : Cert.Pool.Facts] [hPre_batch_in_range : Cert.Pre_batch_in_range.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6))
      ∧ r.2.sem = fun _ => 0)

def quiescent_PoolIdeal [hPoolIdeal : Cert.PoolIdeal.Facts] [hPre_batch_in_range : Cert.Pre_batch_in_range.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolIdeal_pre_regular [hPoolIdeal : Cert.PoolIdeal.Facts] [hPre_regular : Cert.Pre_regular.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_regular m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def quiescent_PoolReferenceIdeal_pre_regular [hPoolReferenceIdeal : Cert.PoolReferenceIdeal.Facts] [hPre_regular : Cert.Pre_regular.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_regular m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Pool_PoolIdeal : Prop :=
  IdealRules.named_const.Statement Cert.PoolIdeal.κ "one_e5" .f32 0x3727C5AC#32 ((1 / 100000 : ℝ) : EReal)

def algebraic_PoolIdeal_PoolReferenceIdeal_pre_regular [hPoolIdeal : Cert.PoolIdeal.Facts] [hPoolReferenceIdeal : Cert.PoolReferenceIdeal.Facts] [hPre_regular : Cert.Pre_regular.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_regular m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)
      ∧ m' ((c.tc : Thread Cert.PoolReferenceIdeal.nD Cert.PoolReferenceIdeal.τ).loc Cert.PoolReferenceIdeal.main_arg4) = m ((c.tc : Thread Cert.PoolIdeal.nD Cert.PoolIdeal.τ).loc Cert.PoolIdeal.main_arg4)
      ∧ m' ((c.tc : Thread Cert.PoolReferenceIdeal.nD Cert.PoolReferenceIdeal.τ).loc Cert.PoolReferenceIdeal.main_arg5) = m ((c.tc : Thread Cert.PoolIdeal.nD Cert.PoolIdeal.τ).loc Cert.PoolIdeal.main_arg5)
      ∧ m' ((c.tc : Thread Cert.PoolReferenceIdeal.nD Cert.PoolReferenceIdeal.τ).loc Cert.PoolReferenceIdeal.main_arg6) = m ((c.tc : Thread Cert.PoolIdeal.nD Cert.PoolIdeal.τ).loc Cert.PoolIdeal.main_arg6)) →
    ∃ (v0 : (c : Dev Cert.PoolIdeal.nD) → Buf (Elt Ideal) ((c.tc : Thread Cert.PoolIdeal.nD Cert.PoolIdeal.τ).loc Cert.PoolIdeal.main_v6)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v44) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4)
          ∧ r.2.mem ((c.tc : Thread Cert.PoolReferenceIdeal.nD Cert.PoolReferenceIdeal.τ).loc Cert.PoolReferenceIdeal.main_arg5) = m' ((c.tc : Thread Cert.PoolReferenceIdeal.nD Cert.PoolReferenceIdeal.τ).loc Cert.PoolReferenceIdeal.main_arg5)
          ∧ r.2.mem ((c.tc : Thread Cert.PoolReferenceIdeal.nD Cert.PoolReferenceIdeal.τ).loc Cert.PoolReferenceIdeal.main_arg6) = m' ((c.tc : Thread Cert.PoolReferenceIdeal.nD Cert.PoolReferenceIdeal.τ).loc Cert.PoolReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPool : Cert.Pool.Facts) (hPoolIdeal : Cert.PoolIdeal.Facts) (hPoolReferenceIdeal : Cert.PoolReferenceIdeal.Facts) (hPre_in_range : Cert.Pre_in_range.Facts) (hPre_batch_in_range : Cert.Pre_batch_in_range.Facts) (hPre_regular : Cert.Pre_regular.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ quiescent_Pool (hPool := hPool) (hPre_batch_in_range := hPre_batch_in_range)
    ∧ quiescent_PoolIdeal (hPoolIdeal := hPoolIdeal) (hPre_batch_in_range := hPre_batch_in_range)
    ∧ quiescent_PoolIdeal_pre_regular (hPoolIdeal := hPoolIdeal) (hPre_regular := hPre_regular)
    ∧ quiescent_PoolReferenceIdeal (hPoolReferenceIdeal := hPoolReferenceIdeal)
    ∧ quiescent_PoolReferenceIdeal_pre_regular (hPoolReferenceIdeal := hPoolReferenceIdeal) (hPre_regular := hPre_regular)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Pool_PoolIdeal
    ∧ algebraic_PoolIdeal_PoolReferenceIdeal_pre_regular (hPoolIdeal := hPoolIdeal) (hPoolReferenceIdeal := hPoolReferenceIdeal) (hPre_regular := hPre_regular)
-- ==== Pre_batch_in_range.lean ====
abbrev S100000x128 : Shape := ⟨2, ![100000, 128]⟩
abbrev S2x100000 : Shape := ⟨2, ![2, 100000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S2x100000 32) (main_arg2 : IVec S100000 32) (main_arg3 : FVec F S128x128 .f32) (main_arg4 : FVec F S128 .f32) (main_arg5 : FVec F S128 .f32) (main_arg6 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 256#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_in_range.lean ====
abbrev S256x128 : Shape := ⟨2, ![256, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S256x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_regular.lean ====
abbrev S100000x128 : Shape := ⟨2, ![100000, 128]⟩
abbrev S2x100000 : Shape := ⟨2, ![2, 100000]⟩
abbrev S100000 : Shape := ⟨1, ![100000]⟩
abbrev S128x128 : Shape := ⟨2, ![128, 128]⟩
abbrev S128 : Shape := ⟨1, ![128]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v15 : IVec S_ 1) (main_v16 : FVec F S128x128 .f32) (main_cst_4 : FVec F S_ .f32) : IVec S_ 1 :=
  let main_v17 : FVec F S128x128 .f32 := broadcastInDim S128x128 ![] bcast_S_S128x128 main_cst_4
  let main_v18 : IVec S128x128 1 := cmpf .olt main_v16 main_v17
  let main_c_5 : IVec S_ 1 := constantI S_ 1 1#1
  let main_v19 : IVec S_ 1 := (fun x v => Host.reduce IntOp.andi x v reducesTo_S128x128_S_d0_1 h_S_) main_v18 main_c_5
  let main_v20 : IVec S_ 1 := andi main_v15 main_v19
  let main_v21 : FVec F S128 .f32 := Host.absf main_arg4
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v20 main_v24
  let main_cst_8 : FVec F S_ .f32 := constant S_ .f32 0x00000000#32
  let main_v26 : FVec F S128 .f32 := broadcastInDim S128 ![] bcast_S_S128 main_cst_8
  let main_v27 : IVec S128 1 := cmpf .ogt main_arg5 main_v26
  let main_cst_9 : FVec F S_ .f32 := constant S_ .f32 0x7F800000#32
  let main_v28 : FVec F S128 .f32 := broadcastInDim S128 ![] bcast_S_S128 main_cst_9
  let main_v29 : IVec S128 1 := cmpf .olt main_arg5 main_v28
  let main_v30 : IVec S128 1 := andi main_v27 main_v29
  let main_c_10 : IVec S_ 1 := constantI S_ 1 1#1
  let main_v31 : IVec S_ 1 := (fun x v => Host.reduce IntOp.andi x v reducesTo_S128_S_d0 h_S_) main_v30 main_c_10
  let main_v32 : IVec S_ 1 := andi main_v25 main_v31
  main_v32

def fn {F : FTy → Type} [FloatOps F] (main_arg0 : FVec F S100000x128 .f32) (main_arg1 : IVec S2x100000 32) (main_arg2 : IVec S100000 32) (main_arg3 : FVec F S128x128 .f32) (main_arg4 : FVec F S128 .f32) (main_arg5 : FVec F S128 .f32) (main_arg6 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 256#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg2
  let main_v7 : IVec S99999 32 := (extractStridedSlice S99999 ![1] · slices_S100000_S99999_1) main_arg2
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  let main_v11 : FVec F S100000x128 .f32 := Host.absf main_arg0
  let main_cst : FVec F S_ .f32 := constant S_ .f32 0x7F800000#32
  let main_v12 : FVec F S100000x128 .f32 := broadcastInDim S100000x128 ![] bcast_S_S100000x128 main_cst
  let main_v13 : IVec S100000x128 1 := cmpf .olt main_v11 main_v12
  let main_c_3 : IVec S_ 1 := constantI S_ 1 1#1
  let main_v14 : IVec S_ 1 := (fun x v => Host.reduce IntOp.andi x v reducesTo_S100000x128_S_d0_1 h_S_) main_v13 main_c_3
  let main_v15 : IVec S_ 1 := andi main_v10 main_v14
  let main_v16 : FVec F S128x128 .f32 := Host.absf main_arg3
  let main_cst_4 : FVec F S_ .f32 := constant S_ .f32 0x7F800000#32
  fn_part1 (F := F) main_arg4 main_arg5 main_v15 main_v16 main_cst_4
-- ==== Kernel.lean ====
abbrev S256x128 : Shape := ⟨2, ![256, 128]⟩
abbrev S100000 : Shape := ⟨1, ![100000]⟩
abbrev S100000x128 : Shape := ⟨2, ![100000, 128]⟩
abbrev S3200 : Shape := ⟨1, ![3200]⟩
abbrev S6x128x128 : Shape := ⟨3, ![6, 128, 128]⟩
abbrev S6 : Shape := ⟨1, ![6]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S1 : Shape := ⟨1, ![1]⟩

abbrev nBuf : Table → Nat
  | .hbm => 3
  | .shared => 1
  | .local .scVector .vmem => 2
  | _ => 0

abbrev bufTy : (tb : Table) → Fin (nBuf tb) → BufTy
  | .hbm, ⟨0, _⟩ => ⟨S256x128, .f32⟩
  | .hbm, ⟨1, _⟩ => ⟨S100000, .i32⟩
  | .hbm, ⟨2, _⟩ => ⟨S100000x128, .f32⟩
  | .shared, ⟨0, _⟩ => ⟨S256x128, .f32⟩
  | .local .scVector .vmem, ⟨0, _⟩ => ⟨S3200, .i32⟩
  | .local .scVector .vmem, ⟨1, _⟩ => ⟨S6x128x128, .f32⟩
  | _, _ => ⟨S256x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 5 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c96800_i32 : BitVec 32 := 96800#32
  let v3 : BitVec 32 := Scalar.minsi v2 c96800_i32
  v3
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c96800_i32 : BitVec 32 := 96800#32
  let v3 : BitVec 32 := Scalar.minsi v2 c96800_i32
  let v4 : BitVec 32 := v3
  ![v4.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_1 : BitVec 32 := 0#32
  let v8 : BitVec 32 := Scalar.addi v2 c0_i32_1
  let c99872_i32 : BitVec 32 := 99872#32
  let v9 : BitVec 32 := Scalar.minsi v8 c99872_i32
  v9
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c128_i32 : BitVec 32 := 128#32
  let v11 : BitVec 32 := Scalar.addi v2 c128_i32
  let c99872_i32_2 : BitVec 32 := 99872#32
  let v12 : BitVec 32 := Scalar.minsi v11 c99872_i32_2
  v12
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c256_i32 : BitVec 32 := 256#32
  let v14 : BitVec 32 := Scalar.addi v2 c256_i32
  let c99872_i32_3 : BitVec 32 := 99872#32
  let v15 : BitVec 32 := Scalar.minsi v14 c99872_i32_3
  v15
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c384_i32 : BitVec 32 := 384#32
  let v17 : BitVec 32 := Scalar.addi v2 c384_i32
  let c99872_i32_4 : BitVec 32 := 99872#32
  let v18 : BitVec 32 := Scalar.minsi v17 c99872_i32_4
  v18
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c512_i32 : BitVec 32 := 512#32
  let v20 : BitVec 32 := Scalar.addi v2 c512_i32
  let c99872_i32_5 : BitVec 32 := 99872#32
  let v21 : BitVec 32 := Scalar.minsi v20 c99872_i32_5
  v21
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c640_i32 : BitVec 32 := 640#32
  let v23 : BitVec 32 := Scalar.addi v2 c640_i32
  let c99872_i32_6 : BitVec 32 := 99872#32
  let v24 : BitVec 32 := Scalar.minsi v23 c99872_i32_6
  v24
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c768_i32 : BitVec 32 := 768#32
  let v26 : BitVec 32 := Scalar.addi v2 c768_i32
  let c99872_i32_7 : BitVec 32 := 99872#32
  let v27 : BitVec 32 := Scalar.minsi v26 c99872_i32_7
  v27
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c896_i32 : BitVec 32 := 896#32
  let v29 : BitVec 32 := Scalar.addi v2 c896_i32
  let c99872_i32_8 : BitVec 32 := 99872#32
  let v30 : BitVec 32 := Scalar.minsi v29 c99872_i32_8
  v30
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1024_i32 : BitVec 32 := 1024#32
  let v32 : BitVec 32 := Scalar.addi v2 c1024_i32
  let c99872_i32_9 : BitVec 32 := 99872#32
  let v33 : BitVec 32 := Scalar.minsi v32 c99872_i32_9
  v33
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1152_i32 : BitVec 32 := 1152#32
  let v35 : BitVec 32 := Scalar.addi v2 c1152_i32
  let c99872_i32_10 : BitVec 32 := 99872#32
  let v36 : BitVec 32 := Scalar.minsi v35 c99872_i32_10
  v36
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1280_i32 : BitVec 32 := 1280#32
  let v38 : BitVec 32 := Scalar.addi v2 c1280_i32
  let c99872_i32_11 : BitVec 32 := 99872#32
  let v39 : BitVec 32 := Scalar.minsi v38 c99872_i32_11
  v39
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1408_i32 : BitVec 32 := 1408#32
  let v41 : BitVec 32 := Scalar.addi v2 c1408_i32
  let c99872_i32_12 : BitVec 32 := 99872#32
  let v42 : BitVec 32 := Scalar.minsi v41 c99872_i32_12
  v42
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1536_i32 : BitVec 32 := 1536#32
  let v44 : BitVec 32 := Scalar.addi v2 c1536_i32
  let c99872_i32_13 : BitVec 32 := 99872#32
  let v45 : BitVec 32 := Scalar.minsi v44 c99872_i32_13
  v45
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1664_i32 : BitVec 32 := 1664#32
  let v47 : BitVec 32 := Scalar.addi v2 c1664_i32
  let c99872_i32_14 : BitVec 32 := 99872#32
  let v48 : BitVec 32 := Scalar.minsi v47 c99872_i32_14
  v48
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1792_i32 : BitVec 32 := 1792#32
  let v50 : BitVec 32 := Scalar.addi v2 c1792_i32
  let c99872_i32_15 : BitVec 32 := 99872#32
  let v51 : BitVec 32 := Scalar.minsi v50 c99872_i32_15
  v51
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1920_i32 : BitVec 32 := 1920#32
  let v53 : BitVec 32 := Scalar.addi v2 c1920_i32
  let c99872_i32_16 : BitVec 32 := 99872#32
  let v54 : BitVec 32 := Scalar.minsi v53 c99872_i32_16
  v54
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2048_i32 : BitVec 32 := 2048#32
  let v56 : BitVec 32 := Scalar.addi v2 c2048_i32
  let c99872_i32_17 : BitVec 32 := 99872#32
  let v57 : BitVec 32 := Scalar.minsi v56 c99872_i32_17
  v57
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2176_i32 : BitVec 32 := 2176#32
  let v59 : BitVec 32 := Scalar.addi v2 c2176_i32
  let c99872_i32_18 : BitVec 32 := 99872#32
  let v60 : BitVec 32 := Scalar.minsi v59 c99872_i32_18
  v60
def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2304_i32 : BitVec 32 := 2304#32
  let v62 : BitVec 32 := Scalar.addi v2 c2304_i32
  let c99872_i32_19 : BitVec 32 := 99872#32
  let v63 : BitVec 32 := Scalar.minsi v62 c99872_i32_19
  v63
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2432_i32 : BitVec 32 := 2432#32
  let v65 : BitVec 32 := Scalar.addi v2 c2432_i32
  let c99872_i32_20 : BitVec 32 := 99872#32
  let v66 : BitVec 32 := Scalar.minsi v65 c99872_i32_20
  v66
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2560_i32 : BitVec 32 := 2560#32
  let v68 : BitVec 32 := Scalar.addi v2 c2560_i32
  let c99872_i32_21 : BitVec 32 := 99872#32
  let v69 : BitVec 32 := Scalar.minsi v68 c99872_i32_21
  v69
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2688_i32 : BitVec 32 := 2688#32
  let v71 : BitVec 32 := Scalar.addi v2 c2688_i32
  let c99872_i32_22 : BitVec 32 := 99872#32
  let v72 : BitVec 32 := Scalar.minsi v71 c99872_i32_22
  v72
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2816_i32 : BitVec 32 := 2816#32
  let v74 : BitVec 32 := Scalar.addi v2 c2816_i32
  let c99872_i32_23 : BitVec 32 := 99872#32
  let v75 : BitVec 32 := Scalar.minsi v74 c99872_i32_23
  v75
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2944_i32 : BitVec 32 := 2944#32
  let v77 : BitVec 32 := Scalar.addi v2 c2944_i32
  let c99872_i32_24 : BitVec 32 := 99872#32
  let v78 : BitVec 32 := Scalar.minsi v77 c99872_i32_24
  v78
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v80 : BitVec 32 := Scalar.addi v2 c3072_i32
  let c99872_i32_25 : BitVec 32 := 99872#32
  let v81 : BitVec 32 := Scalar.minsi v80 c99872_i32_25
  v81
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_1 : BitVec 32 := 0#32
  let v8 : BitVec 32 := Scalar.addi v2 c0_i32_1
  let c99872_i32 : BitVec 32 := 99872#32
  let v9 : BitVec 32 := Scalar.minsi v8 c99872_i32
  let v10 : BitVec 32 := v9
  let c96800_i32 : BitVec 32 := 96800#32
  let v3 : BitVec 32 := Scalar.minsi v2 c96800_i32
  let v4 : BitVec 32 := v3
  let v83 : BitVec 32 := Scalar.subi v10 v4
  v83
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c128_i32 : BitVec 32 := 128#32
  let v11 : BitVec 32 := Scalar.addi v2 c128_i32
  let c99872_i32_2 : BitVec 32 := 99872#32
  let v12 : BitVec 32 := Scalar.minsi v11 c99872_i32_2
  let v13 : BitVec 32 := v12
  let c96800_i32 : BitVec 32 := 96800#32
  let v3 : BitVec 32 := Scalar.minsi v2 c96800_i32
  let v4 : BitVec 32 := v3
  let v85 : BitVec 32 := Scalar.subi v13 v4
  v85
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c256_i32 : BitVec 32 := 256#32
  let v14 : BitVec 32 := Scalar.addi v2 c256_i32
  let c99872_i32_3 : BitVec 32 := 99872#32
  let v15 : BitVec 32 := Scalar.minsi v14 c99872_i32_3
  let v16 : BitVec 32 := v15
  let c96800_i32 : BitVec 32 := 96800#32
  let v3 : BitVec 32 := Scalar.minsi v2 c96800_i32
  let v4 : BitVec 32 := v3
  let v87 : BitVec 32 := Scalar.subi v16 v4
  v87
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c384_i32 : BitVec 32 := 384#32
  let v17 : BitVec 32 := Scalar.addi v2 c384_i32
  let c99872_i32_4 : BitVec 32 := 99872#32
  let v18 : BitVec 32 := Scalar.minsi v17 c99872_i32_4
  let v19 : BitVec 32 := v18
  let c96800_i32 : BitVec 32 := 96800#32
  let v3 : BitVec 32 := Scalar.minsi v2 c96800_i32
  let v4 : BitVec 32 := v3
  let v89 : BitVec 32 := Scalar.subi v19 v4
  v89
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c512_i32 : BitVec 32 := 512#32
  let v20 : BitVec 32 := Scalar.addi v2 c512_i32
  let c99872_i32_5 : BitVec 32 := 99872#32
  let v21 : BitVec 32 := Scalar.minsi v20 c99872_i32_5
  let v22 : BitVec 32 := v21
  let c96800_i32 : BitVec 32 := 96800#32
  let v3 : BitVec 32 := Scalar.minsi v2 c96800_i32
  let v4 : BitVec 32 := v3
  let v91 : BitVec 32 := Scalar.subi v22 v4
  v91
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c640_i32 : BitVec 32 := 640#32
  let v23 : BitVec 32 := Scalar.addi v2 c640_i32
  let c99872_i32_6 : BitVec 32 := 99872#32
  let v24 : BitVec 32 := Scalar.minsi v23 c99872_i32_6
  let v25 : BitVec 32 := v24
  let c96800_i32 : BitVec 32 := 96800#32
  let v3 : BitVec 32 := Scalar.minsi v2 c96800_i32
  let v4 : BitVec 32 := v3
  let v93 : BitVec 32 := Scalar.subi v25 v4
  v93
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c768_i32 : BitVec 32 := 768#32
  let v26 : BitVec 32 := Scalar.addi v2 c768_i32
  let c99872_i32_7 : BitVec 32 := 99872#32
  let v27 : BitVec 32 := Scalar.minsi v26 c99872_i32_7
  let v28 : BitVec 32 := v27
  let c96800_i32 : BitVec 32 := 96800#32
  let v3 : BitVec 32 := Scalar.minsi v2 c96800_i32
  let v4 : BitVec 32 := v3
  let v95 : BitVec 32 := Scalar.subi v28 v4
  v95
def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c896_i32 : BitVec 32 := 896#32
  let v29 : BitVec 32 := Scalar.addi v2 c896_i32
  let c99872_i32_8 : BitVec 32 := 99872#32
  let v30 : BitVec 32 := Scalar.minsi v29 c99872_i32_8
  let v31 : BitVec 32 := v30
  let c96800_i32 : BitVec 32 := 96800#32
  let v3 : BitVec 32 := Scalar.minsi v2 c96800_i32
  let v4 : BitVec 32 := v3
  let v97 : BitVec 32 := Scalar.subi v31 v4
  v97
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1024_i32 : BitVec 32 := 1024#32
  let v32 : BitVec 32 := Scalar.addi v2 c1024_i32
  let c99872_i32_9 : BitVec 32 := 99872#32
  let v33 : BitVec 32 := Scalar.minsi v32 c99872_i32_9
  let v34 : BitVec 32 := v33
  let c96800_i32 : BitVec 32 := 96800#32
  let v3 : BitVec 32 := Scalar.minsi v2 c96800_i32
  let v4 : BitVec 32 := v3
  let v99 : BitVec 32 := Scalar.subi v34 v4
  v99
def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1152_i32 : BitVec 32 := 1152#32
  let v35 : BitVec 32 := Scalar.addi v2 c1152_i32
  let c99872_i32_10 : BitVec 32 := 99872#32
  let v36 : BitVec 32 := Scalar.minsi v35 c99872_i32_10
  let v37 : BitVec 32 := v36
  let c96800_i32 : BitVec 32 := 96800#32
  let v3 : BitVec 32 := Scalar.minsi v2 c96800_i32
  let v4 : BitVec 32 := v3
  let v101 : BitVec 32 := Scalar.subi v37 v4
  v101
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1280_i32 : BitVec 32 := 1280#32
  let v38 : BitVec 32 := Scalar.addi v2 c1280_i32
  let c99872_i32_11 : BitVec 32 := 99872#32
  let v39 : BitVec 32 := Scalar.minsi v38 c99872_i32_11
  let v40 : BitVec 32 := v39
  let c96800_i32 : BitVec 32 := 96800#32
  let v3 : BitVec 32 := Scalar.minsi v2 c96800_i32
  let v4 : BitVec 32 := v3
  let v103 : BitVec 32 := Scalar.subi v40 v4
  v103
def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1408_i32 : BitVec 32 := 1408#32
  let v41 : BitVec 32 := Scalar.addi v2 c1408_i32
  let c99872_i32_12 : BitVec 32 := 99872#32
  let v42 : BitVec 32 := Scalar.minsi v41 c99872_i32_12
  let v43 : BitVec 32 := v42
  let c96800_i32 : BitVec 32 := 96800#32
  let v3 : BitVec 32 := Scalar.minsi v2 c96800_i32
  let v4 : BitVec 32 := v3
  let v105 : BitVec 32 := Scalar.subi v43 v4
  v105
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1536_i32 : BitVec 32 := 1536#32
  let v44 : BitVec 32 := Scalar.addi v2 c1536_i32
  let c99872_i32_13 : BitVec 32 := 99872#32
  let v45 : BitVec 32 := Scalar.minsi v44 c99872_i32_13
  let v46 : BitVec 32 := v45
  let c96800_i32 : BitVec 32 := 96800#32
  let v3 : BitVec 32 := Scalar.minsi v2 c96800_i32
  let v4 : BitVec 32 := v3
  let v107 : BitVec 32 := Scalar.subi v46 v4
  v107
def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1664_i32 : BitVec 32 := 1664#32
  let v47 : BitVec 32 := Scalar.addi v2 c1664_i32
  let c99872_i32_14 : BitVec 32 := 99872#32
  let v48 : BitVec 32 := Scalar.minsi v47 c99872_i32_14
  let v49 : BitVec 32 := v48
  let c96800_i32 : BitVec 32 := 96800#32
  let v3 : BitVec 32 := Scalar.minsi v2 c96800_i32
  let v4 : BitVec 32 := v3
  let v109 : BitVec 32 := Scalar.subi v49 v4
  v109
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1792_i32 : BitVec 32 := 1792#32
  let v50 : BitVec 32 := Scalar.addi v2 c1792_i32
  let c99872_i32_15 : BitVec 32 := 99872#32
  let v51 : BitVec 32 := Scalar.minsi v50 c99872_i32_15
  let v52 : BitVec 32 := v51
  let c96800_i32 : BitVec 32 := 96800#32
  let v3 : BitVec 32 := Scalar.minsi v2 c96800_i32
  let v4 : BitVec 32 := v3
  let v111 : BitVec 32 := Scalar.subi v52 v4
  v111
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c1920_i32 : BitVec 32 := 1920#32
  let v53 : BitVec 32 := Scalar.addi v2 c1920_i32
  let c99872_i32_16 : BitVec 32 := 99872#32
  let v54 : BitVec 32 := Scalar.minsi v53 c99872_i32_16
  let v55 : BitVec 32 := v54
  let c96800_i32 : BitVec 32 := 96800#32
  let v3 : BitVec 32 := Scalar.minsi v2 c96800_i32
  let v4 : BitVec 32 := v3
  let v113 : BitVec 32 := Scalar.subi v55 v4
  v113
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2048_i32 : BitVec 32 := 2048#32
  let v56 : BitVec 32 := Scalar.addi v2 c2048_i32
  let c99872_i32_17 : BitVec 32 := 99872#32
  let v57 : BitVec 32 := Scalar.minsi v56 c99872_i32_17
  let v58 : BitVec 32 := v57
  let c96800_i32 : BitVec 32 := 96800#32
  let v3 : BitVec 32 := Scalar.minsi v2 c96800_i32
  let v4 : BitVec 32 := v3
  let v115 : BitVec 32 := Scalar.subi v58 v4
  v115
def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2176_i32 : BitVec 32 := 2176#32
  let v59 : BitVec 32 := Scalar.addi v2 c2176_i32
  let c99872_i32_18 : BitVec 32 := 99872#32
  let v60 : BitVec 32 := Scalar.minsi v59 c99872_i32_18
  let v61 : BitVec 32 := v60
  let c96800_i32 : BitVec 32 := 96800#32
  let v3 : BitVec 32 := Scalar.minsi v2 c96800_i32
  let v4 : BitVec 32 := v3
  let v117 : BitVec 32 := Scalar.subi v61 v4
  v117
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2304_i32 : BitVec 32 := 2304#32
  let v62 : BitVec 32 := Scalar.addi v2 c2304_i32
  let c99872_i32_19 : BitVec 32 := 99872#32
  let v63 : BitVec 32 := Scalar.minsi v62 c99872_i32_19
  let v64 : BitVec 32 := v63
  let c96800_i32 : BitVec 32 := 96800#32
  let v3 : BitVec 32 := Scalar.minsi v2 c96800_i32
  let v4 : BitVec 32 := v3
  let v119 : BitVec 32 := Scalar.subi v64 v4
  v119
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2432_i32 : BitVec 32 := 2432#32
  let v65 : BitVec 32 := Scalar.addi v2 c2432_i32
  let c99872_i32_20 : BitVec 32 := 99872#32
  let v66 : BitVec 32 := Scalar.minsi v65 c99872_i32_20
  let v67 : BitVec 32 := v66
  let c96800_i32 : BitVec 32 := 96800#32
  let v3 : BitVec 32 := Scalar.minsi v2 c96800_i32
  let v4 : BitVec 32 := v3
  let v121 : BitVec 32 := Scalar.subi v67 v4
  v121
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2560_i32 : BitVec 32 := 2560#32
  let v68 : BitVec 32 := Scalar.addi v2 c2560_i32
  let c99872_i32_21 : BitVec 32 := 99872#32
  let v69 : BitVec 32 := Scalar.minsi v68 c99872_i32_21
  let v70 : BitVec 32 := v69
  let c96800_i32 : BitVec 32 := 96800#32
  let v3 : BitVec 32 := Scalar.minsi v2 c96800_i32
  let v4 : BitVec 32 := v3
  let v123 : BitVec 32 := Scalar.subi v70 v4
  v123
def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2688_i32 : BitVec 32 := 2688#32
  let v71 : BitVec 32 := Scalar.addi v2 c2688_i32
  let c99872_i32_22 : BitVec 32 := 99872#32
  let v72 : BitVec 32 := Scalar.minsi v71 c99872_i32_22
  let v73 : BitVec 32 := v72
  let c96800_i32 : BitVec 32 := 96800#32
  let v3 : BitVec 32 := Scalar.minsi v2 c96800_i32
  let v4 : BitVec 32 := v3
  let v125 : BitVec 32 := Scalar.subi v73 v4
  v125
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2816_i32 : BitVec 32 := 2816#32
  let v74 : BitVec 32 := Scalar.addi v2 c2816_i32
  let c99872_i32_23 : BitVec 32 := 99872#32
  let v75 : BitVec 32 := Scalar.minsi v74 c99872_i32_23
  let v76 : BitVec 32 := v75
  let c96800_i32 : BitVec 32 := 96800#32
  let v3 : BitVec 32 := Scalar.minsi v2 c96800_i32
  let v4 : BitVec 32 := v3
  let v127 : BitVec 32 := Scalar.subi v76 v4
  v127
def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2944_i32 : BitVec 32 := 2944#32
  let v77 : BitVec 32 := Scalar.addi v2 c2944_i32
  let c99872_i32_24 : BitVec 32 := 99872#32
  let v78 : BitVec 32 := Scalar.minsi v77 c99872_i32_24
  let v79 : BitVec 32 := v78
  let c96800_i32 : BitVec 32 := 96800#32
  let v3 : BitVec 32 := Scalar.minsi v2 c96800_i32
  let v4 : BitVec 32 := v3
  let v129 : BitVec 32 := Scalar.subi v79 v4
  v129
def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v80 : BitVec 32 := Scalar.addi v2 c3072_i32
  let c99872_i32_25 : BitVec 32 := 99872#32
  let v81 : BitVec 32 := Scalar.minsi v80 c99872_i32_25
  let v82 : BitVec 32 := v81
  let c96800_i32 : BitVec 32 := 96800#32
  let v3 : BitVec 32 := Scalar.minsi v2 c96800_i32
  let v4 : BitVec 32 := v3
  let v131 : BitVec 32 := Scalar.subi v82 v4
  v131
def k0_off2 (i : grid0.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v8 : BitVec 32 := Scalar.addi v2 c0_i32_1
  let c99872_i32 : BitVec 32 := 99872#32
  let v9 : BitVec 32 := Scalar.minsi v8 c99872_i32
  let v10 : BitVec 32 := v9
  let c96800_i32 : BitVec 32 := 96800#32
  let v3 : BitVec 32 := Scalar.minsi v2 c96800_i32
  let v4 : BitVec 32 := v3
  let v83 : BitVec 32 := Scalar.subi v10 v4
  let v84 : BitVec 32 := v83
  ![v84.toNat]
def k0_off3 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v8 : BitVec 32 := Scalar.addi v2 c0_i32_1
  let c99872_i32 : BitVec 32 := 99872#32
  let v9 : BitVec 32 := Scalar.minsi v8 c99872_i32
  let v10 : BitVec 32 := v9
  let c0_i32_68 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S256x128 : Shape := ⟨2, ![256, 128]⟩
abbrev S100000 : Shape := ⟨1, ![100000]⟩
abbrev S_ : Shape := ⟨0, ![]⟩
abbrev S100000x1 : Shape := ⟨2, ![100000, 1]⟩
abbrev S100000x128 : Shape := ⟨2, ![100000, 128]⟩

abbrev nBuf : Space → Nat
  | .hbm => 11
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S100000, .i32⟩
  | .hbm, ⟨2, _⟩ => ⟨S_, .i32⟩
  | .hbm, ⟨3, _⟩ => ⟨S100000, .i32⟩
  | .hbm, ⟨4, _⟩ => ⟨S100000, .i1⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S100000x1, .i32⟩
  | .hbm, ⟨10, _⟩ => ⟨S100000x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Pool.lean ====
abbrev S100000x128 : Shape := ⟨2, ![100000, 128]⟩
abbrev S2x100000 : Shape := ⟨2, ![2, 100000]⟩
abbrev S100000 : Shape := ⟨1, ![100000]⟩
abbrev S128x128 : Shape := ⟨2, ![128, 128]⟩
abbrev S128 : Shape := ⟨1, ![128]⟩
abbrev S100000x1 : Shape := ⟨2, ![100000, 1]⟩
abbrev S100 : Shape := ⟨1, ![100]⟩
abbrev S1x128 : Shape := ⟨2, ![1, 128]⟩
abbrev S256x128 : Shape := ⟨2, ![256, 128]⟩
abbrev S1000x1 : Shape := ⟨2, ![1000, 1]⟩
abbrev S2x1000x128 : Shape := ⟨3, ![2, 1000, 128]⟩
abbrev S1000x128 : Shape := ⟨2, ![1000, 128]⟩
abbrev S8x128 : Shape := ⟨2, ![8, 128]⟩
abbrev S2x4 : Shape := ⟨2, ![2, 4]⟩
abbrev S1x1 : Shape := ⟨2, ![1, 1]⟩
abbrev S_ : Shape := ⟨0, ![]⟩
abbrev S1x250x128 : Shape := ⟨3, ![1, 250, 128]⟩
abbrev S250x128 : Shape := ⟨2, ![250, 128]⟩
abbrev S1 : Shape := ⟨1, ![1]⟩
abbrev S1x200x128 : Shape := ⟨3, ![1, 200, 128]⟩
abbrev S200x128 : Shape := ⟨2, ![200, 128]⟩
abbrev S25x8x128 : Shape := ⟨3, ![25, 8, 128]⟩
abbrev S200x1 : Shape := ⟨2, ![200, 1]⟩

abbrev nBuf : Space → Nat
  | .hbm => 14
  | .vmem => 12
  | .smem => 2
  | _ => 0

abbrev bufTy : (tb : Table) → Fin (tcTables nBuf tb) → BufTy
  | .hbm, ⟨0, _⟩ => ⟨S100000x128, .f32⟩
  | .hbm, ⟨1, _⟩ => ⟨S2x100000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x1, .i32⟩
  | .hbm, ⟨8, _⟩ => ⟨S100, .i32⟩
  | .hbm, ⟨9, _⟩ => ⟨S100, .i32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S256x128, .f32⟩
  | .local _ .vmem, ⟨0, _⟩ => ⟨S128x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1000x1, .i32⟩
  | .local _ .vmem, ⟨5, _⟩ => ⟨S1000x1, .i32⟩
  | .local _ .vmem, ⟨6, _⟩ => ⟨S256x128, .f32⟩
  | .local _ .vmem, ⟨7, _⟩ => ⟨S2x1000x128, .f32⟩
  | .local _ .vmem, ⟨8, _⟩ => ⟨S256x128, .f32⟩
  | .local _ .vmem, ⟨9, _⟩ => ⟨S1000x128, .f32⟩
  | .local _ .vmem, ⟨10, _⟩ => ⟨S8x128, .f32⟩
  | .local _ .vmem, ⟨11, _⟩ => ⟨S8x128, .f32⟩
  | .local _ .smem, ⟨0, _⟩ => ⟨S100, .i32⟩
  | .local _ .smem, ⟨1, _⟩ => ⟨S100, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c100_i32 : BitVec 32 := 100#32
  let v4 : BitVec 1 := Scalar.cmpi .slt v3 c100_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c0_i32_181 : BitVec 32 := 0#32
  ![v426.toNat, 0]
def k0_off2 (i : grid0.Coords) : Fin 3 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c0_i32_182 : BitVec 32 := 0#32
  let c0_i32_183 : BitVec 32 := 0#32
  ![v426.toNat, 0, 0]
def k0_off3 (i : grid0.Coords) (c0_i32_180 : BitVec 32) : Fin 2 → Nat :=
  let arg0 : BitVec 32 := BitVec.ofNat 32 (i 0).val
  let c1_i32_172 : BitVec 32 := 1#32
  let v416 : BitVec 32 := Scalar.addi arg0 c1_i32_172
  let c1000_i32_179 : BitVec 32 := 1000#32
  let v427 : BitVec 32 := Scalar.muli v416 c1000_i32_179
  let v428 : BitVec 32 := Scalar.addi v427 c0_i32_180
  let c0_i32_184 : BitVec 32 := 0#32
  ![v428.toNat, 0]
def k0_off4 (i : grid0.Coords) : Fin 2 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c1_i32_187 : BitVec 32 := 1#32
  ![v426.toNat, 1]
def k0_off5 (i : grid0.Coords) : Fin 3 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c250_i32_188 : BitVec 32 := 250#32
  let c0_i32_189 : BitVec 32 := 0#32
  ![v426.toNat, 250, 0]
def k0_off6 (i : grid0.Coords) : Fin 2 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c2_i32_193 : BitVec 32 := 2#32
  ![v426.toNat, 2]
def k0_off7 (i : grid0.Coords) : Fin 3 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c500_i32_194 : BitVec 32 := 500#32
  let c0_i32_195 : BitVec 32 := 0#32
  ![v426.toNat, 500, 0]
def k0_off8 (i : grid0.Coords) : Fin 2 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c3_i32_199 : BitVec 32 := 3#32
  ![v426.toNat, 3]
def k0_off9 (i : grid0.Coords) : Fin 3 → Nat :=
  let arg0 : BitVec 32 := BitVec.ofNat 32 (i 0).val
  let c1_i32_172 : BitVec 32 := 1#32
  let v416 : BitVec 32 := Scalar.addi arg0 c1_i32_172
  let c2_i32_173 : BitVec 32 := 2#32
  let c0_i32_174 : BitVec 32 := 0#32
  let v417 : BitVec 1 := Scalar.cmpi .eq c2_i32_173 c0_i32_174
  let c1_i32_175 : BitVec 32 := 1#32
  let v418 : BitVec 32 := Scalar.select v417 c1_i32_175 c2_i32_173
  let v419 : BitVec 32 := Scalar.remsi v416 v418
  let c0_i32_177 : BitVec 32 := 0#32
  let v421 : BitVec 1 := Scalar.cmpi .slt v419 c0_i32_177
  let c0_i32_178 : BitVec 32 := 0#32
  let v422 : BitVec 1 := Scalar.cmpi .slt v418 c0_i32_178
  let v423 : BitVec 1 := Scalar.xori v421 v422
  let c0_i32_176 : BitVec 32 := 0#32
  let v420 : BitVec 1 := Scalar.cmpi .ne v419 c0_i32_176
  let v424 : BitVec 1 := Scalar.andi v423 v420
  let v425 : BitVec 32 := Scalar.addi v419 v418
  let v426 : BitVec 32 := Scalar.select v424 v425 v419
  let c750_i32_200 : BitVec 32 := 750#32
  let c0_i32_201 : BitVec 32 := 0#32
  ![v426.toNat, 750, 0]
def k0_off10 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_8 : BitVec 32 := 0#32
  ![v16.toNat, 0]
def k0_off11 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_9 : BitVec 32 := 0#32
  let c0_i32_10 : BitVec 32 := 0#32
  ![v16.toNat, 0, 0]
def k0_off12 (i : grid0.Coords) (c0_i32_7 : BitVec 32) : Fin 2 → Nat :=
  let arg0 : BitVec 32 := BitVec.ofNat 32 (i 0).val
  let c1000_i32 : BitVec 32 := 1000#32
  let v17 : BitVec 32 := Scalar.muli arg0 c1000_i32
  let v18 : BitVec 32 := Scalar.addi v17 c0_i32_7
  let c0_i32_11 : BitVec 32 := 0#32
  ![v18.toNat, 0]
def k0_off13 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_13 : BitVec 32 := 1#32
  ![v16.toNat, 1]
def k0_off14 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c250_i32_14 : BitVec 32 := 250#32
  let c0_i32_15 : BitVec 32 := 0#32
  ![v16.toNat, 250, 0]
def k0_off15 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_18 : BitVec 32 := 2#32
  ![v16.toNat, 2]
def k0_off16 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c500_i32_19 : BitVec 32 := 500#32
  let c0_i32_20 : BitVec 32 := 0#32
  ![v16.toNat, 500, 0]
def k0_off17 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32 : BitVec 32 := 3#32
  ![v16.toNat, 3]
def k0_off18 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c750_i32_23 : BitVec 32 := 750#32
  let c0_i32_24 : BitVec 32 := 0#32
  ![v16.toNat, 750, 0]
def k0_off19 (i : grid0.Coords) : Fin 1 → Nat :=
  let arg0 : BitVec 32 := BitVec.ofNat 32 (i 0).val
  let v58 : Index := Scalar.indexCast arg0
  ![v58.toNat]
def k0_off20 (i : grid0.Coords) : Fin 3 → Nat :=
  let arg0 : BitVec 32 := BitVec.ofNat 32 (i 0).val
  let c2_i32_26 : BitVec 32 := 2#32
  let c0_i32_27 : BitVec 32 := 0#32
  let v45 : BitVec 1 := Scalar.cmpi .eq c2_i32_26 c0_i32_27
  let c1_i32_28 : BitVec 32 := 1#32
  let v46 : BitVec 32 := Scalar.select v45 c1_i32_28 c2_i32_26
  let v47 : BitVec 32 := Scalar.remsi arg0 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let v68 : Index := Scalar.indexCast v54
  let c0_40 : Index := 0#32
  let c0_41 : Index := 0#32
  ![v68.toNat, 0, 0]
def k0_off21 (i : grid0.Coords) : Fin 3 → Nat :=
  let arg0 : BitVec 32 := BitVec.ofNat 32 (i 0).val
  let c2_i32_26 : BitVec 32 := 2#32
  let c0_i32_27 : BitVec 32 := 0#32
  let v45 : BitVec 1 := Scalar.cmpi .eq c2_i32_26 c0_i32_27
  let c1_i32_28 : BitVec 32 := 1#32
  let v46 : BitVec 32 := Scalar.select v45 c1_i32_28 c2_i32_26
  let v47 : BitVec 32 := Scalar.remsi arg0 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let v126 : Index := Scalar.indexCast v54
  let c200 : Index := 200#32
  let c0_61 : Index := 0#32
  ![v126.toNat, 200, 0]
def k0_off22 (i : grid0.Coords) : Fin 3 → Nat :=
  let arg0 : BitVec 32 := BitVec.ofNat 32 (i 0).val
  let c2_i32_26 : BitVec 32 := 2#32
  let c0_i32_27 : BitVec 32 := 0#32
  let v45 : BitVec 1 := Scalar.cmpi .eq c2_i32_26 c0_i32_27
  let c1_i32_28 : BitVec 32 := 1#32
  let v46 : BitVec 32 := Scalar.select v45 c1_i32_28 c2_i32_26
  let v47 : BitVec 32 := Scalar.remsi arg0 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let v184 : Index := Scalar.indexCast v54
  let c400 : Index := 400#32
  let c0_81 : Index := 0#32
  ![v184.toNat, 400, 0]
def k0_off23 (i : grid0.Coords) : Fin 3 → Nat :=
  let arg0 : BitVec 32 := BitVec.ofNat 32 (i 0).val
  let c2_i32_26 : BitVec 32 := 2#32
  let c0_i32_27 : BitVec 32 := 0#32
  let v45 : BitVec 1 := Scalar.cmpi .eq c2_i32_26 c0_i32_27
  let c1_i32_28 : BitVec 32 := 1#32
  let v46 : BitVec 32 := Scalar.select v45 c1_i32_28 c2_i32_26
  let v47 : BitVec 32 := Scalar.remsi arg0 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let v242 : Index := Scalar.indexCast v54
  let c600 : Index := 600#32
  let c0_101 : Index := 0#32
  ![v242.toNat, 600, 0]
def k0_off24 (i : grid0.Coords) : Fin 3 → Nat :=
  let arg0 : BitVec 32 := BitVec.ofNat 32 (i 0).val
  let c2_i32_26 : BitVec 32 := 2#32
  let c0_i32_27 : BitVec 32 := 0#32
  let v45 : BitVec 1 := Scalar.cmpi .eq c2_i32_26 c0_i32_27
  let c1_i32_28 : BitVec 32 := 1#32
  let v46 : BitVec 32 := Scalar.select v45 c1_i32_28 c2_i32_26
  let v47 : BitVec 32 := Scalar.remsi arg0 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let v300 : Index := Scalar.indexCast v54
  let c800 : Index := 800#32
  let c0_121 : Index := 0#32
  ![v300.toNat, 800, 0]
def k0_off25 (v59 : BitVec 32) (c0_i32_149 : BitVec 32) : Fin 2 → Nat :=
  let v368 : BitVec 32 := Scalar.addi v59 c0_i32_149
  let c255_i32 : BitVec 32 := 255#32
  let v369 : BitVec 32 := Scalar.minsi v368 c255_i32
  let v370 : Index := Scalar.indexCast v369
  let c0_150 : Index := 0#32
  ![v370.toNat, 0]

def k0_chk1 (v59 : BitVec 32) : Prop :=
  (∀ (r : Fin 4), ∀ a, (k0_off25 v59 (BitVec.ofNat 32 r.val)) a + S1x128.size a ≤ S256x128.size a)
theorem k0_off25_inb : ∀ (v59 : BitVec 32) (k0_hw1 : k0_chk1 v59), ∀ (r : Fin 4), ∀ a, (k0_off25 v59 (BitVec.ofNat 32 r.val)) a + S1x128.size a ≤ S256x128.size a := fun v59 k0_hw1 r => k0_hw1 r

@[reducible] def k0_t1_loop (v59 : BitVec 32) (v61 : BitVec 32) : Scf.Loop 32 :=
  let c4_i32 : BitVec 32 := 4#32
  let v406 : BitVec 32 := Scalar.addi v59 c4_i32
  let c1_i32_166 : BitVec 32 := 1#32
  let v407 : BitVec 32 := Scalar.addi v61 c1_i32_166
  let v408 : BitVec 32 := Scalar.subi v407 v406
  let c1_i32_168 : BitVec 32 := 1#32
  let v410 : BitVec 32 := Scalar.divsi v408 c1_i32_168
  let v411 : BitVec 32 := Scalar.muli v410 c1_i32_168
  let v412 : BitVec 32 := Scalar.addi v406 v411
  let c1_i32_169 : BitVec 32 := 1#32
  ⟨v406, v412, c1_i32_169⟩

def k0_off26 (v59 : BitVec 32) (v61 : BitVec 32) (k0_t1 : Fin (k0_t1_loop v59 v61).trips) : Fin 2 → Nat :=
  let c4_i32 : BitVec 32 := 4#32
  let v406 : BitVec 32 := Scalar.addi v59 c4_i32
  let c1_i32_169 : BitVec 32 := 1#32
  let arg16 : BitVec 32 := Scf.iv v406 c1_i32_169 k0_t1
  let v425 : Index := Scalar.indexCast arg16
  let c0_176 : Index := 0#32
  ![v425.toNat, 0]
@[reducible] def k0_t2_loop (v59 : BitVec 32) (v61 : BitVec 32) : Scf.Loop 32 :=
  let c4_i32 : BitVec 32 := 4#32
  let v406 : BitVec 32 := Scalar.addi v59 c4_i32
  let c1_i32_166 : BitVec 32 := 1#32
  let v407 : BitVec 32 := Scalar.addi v61 c1_i32_166
  let v408 : BitVec 32 := Scalar.subi v407 v406
  let c1_i32_168 : BitVec 32 := 1#32
  let v410 : BitVec 32 := Scalar.divsi v408 c1_i32_168
  let v411 : BitVec 32 := Scalar.muli v410 c1_i32_168
  let v412 : BitVec 32 := Scalar.addi v406 v411
  let v409 : BitVec 32 := Scalar.addi v406 v408
  let c1_i32_170 : BitVec 32 := 1#32
  ⟨v412, v409, c1_i32_170⟩
def k0_off27 (v59 : BitVec 32) (v61 : BitVec 32) (k0_t2 : Fin (k0_t2_loop v59 v61).trips) : Fin 2 → Nat :=
  let c4_i32 : BitVec 32 := 4#32
  let v406 : BitVec 32 := Scalar.addi v59 c4_i32
  let c1_i32_166 : BitVec 32 := 1#32
  let v407 : BitVec 32 := Scalar.addi v61 c1_i32_166
  let v408 : BitVec 32 := Scalar.subi v407 v406
  let c1_i32_168 : BitVec 32 := 1#32
  let v410 : BitVec 32 := Scalar.divsi v408 c1_i32_168
  let v411 : BitVec 32 := Scalar.muli v410 c1_i32_168
  let v412 : BitVec 32 := Scalar.addi v406 v411
  let c1_i32_170 : BitVec 32 := 1#32
  let arg16 : BitVec 32 := Scf.iv v412 c1_i32_170 k0_t2
  let v425 : Index := Scalar.indexCast arg16
  let c0_176 : Index := 0#32
  ![v425.toNat, 0]

def k0_chk2 (v59 : BitVec 32) (v61 : BitVec 32) : Prop :=
  ((k0_t1_loop v59 v61).OK) ∧
  (∀ k0_t1 : Fin (k0_t1_loop v59 v61).trips, ∀ a, (k0_off26 v59 v61 k0_t1) a + S1x128.size a ≤ S256x128.size a) ∧
  ((k0_t2_loop v59 v61).OK) ∧
  (∀ k0_t2 : Fin (k0_t2_loop v59 v61).trips, ∀ a, (k0_off27 v59 v61 k0_t2) a + S1x128.size a ≤ S256x128.size a)
theorem k0_t1_ok : ∀ (v59 : BitVec 32) (v61 : BitVec 32) (k0_hw2 : k0_chk2 v59 v61), (k0_t1_loop v59 v61).OK := fun v59 v61 k0_hw2 => k0_hw2.1
theorem k0_off26_inb : ∀ (v59 : BitVec 32) (v61 : BitVec 32) (k0_hw2 : k0_chk2 v59 v61) (k0_t1 : Fin (k0_t1_loop v59 v61).trips), ∀ a, (k0_off26 v59 v61 k0_t1) a + S1x128.size a ≤ S256x128.size a := fun v59 v61 k0_hw2 k0_t1 => k0_hw2.2.1 k0_t1
theorem k0_t2_ok : ∀ (v59 : BitVec 32) (v61 : BitVec 32) (k0_hw2 : k0_chk2 v59 v61), (k0_t2_loop v59 v61).OK := fun v59 v61 k0_hw2 => k0_hw2.2.2.1
theorem k0_off27_inb : ∀ (v59 : BitVec 32) (v61 : BitVec 32) (k0_hw2 : k0_chk2 v59 v61) (k0_t2 : Fin (k0_t2_loop v59 v61).trips), ∀ a, (k0_off27 v59 v61 k0_t2) a + S1x128.size a ≤ S256x128.size a := fun v59 v61 k0_hw2 k0_t2 => k0_hw2.2.2.2 k0_t2

def k0_cond3 (i : grid0.Coords) : BitVec 1 :=
  let arg0 : BitVec 32 := BitVec.ofNat 32 (i 0).val
  let c99_i32 : BitVec 32 := 99#32
  let v413 : BitVec 1 := Scalar.cmpi .eq arg0 c99_i32
  let v414 : BitVec 32 := Scalar.extui v413
  let c0_i32_171 : BitVec 32 := 0#32
  let v415 : BitVec 1 := Scalar.cmpi .ne v414 c0_i32_171
  v415

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S100 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S100 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolIdeal.lean ====
variable {F : FTy → Type} [FloatOps F] [Named F]
def κ : String → Option EReal := fun
  | "one_e5" => some ((1 / 100000 : ℝ) : EReal)
  | _ => none
-- ==== PoolReferenceIdeal.lean ====
abbrev S100000x128 : Shape := ⟨2, ![100000, 128]⟩
abbrev S2x100000 : Shape := ⟨2, ![2, 100000]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x100000x1 : Shape := ⟨3, ![1, 100000, 1]⟩
abbrev S256 : Shape := ⟨1, ![256]⟩
abbrev S256x1x1 : Shape := ⟨3, ![256, 1, 1]⟩
abbrev S256x100000x1 : Shape := ⟨3, ![256, 100000, 1]⟩
abbrev S1x100000x128 : Shape := ⟨3, ![1, 100000, 128]⟩
abbrev S256x100000x128 : Shape := ⟨3, ![256, 100000, 128]⟩
abbrev S256x128 : Shape := ⟨2, ![256, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x100000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S1x100000x1, .i32⟩
  | .hbm, ⟨51, _⟩ => ⟨S256, .i32⟩
  | .hbm, ⟨52, _⟩ => ⟨S256x1x1, .i32⟩
  | .hbm, ⟨53, _⟩ => ⟨S256x100000x1, .i32⟩
  | .hbm, ⟨54, _⟩ => ⟨S256x100000x1, .i32⟩
  | .hbm, ⟨55, _⟩ => ⟨S256x100000x1, .i1⟩
  | .hbm, ⟨56, _⟩ => ⟨S1x100000x128, .f32⟩
  | .hbm, ⟨57, _⟩ => ⟨S_, .f32⟩
  | .hbm, ⟨58, _⟩ => ⟨S_, .f32⟩
  | .hbm, ⟨59, _⟩ => ⟨S256x100000x128, .i1⟩
  | .hbm, ⟨60, _⟩ => ⟨S256x100000x128, .f32⟩
  | .hbm, ⟨61, _⟩ => ⟨S256x100000x128, .f32⟩
  | .hbm, ⟨62, _⟩ => ⟨S256x100000x128, .f32⟩
  | .hbm, ⟨63, _⟩ => ⟨S_, .f32⟩
  | .hbm, ⟨64, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩

abbrev nD : Nat := 1
abbrev τ : Topo := Topo.v7x

variable {F : FTy → Type} [FloatOps F]

def κ : String → Option EReal := fun
  | "one_e5" => some ((1 / 100000 : ℝ) : EReal)
  | _ => none
-- ==== Proof.Steps.lean ====
/-
  The task of one vector subcore of the expansion, written as a loop over the 25 chunks of its rows.

  The printed task is a straight line of about 1700 statements. Here it is the staging of the pooled array by tile 0,
  the barrier, the copy of the tile's indices and then, for each chunk, the four operations on it — the gather of its
  rows, the wait for it, the write of the rows to the result and the wait for that — in the order the kernel runs them,
  each a function of the chunk's number. `expand_eq` says that the printed task is this program.
-/
module

public import proofs.«01_k».proof.Proof.Gen.Kernel
public import proofs.«01_k».proof.Proof.Gen.Kernel.Skeleton

@[expose] public section

noncomputable section

namespace Cert.Proof.Expand

open Cert.Kernel Cert.Kernel.Gen
open Idealize.ShloMosaic Idealize.SL.Sem

variable {F : FTy → Type}

/-- A task's programs: those of the vector subcore at the coordinates `L` of the call's grid. -/
abbrev TaskProg (F : FTy → Type) (L : grid0.Coords) : Type 1 :=
  Prog (TpuEff nD τ sig (Elt F) Λ₀ (.scVector ((L 0).castLE hcore0) ((L 1).castLE hsub0))) PUnit

/-! ## The buffers, and the parts of them a chunk uses -/

abbrev pooledV : Memref sig .scVector .hbm S256x128 .f32 := Memref.whole main_arg0_scv
abbrev batchV : Memref sig .scVector .hbm S100000 .i32 := Memref.whole main_arg1_scv
abbrev outV : Memref sig .scVector .hbm S100000x128 .f32 := Memref.whole main_v0_scv
abbrev idxV : Memref sig .scVector .vmem S3200 .i32 := Memref.whole cc0_scratch0
abbrev rowsV : Memref sig .scVector .vmem S6x128x128 .f32 := Memref.whole cc0_scratch1
abbrev sharedV : Memref sig .scVector .shared S256x128 .f32 := Memref.whole cc0_scratch2

/-- The ring's slot of a chunk. -/
abbrev slot (j : Fin 25) : Fin 6 := ⟨j.val % 6, Nat.mod_lt _ (by decide)⟩

theorem inb_slot (s : Fin 6) : ∀ a, (![s.val, 0, 0] : Fin 3 → Nat) a + S1x128x128.size a ≤ S6x128x128.size a := by
  revert s; decide
theorem inb_sem (s : Fin 6) : ∀ a, (![s.val] : Fin 1 → Nat) a + S1.size a ≤ S6.size a := by revert s; decide

/-- The row buffer of a slot. -/
abbrev rowBuf (s : Fin 6) : Memref sig .scVector .vmem S128x128 .f32 :=
  (rowsV.slice (Rect.unit (s := S6x128x128) ![s.val, 0, 0] S1x128x128.size (inb_slot s)) (fun _ => rfl)).squeeze S128x128
    squeezes_S1x128x128_S128x128
/-- A slot's semaphore for gathers, and its semaphore for writes. -/
abbrev semG (s : Fin 6) : DmaSem sig :=
  ((cc0_scratch3.slice (Rect.unit (s := S6) ![s.val] S1.size (inb_sem s))).squeeze S_ squeezes_S1_S_).sem
abbrev semW (s : Fin 6) : DmaSem sig :=
  ((cc0_scratch4.slice (Rect.unit (s := S6) ![s.val] S1.size (inb_sem s))).squeeze S_ squeezes_S1_S_).sem

/-- The shared scratch, as a gather addresses it. -/
abbrev sharedAt : Memref sig .scVector .shared S256x128 .f32 :=
  sharedV.slice (Rect.unit (s := S256x128) ![0, 0] S256x128.size inb_S256x128_S256x128_0_0) (fun _ => rfl)
/-- The indices of all the tile's rows, as the copy addresses them. -/
abbrev batchAt (L : grid0.Coords) : Memref sig .scVector .hbm S3200 .i32 :=
  batchV.slice (Rect.unit (s := S100000) (k0_off1 L) S3200.size (k0_off1_inb L)) (fun _ => rfl)
/-- A chunk's indices in the tile's memory, and its rows of the result. -/
abbrev idxAt (L : grid0.Coords) (j : Fin 25) : Memref sig .scVector .vmem S128 .i32 :=
  idxV.slice (Rect.unit (s := S3200) (k0_off2 L (BitVec.ofNat 32 (128 * j.val))) S128.size (k0_off2_inb L j)) (fun _ => rfl)
abbrev outAt (L : grid0.Coords) (j : Fin 25) : Memref sig .scVector .hbm S128x128 .f32 :=
  outV.slice (Rect.unit (s := S100000x128) (k0_off3 L (BitVec.ofNat 32 (128 * j.val))) S128x128.size (k0_off3_inb L j)) (fun _ => rfl)

/-! ## The operations -/

variable [FloatOps F]

/-- The word that says whether the tile is the one that stages the pooled array. -/
abbrev stagesWord (L : grid0.Coords) : BitVec 1 :=
  Scalar.cmpi .ne (Scalar.extui (Scalar.cmpi .eq (BitVec.ofNat 32 (L 1).val) 0#32)) 0#32

def stage (L : grid0.Coords) : TaskProg F L := do
  Prog.lift (.enqueueDma pooledV (.here sharedV) (.dma cc0_scoped0.sem) (Memref.isWhole_whole _).wordExact
    (Memref.isWhole_whole _).wordExact ⟨Or.inl rfl, trivial⟩)
  Prog.lift (.waitDma2 cc0_scoped0.sem pooledV sharedV (Memref.isWhole_whole _).wordExact (Memref.isWhole_whole _).wordExact)

def copyIdx (L : grid0.Coords) : TaskProg F L := do
  Prog.lift (.enqueueDma (batchAt L) (.here idxV) (.dma cc0_scoped1.sem) (View.wordExact_bits rfl)
    (Memref.isWhole_whole _).wordExact ⟨Or.inl rfl, trivial⟩)
  Prog.lift (.waitDma2 cc0_scoped1.sem (batchAt L) idxV (View.wordExact_bits rfl) (Memref.isWhole_whole _).wordExact)

def gather (L : grid0.Coords) (j : Fin 25) : TaskProg F L :=
  SparseCore.enqueueIndirectGather rfl sharedAt (rowBuf (slot j)) gathers_S256x128_S128x128 (idxAt L j) rfl (semG (slot j))
    (View.wordExact_bits rfl) rfl (Or.inr rfl)
def waitGather (L : grid0.Coords) (j : Fin 25) : TaskProg F L :=
  SparseCore.waitIndirectGather (semG (slot j)) sharedAt (rowBuf (slot j)) (View.wordExact_bits rfl)
    ((View.wordExact_bits rfl).reshape _ _)
def write (L : grid0.Coords) (j : Fin 25) : TaskProg F L :=
  Prog.lift (.enqueueDma (rowBuf (slot j)) (.here (outAt L j)) (.dma (semW (slot j))) ((View.wordExact_bits rfl).reshape _ _)
    (View.wordExact_bits rfl) ⟨Or.inl rfl, trivial⟩)
def waitWrite (L : grid0.Coords) (j : Fin 25) : TaskProg F L :=
  Prog.lift (.waitDma2 (semW (slot j)) (rowBuf (slot j)) (outAt L j) ((View.wordExact_bits rfl).reshape _ _)
    (View.wordExact_bits rfl))

/-! ## The loop -/

/-- Before chunk `j` is written, the gather five chunks on is started, once the write that used its slot is waited for. -/
def ahead (L : grid0.Coords) (j : Fin 25) : TaskProg F L :=
  if h : j.val + 5 < 25 then
    if h' : 1 ≤ j.val then do
      waitWrite L ⟨j.val - 1, by omega⟩
      gather L ⟨j.val + 5, h⟩
    else gather L ⟨j.val + 5, h⟩
  else pure ⟨⟩

def step (L : grid0.Coords) (j : Fin 25) : TaskProg F L := do
  ahead L j
  waitGather L j
  write L j

/-- The last `n` steps. -/
def steps (L : grid0.Coords) : (n : ℕ) → n ≤ 25 → TaskProg F L
  | 0, _ => pure ⟨⟩
  | n + 1, h => do
    step L ⟨24 - n, by omega⟩
    steps L n (by omega)

/-- The waits for the last `n` writes. -/
def drain (L : grid0.Coords) : (n : ℕ) → n ≤ 25 → TaskProg F L
  | 0, _ => pure ⟨⟩
  | n + 1, h => do
    waitWrite L ⟨24 - n, by omega⟩
    drain L n (by omega)

/-- The first gathers. -/
def fill (L : grid0.Coords) : TaskProg F L := do
  gather L 0
  gather L 1
  gather L 2
  gather L 3
  gather L 4

def chunks (L : grid0.Coords) : TaskProg F L := do
  fill L
  steps L 25 le_rfl
  drain L 6 (by decide)

def expand (L : grid0.Coords) : TaskProg F L := do
  if _h : stagesWord L = 1#1 then stage L else pure ⟨⟩
  SparseCore.subcoreBarrier sc_bar0 (grid0.bound 1) hsub0
  copyIdx L
  chunks L

set_option maxRecDepth 65536 in
set_option maxHeartbeats 4000000 in
theorem expand_eq (L : grid0.Coords) :
    cc0_expand (F := F) L pooledV (Memref.isWhole_whole _) batchV (Memref.isWhole_whole _) outV (Memref.isWhole_whole _)
      idxV (Memref.isWhole_whole _) rowsV (Memref.isWhole_whole _) sharedV (Memref.isWhole_whole _)
      cc0_scratch3 cc0_scratch4 cc0_scoped0 cc0_scoped1 = expand L := by
  by_cases h : stagesWord L = 1#1
  · unfold cc0_expand k0_part1 expand
    simp only [h, ↓reduceDIte]
    rfl
  · unfold cc0_expand k0_part1 expand
    simp only [h, ↓reduceDIte]
    rfl

end Cert.Proof.Expand

end
-- ==== Proof.Geometry.lean ====
/-
  The parts of the arrays a chunk uses, in numbers, and the values it moves.

  Tile `L` has the rows from `base L` on, 3200 of them (800 for the last tile, where the array ends). Its chunk `j` is
  the 128 rows from `start L j` on: the chunk's place, or the last 128 rows of the array where that is past them. So the
  last tile's chunks overlap, and are the same rows from some chunk on; every row of the tile is in some chunk.
  `gathered` says that what a chunk's gather brings is the target's rows of that chunk.
-/
module

public import proofs.«01_k».proof.Proof.Steps
public import Idealize.ShloMosaic.Lib.SparseCore.Stream

@[expose] public section

noncomputable section

namespace Cert.Proof.Expand

open Cert.Kernel Cert.Kernel.Gen
open Idealize.ShloMosaic Idealize.SL.Sem

variable {F : FTy → Type}

/-! ## Indices and the target -/

set_option backward.proofsInPublic true in
/-- The entry of the pooled array at a row and a column. -/
def pooledIx (r : Fin 256) (k : Fin 128) : S256x128.Idx :=
  fun | 0 => r | 1 => k | ⟨_ + 2, h⟩ => absurd h (Nat.not_lt.2 (Nat.le_add_left _ _))

set_option backward.proofsInPublic true in
/-- The entry of the batch array at a row. -/
def batchIx (r : Fin 100000) : S100000.Idx :=
  fun | 0 => r | ⟨_ + 1, h⟩ => absurd h (Nat.not_lt.2 (Nat.le_add_left _ _))

/-- What the result is to hold: at each row, the row of `fp` that `fb` names there. -/
def tgt (fp : S256x128.Idx → Elt F .f32) (fb : S100000.Idx → Elt F .i32) (hb : ∀ x, (fb x).toNat < 256) :
    S100000x128.Idx → Elt F .f32 :=
  fun i => fp (pooledIx ⟨(fb (batchIx (i 0))).toNat, hb _⟩ (i 1))

/-! ## The rows of a tile and of its chunks -/

variable (L : grid0.Coords) (j : Fin 25)

theorem lt_core : (L 0).val < 2 := (L 0).isLt
theorem lt_sub : (L 1).val < 16 := (L 1).isLt

/-- The first row of the tile. -/
abbrev base : ℕ := 6400 * (L 1).val + 3200 * (L 0).val
/-- The first row of the chunk. -/
abbrev start : ℕ := min (base L + 128 * j.val) 99872

theorem idx_off : ∀ (L : grid0.Coords) (j : Fin 25),
    k0_off2 L (BitVec.ofNat 32 (128 * j.val)) = ![start L j - min (base L) 96800] := by decide +kernel

/-- The rows of tile `L`, as entries of the result. -/
def tileRows : Finset S100000x128.Idx := Finset.univ.filter fun i => base L ≤ (i 0).val ∧ (i 0).val < base L + 3200

theorem mem_outAt (i : S100000x128.Idx) : i ∈ (outAt L j).view.set ↔ start L j ≤ (i 0).val ∧ (i 0).val < start L j + 128 := by
  rw [show (outAt L j).view.set = (Rect.unit (s := S100000x128) (k0_off3 L (BitVec.ofNat 32 (128 * j.val))) S128x128.size (k0_off3_inb L j)).set from
    View.set_slice_whole _ _, Rect.mem_set_unit, k0_off3_eq]
  constructor
  · intro h; exact h 0
  · intro h a
    match a with
    | 0 => exact h
    | 1 => exact ⟨Nat.zero_le _, (Nat.zero_add 128).symm ▸ (i 1).isLt⟩

theorem outAt_subset : (outAt L j).view.set ⊆ tileRows L := fun i hi => by
  have h := (mem_outAt L j i).mp hi
  have h0 := lt_core L; have h1 := lt_sub L; have hj := j.isLt
  unfold start base at h
  exact Finset.mem_filter.mpr ⟨Finset.mem_univ _, by unfold base; omega, by unfold base; omega⟩

theorem tileRows_cover (i : S100000x128.Idx) (hi : i ∈ tileRows L) : ∃ j : Fin 25, i ∈ (outAt L j).view.set := by
  have h := (Finset.mem_filter.mp hi).2
  have hn : (i 0).val < 100000 := (i 0).isLt
  refine ⟨⟨((i 0).val - base L) / 128, by omega⟩, (mem_outAt L _ i).mpr ?_⟩
  show min (base L + 128 * (((i 0).val - base L) / 128)) 99872 ≤ _ ∧ _ < min (base L + 128 * (((i 0).val - base L) / 128)) 99872 + 128
  omega

/-! ## What a chunk's gather brings -/

variable {L j}

/-- The words a chunk's gather reads are in range. -/
theorem idxAt_lt {fb : S100000.Idx → Elt F .i32} (hb : ∀ x, (fb x).toNat < 256) (x : S128.Idx) :
    ((idxAt L j).view.read (Elt F) ((batchAt L).view.read (Elt F) fb) x).toNat < 256 := hb _

theorem rowMajor_one (k : Fin S128.numel) : (S128.rowMajor.symm k 0).val = k.val := by
  rw [← Shape.rowMajor_val_one (d := S128.size), Equiv.apply_symm_apply]

set_option maxHeartbeats 1000000 in
theorem gathered {fp : S256x128.Idx → Elt F .f32} {fb : S100000.Idx → Elt F .i32} (hb : ∀ x, (fb x).toNat < 256) :
    SparseCore.gatherPayload (F := F) (e := .f32) gathers_S256x128_S128x128 (sharedAt.view.read (Elt F) fp)
        (SparseCore.rows ((idxAt L j).view.read (Elt F) ((batchAt L).view.read (Elt F) fb)) rfl (idxAt_lt hb))
      = (outAt L j).view.read (Elt F) (tgt fp fb hb) := by
  funext x
  show fp (sharedAt.view.emb _) = fp (pooledIx ⟨(fb (batchIx ((outAt L j).view.emb x 0))).toNat, _⟩ ((outAt L j).view.emb x 1))
  have hrow : ((batchAt L).view.emb ((idxAt L j).view.emb (S128.rowMajor.symm (x 0)))) = batchIx ((outAt L j).view.emb x 0) := by
    funext a
    match a with
    | 0 =>
      apply Fin.ext
      refine (congrArg (fun n => k0_off1 L 0 + 1 * (k0_off2 L (BitVec.ofNat 32 (128 * j.val)) 0 + 1 * n)) (rowMajor_one (x 0))).trans ?_
      show _ = k0_off3 L (BitVec.ofNat 32 (128 * j.val)) 0 + 1 * (x 0).val
      rw [k0_off1_eq, idx_off, k0_off3_eq]
      show min (base L) 96800 + 1 * (start L j - min (base L) 96800 + 1 * (x 0).val) = start L j + 1 * (x 0).val
      have h0 := lt_core L; have h1 := lt_sub L
      unfold start base
      omega
  congr 1
  funext a
  match a with
  | 0 =>
    apply Fin.ext
    show 0 + 1 * (gathers_S256x128_S128x128.idx _ x gathers_S256x128_S128x128.axis).val = _
    rw [Shape.Gathers.idx_axis, Nat.zero_add, Nat.one_mul]
    exact congrArg (fun y => (fb y).toNat) hrow
  | 1 =>
    apply Fin.ext
    show 0 + 1 * (gathers_S256x128_S128x128.idx _ x 1).val = k0_off3 L (BitVec.ofNat 32 (128 * j.val)) 1 + 1 * (x 1).val
    rw [Shape.Gathers.idx_of_ne _ _ _ _ (by decide), k0_off3_eq]
    rfl

end Cert.Proof.Expand

end
-- ==== Proof.Resources.lean ====
/-
  The resource algebra of the certificate and what the launch passes between the threads.

  The call's two SparseCores have sixteen tiles each. The TensorCore hands a SparseCore half of the pooled array and of
  the batch array, as shares to read, and its tiles' rows of the result outright. The sequencer hands the half of the
  pooled array and its shared scratch to tile 0, which copies the one into the other; every tile gets its rows of the
  result and a share of the batch array. At the barrier tile 0 hands every tile a share of the shared scratch, which then
  holds the pooled array.

  The last tile's chunks overlap, so several writes of the same rows are under way at once: a tile holds its rows of the
  result in write mode, each with the value it is to have.
-/
module

public import proofs.«01_k».proof.Proof.Geometry
public import Idealize.ShloMosaic.Lib.SparseCore.Quiescent
public import Idealize.ShloMosaic.Lib.SparseCore.Ops
public import Idealize.ShloMosaic.Lib.WriteMode
public import Idealize.ShloMosaic.Lib.Pipeline.Kit
public import Idealize.ShloMosaic.Lib.Tactic

@[expose] public section

noncomputable section

namespace Cert.Proof.Expand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the barrier's rounds, write mode, the transfers' counters -/

abbrev UH : Type := URounds (GSem nD τ sig) ℕ
abbrev UB : Type := URounds (GSem nD τ sig) ℕ
abbrev UW (F : FTy → Type) : Type := WmRA nD τ sig (Elt F)
abbrev UU (F : FTy → Type) : Type := UH × (UB × (UW F × Counters))

local notation "𝕄" => MT nD τ sig (HIx 1) (Elt F) ℕ (UU F) ℕ

/-- The handshakes' part. -/
abbrev EH : Emb UH (MT nD τ sig (HIx 1) (Elt F) ℕ (UU F) ℕ) := embL
/-- The barrier's part, in the algebra of the certificate and in the machine's. -/
abbrev eB : UEmb UB (UU F) := (UEmb.inl : UEmb UB (UB × (UW F × Counters))).trans UEmb.inr
def EB : Emb UB (MT nD τ sig (HIx 1) (Elt F) ℕ (UU F) ℕ) := ((eB (F := F)).trans uEmb).toEmb
instance EB_landsIn : (EB : Emb UB 𝕄).LandsIn (upEmb : UEmb _ 𝕄) := by unfold EB; infer_instance
/-- Write mode's part. -/
abbrev eW : UEmb (UW F) (UU F) :=
  ((UEmb.inl : UEmb (UW F) (UW F × Counters)).trans (UEmb.inr : UEmb _ (UB × (UW F × Counters)))).trans UEmb.inr
/-- The transfers' counters'. -/
abbrev EC : UEmb Counters (MT nD τ sig (HIx 1) (Elt F) ℕ (UU F) ℕ) := countersEmb

/-! ## The arrays and buffers -/

abbrev pooledLoc (d : Dev nD) : Loc nD τ sig := (SparseCore.T d).loc main_arg0
abbrev batchLoc (d : Dev nD) : Loc nD τ sig := (SparseCore.T d).loc main_arg1
abbrev outLoc (d : Dev nD) : Loc nD τ sig := (SparseCore.T d).loc main_v0
/-- SparseCore `c`'s shared scratch, as the sequencer and every tile address it. -/
abbrev sharedRef (c : Fin τ.nSC) : DevRef τ sig := ⟨.shared, ⟨0, by decide⟩, c⟩
abbrev sharedLoc (d : Dev nD) (c : Fin τ.nSC) : Loc nD τ sig := (d, sharedRef c)

theorem nSub_eq : τ.nSub = 16 := rfl
theorem nSC_eq : τ.nSC = 2 := rfl
theorem nSub_zero : (K (F := F)).nSub 0 = 16 := rfl
theorem nCore_zero : (K (F := F)).nCore 0 = 2 := rfl

/-- The SparseCore and the tile of the call's numbers. -/
abbrev coreOf (c : Fin ((K (F := F)).nCore 0)) : Fin τ.nSC := (K (F := F)).core 0 c
abbrev subOf (i : Fin ((K (F := F)).nSub 0)) : Fin τ.nSub := (K (F := F)).sub 0 i

/-- The shares the readers hold: a SparseCore's half of the pooled array and of the batch array, a tile's piece of its
    SparseCore's half of the batch array and of the shared scratch, and a slot's piece of a tile's. -/
abbrev coreShare (c : Fin 2) : PosShare TreeShare := pieceOf fullShare 2 (by decide) c
abbrev tileShare (c : Fin 2) (i : Fin 16) : PosShare TreeShare := pieceOf (coreShare c) 16 (by decide) i
abbrev sharedShare (i : Fin 16) : PosShare TreeShare := pieceOf fullShare 16 (by decide) i

variable (fp : (d : Dev nD) → S256x128.Idx → Elt F .f32) (fb : (d : Dev nD) → S100000.Idx → Elt F .i32)
  (hb : ∀ d x, (fb d x).toNat < 256)

abbrev pooledPts (d : Dev nD) (q : PosShare TreeShare) : sProp 𝕄 := pooledLoc d ↦{q} fp d
abbrev batchPts (d : Dev nD) (q : PosShare TreeShare) : sProp 𝕄 := batchLoc d ↦{q} fb d
abbrev sharedPts (d : Dev nD) (c : Fin τ.nSC) (q : PosShare TreeShare) : sProp 𝕄 := sharedLoc d c ↦{q} fp d

/-- The tile of a SparseCore and a number of it. -/
def coordsV (c : Fin (grid0.bound 0)) (s : Fin (grid0.bound 1)) : grid0.Coords :=
  fun | 0 => c | 1 => s | ⟨_ + 2, h⟩ => absurd h (Nat.not_lt.2 (Nat.le_add_left _ _))
/-- A tile's rows of the result. -/
abbrev rowsOf (c : Fin τ.nSC) (i : Fin τ.nSub) : Finset S100000x128.Idx := tileRows (coordsV c i)

abbrev rowsPts (d : Dev nD) (c : Fin τ.nSC) (i : Fin τ.nSub) (f : S100000x128.Idx → Elt F .f32) : sProp 𝕄 :=
  outLoc d ↦[rowsOf c i]{fullShare} f

/-! ## The barrier -/

/-- Tile `(c, j)`'s barrier semaphore. -/
abbrev bcell (d : Dev nD) (c : Fin τ.nSC) (j : Fin τ.nSub) : GSem nD τ sig := (V d c j, .reg sc_bar0)

theorem sc_bar0_ne_go : (sc_bar0 : Sem sig) ≠ sc_go := by decide

def isBar : GSem nD τ sig → Bool
  | ((_, .scVector _ _), sm) => decide (sm = .reg sc_bar0)
  | _ => false

/-- What the duty of tile `n` in tile `j`'s round hands over: tile 0's, tile `j`'s share of the shared scratch. -/
def bPay (g : GSem nD τ sig) (n : ℕ) : sProp 𝕄 :=
  match g with
  | ((d, .scVector c j), _) => if n = 0 then sharedPts fp d c (sharedShare j) else iprop(emp)
  | _ => iprop(emp)

/-- The barrier's schedule: one round on each tile's semaphore, a unit from every tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay fp g n
  amount_pos _ _ _ _ := Nat.one_pos

instance bRd_payload_storable (g : GSem nD τ sig) (r n : ℕ) : BI.Storable (upEmb : UEmb _ 𝕄) ((bRd fp).payload g r n) := by
  show BI.Storable upEmb (bPay fp g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) :
    (bRd fp).duties (bcell d c j) 0 = (Finset.univ : Finset (Fin τ.nSub)).image Fin.val := by
  simp [bRd, isBar]
theorem bRd_duties_succ (g : GSem nD τ sig) (r : ℕ) (hr : 1 ≤ r) : (bRd fp).duties g r = ∅ :=
  if_neg fun h => absurd h.2 (Nat.ne_of_gt hr)
theorem bRd_mem₀ (d : Dev nD) (c : Fin τ.nSC) (j i : Fin τ.nSub) : i.val ∈ (bRd fp).duties (bcell d c j) 0 := by
  rw [bRd_duties₀]; exact Finset.mem_image_of_mem _ (Finset.mem_univ i)
theorem bRd_expect (d : Dev nD) (c : Fin τ.nSC) (j : Fin τ.nSub) : 0 + grid0.bound 1 = (bRd fp).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on every tile's semaphore of its SparseCore. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What a tile has of the barrier from the launch: every semaphore's invariant and that its round has begun, its own
    place in its round, its token in every tile's round, the credit for its own round's units. -/
def bkit (d : Dev nD) (c : Fin τ.nSC) (i : Fin τ.nSub) : sProp 𝕄 :=
  iprop((∃ κ : GSem nD τ sig → ℕ, bigSep Finset.univ fun j : Fin (grid0.bound 1) =>
      cellInv EB (bRd fp) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What tile `i` of SparseCore `c` takes of tile 0's: the SparseCore's share of the pooled array, the shared scratch. -/
def stagerTakes (d : Dev nD) (c : Fin τ.nSC) (i : Fin τ.nSub) : sProp 𝕄 :=
  if i.val = 0 then iprop(pooledPts fp d (coreShare c) ∗ ∃ f, sharedLoc d c ↦{fullShare} f) else iprop(emp)
/-- What tile `i` brings back of tile 0's. -/
def stagerBrings (d : Dev nD) (c : Fin τ.nSC) (i : Fin τ.nSub) : sProp 𝕄 :=
  if i.val = 0 then pooledPts fp d (coreShare c) else iprop(emp)

instance stagerTakes_storable (d : Dev nD) (c : Fin τ.nSC) (i : Fin τ.nSub) :
    BI.Storable (upEmb : UEmb _ 𝕄) (stagerTakes fp d c i) := by
  unfold stagerTakes; split <;> infer_instance
instance stagerBrings_storable (d : Dev nD) (c : Fin τ.nSC) (i : Fin τ.nSub) :
    BI.Storable (upEmb : UEmb _ 𝕄) (stagerBrings fp d c i) := by
  unfold stagerBrings; split <;> infer_instance

/-- A tile's start, the result's rows at `f`; and its end. -/
abbrev tileIn (d : Dev nD) (c : Fin τ.nSC) (i : Fin τ.nSub) (f : S100000x128.Idx → Elt F .f32) : sProp 𝕄 :=
  iprop(stagerTakes fp d c i ∗ batchPts fb d (tileShare c i) ∗ rowsPts d c i f)
abbrev tileOut (d : Dev nD) (c : Fin τ.nSC) (i : Fin τ.nSub) : sProp 𝕄 :=
  iprop(stagerBrings fp d c i ∗ batchPts fb d (tileShare c i) ∗ rowsPts d c i (tgt (fp d) (fb d) (hb d))
    ∗ sharedPts fp d c (sharedShare i) ∗ semVal (bcell d c i) 0)

/-- A SparseCore's arrays, the result's rows at `f`. -/
abbrev coreArrays (d : Dev nD) (c : Fin τ.nSC) (f : S100000x128.Idx → Elt F .f32) : sProp 𝕄 :=
  iprop(pooledPts fp d (coreShare c) ∗ batchPts fb d (coreShare c) ∗ bigSep Finset.univ fun i : Fin τ.nSub => rowsPts d c i f)
/-- The barrier semaphores of a SparseCore's tiles, at zero. -/
abbrev bars (d : Dev nD) (c : Fin τ.nSC) : sProp 𝕄 := bigSep Finset.univ fun i : Fin τ.nSub => semVal (bcell d c i) 0

variable (fo : (d : Dev nD) → S100000x128.Idx → Elt F .f32)

/-- What each tile's proof has from the launch: its part of the barrier, and write mode's invariant. -/
def kit (d : Dev nD) (c : Fin τ.nSC) (i : Fin τ.nSub) : sProp 𝕄 := iprop(bkit fp d c i ∗ ∃ ιwm, wmInv (eW (F := F)) ιwm)

set_option backward.proofsInPublic true in
/-- The handshakes of the one call, the result holding `fo` before it. -/
def P : (K (F := F)).Pay (nD := nD) (Val := Elt F) (Name := ℕ) (U := UU F) where
  st := fun q d c => match q with | 0 => coreArrays fp fb d (coreOf c) (fo d)
  dn := fun q d c => match q with | 0 => iprop(coreArrays fp fb d (coreOf c) (tgt (fp d) (fb d) (hb d)) ∗ bars d (coreOf c))
  go := fun q d c i => match q with | 0 => tileIn fp fb d (coreOf c) (subOf i) (fo d)
  td := fun q d c i => match q with | 0 => tileOut fp fb hb d (coreOf c) (subOf i)
  x := fun _ thr => match thr with
    | (d, .scVector c i) => kit fp d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := fun q d c i h => by
    obtain rfl : q = 0 := Subsingleton.elim _ _
    exact ⟨rfl, c.isLt, i.isLt⟩

instance P_storable : (P fp fb hb fo).IsStorable where
  st q d c := match q with
    | 0 => (inferInstance : BI.Storable (upEmb : UEmb _ 𝕄) (coreArrays fp fb d (coreOf c) (fo d)))
  dn q d c := match q with
    | 0 => (inferInstance : BI.Storable (upEmb : UEmb _ 𝕄) iprop(coreArrays fp fb d (coreOf c) (tgt (fp d) (fb d) (hb d)) ∗ bars d (coreOf c)))
  go q d c i := match q with
    | 0 => (inferInstance : BI.Storable (upEmb : UEmb _ 𝕄) (tileIn fp fb d (coreOf c) (subOf i) (fo d)))
  td q d c i := match q with
    | 0 => (inferInstance : BI.Storable (upEmb : UEmb _ 𝕄) (tileOut fp fb hb d (coreOf c) (subOf i)))

end Cert.Proof.Expand

end
-- ==== Proof.Slots.lean ====
/-
  A tile's ring of six slots, and the four operations of a chunk.

  A slot owns its row buffer and its two semaphores outright, a share of the shared scratch and of the tile's indices to
  read, and a share of the tile's rows of the result in write mode. A chunk's gather, while under way, has the row buffer
  and the parts of the two read shares that it reads; its write has the row buffer and the write-mode share. Both bring
  back what they took at the wait, so that a slot is again free, with the chunk's rows of the result marked as written.
-/
module

public import proofs.«01_k».proof.Proof.Resources

@[expose] public section

noncomputable section

namespace Cert.Proof.Expand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

/-! ## The tile -/

variable (d : Dev nD) (L : grid0.Coords)

abbrev cV : Fin τ.nSC := (L 0).castLE hcore0
abbrev jV : Fin τ.nSub := (L 1).castLE hsub0
abbrev thr : Thread nD τ := V d (cV L) (jV L)

/-! ## Write mode, shared out -/

section WriteMode

variable {ℓ : Loc nD τ sig} (I : Finset (Idx ℓ)) (f : Buf (Elt F) ℓ) (g : Tgt (Elt F) ℓ)

/-- Elements held in write mode at a share, in two halves: the marks of either. -/
theorem willBeTo_halves (q : PosShare TreeShare) (W₁ W₂ : Finset (Idx ℓ)) :
    (willBeTo (Ix := HIx 1) (Name := ℕ) (Lvl := ℕ) (eW (F := F)) ℓ I q f g (W₁ ∪ W₂) : sProp 𝕄)
      = iprop(willBeTo (eW (F := F)) ℓ I q.left f g W₁ ∗ willBeTo (eW (F := F)) ℓ I q.right f g W₂) := by
  have h := BI.Region.held_share (I := I) (ι := (wmEmb (HIx 1) (Name := ℕ) (Lvl := ℕ) (eW (F := F))).toEmb) (k := ℓ) (PosShare.mem_left_op_right q)
    (z := fun i => RA.Region.WB.mk (f i) (g i) (decide (i ∈ W₁ ∪ W₂)))
    (x := fun i => RA.Region.WB.mk (f i) (g i) (decide (i ∈ W₁))) (y := fun i => RA.Region.WB.mk (f i) (g i) (decide (i ∈ W₂))) fun i _ => by
      rw [show decide (i ∈ W₁ ∪ W₂) = (decide (i ∈ W₁) || decide (i ∈ W₂)) by simp [Finset.mem_union]]
      exact RA.Region.WB.mem_mk_op_mk _ _ _ _
  exact BI.Entails.antisymm h.1 h.2

/-- The same in several pieces: the marks of all the pieces. -/
theorem willBeTo_pieces : ∀ (n : ℕ) (q : PosShare TreeShare) (W : Fin (n + 1) → Finset (Idx ℓ)),
    (willBeTo (Ix := HIx 1) (Name := ℕ) (Lvl := ℕ) (eW (F := F)) ℓ I q f g (Finset.univ.biUnion W) : sProp 𝕄)
      = bigSep Finset.univ fun k : Fin (n + 1) => willBeTo (eW (F := F)) ℓ I (piece q n k) f g (W k)
  | 0, q, W => by
    rw [BI.bigSep_univ_of_subsingleton (0 : Fin 1), show (Finset.univ : Finset (Fin (0 + 1))) = {0} from rfl, Finset.singleton_biUnion]
    rfl
  | n + 1, q, W => by
    rw [bigSep_univ_succ (m := n + 1), show (Finset.univ.biUnion W) = W 0 ∪ Finset.univ.biUnion fun k : Fin (n + 1) => W k.succ by
      ext x; simp only [Finset.mem_biUnion, Finset.mem_univ, true_and, Finset.mem_union, Fin.exists_fin_succ], willBeTo_halves, willBeTo_pieces n]
    rfl

theorem willBeTo_piecesOf {o : ℕ} (ho : 0 < o) (q : PosShare TreeShare) (W : Fin o → Finset (Idx ℓ)) :
    (willBeTo (Ix := HIx 1) (Name := ℕ) (Lvl := ℕ) (eW (F := F)) ℓ I q f g (Finset.univ.biUnion W) : sProp 𝕄)
      = bigSep Finset.univ fun k : Fin o => willBeTo (eW (F := F)) ℓ I (pieceOf q o ho k) f g (W k) := by
  obtain ⟨n, rfl⟩ : ∃ n, o = n + 1 := ⟨o - 1, by omega⟩
  exact willBeTo_pieces I f g n q W

end WriteMode

/-! ## A slot's resources -/

variable (fp : S256x128.Idx → Elt F .f32) (fb : S100000.Idx → Elt F .i32) (hb : ∀ x, (fb x).toNat < 256)
  (fo : S100000x128.Idx → Elt F .f32) (qs : PosShare TreeShare)

/-- The tile's indices, as its copy of them leaves them. -/
abbrev idxs : S3200.Idx → Elt F .i32 := (batchAt L).view.read (Elt F) fb

abbrev sharedPiece (s : Fin 6) : PosShare TreeShare := pieceOf qs 6 (by decide) s
abbrev sixth (s : Fin 6) : PosShare TreeShare := pieceOf fullShare 6 (by decide) s

/-- A slot's row buffer, its semaphores at zero. -/
abbrev bufAt (s : Fin 6) (f : S6x128x128.Idx → Elt F .f32) : sProp 𝕄 :=
  (rowBuf s).view.loc (thr d L) ↦[(rowBuf s).view.set]{fullShare} f
abbrev zeroG (s : Fin 6) : sProp 𝕄 := semVal (thr d L, .dma (semG s)) 0
abbrev zeroW (s : Fin 6) : sProp 𝕄 := semVal (thr d L, .dma (semW s)) 0
/-- A slot's share of the shared scratch, of the tile's indices, and of the tile's rows of the result. -/
abbrev sharedSlot (s : Fin 6) : sProp 𝕄 := sharedAt.view.loc (thr d L) ↦{sharedPiece qs s} fp
abbrev idxSlot (s : Fin 6) : sProp 𝕄 := idxV.view.loc (thr d L) ↦{sixth s} idxs L fb
abbrev outSlot (s : Fin 6) (W : Finset S100000x128.Idx) : sProp 𝕄 :=
  willBeTo (Ix := HIx 1) (Name := ℕ) (Lvl := ℕ) (eW (F := F)) (outV.view.loc (thr d L)) (tileRows L) (sixth s) fo (fun i => some (tgt fp fb hb i)) W

/-- A chunk's rows of the target in its slot's row buffer. -/
def landed (k : Fin 25) : sProp 𝕄 :=
  iprop(∃ f, ⌜(rowBuf (slot k)).view.read (Elt F) f = (outAt L k).view.read (Elt F) (tgt fp fb hb)⌝ ∗ bufAt d L (slot k) f)

instance landed_storable (k : Fin 25) : BI.Storable (upEmb : UEmb _ 𝕄) (landed d L fp fb hb k) := by
  unfold landed; infer_instance

/-- The credit a whole row buffer's transfer is worth. -/
abbrev credit : ℕ := (rowBuf 0).view.dmaCredit

/-- A slot at rest, the rows `W` of the result written through it. -/
def free (s : Fin 6) (W : Finset S100000x128.Idx) : sProp 𝕄 :=
  iprop((∃ f, bufAt d L s f) ∗ zeroG d L s ∗ zeroW d L s ∗ sharedSlot d L fp qs s ∗ idxSlot d L fb s ∗ outSlot d L fp fb hb fo s W)

/-- Chunk `k`'s gather under way. -/
def gathering (k : Fin 25) (W : Finset S100000x128.Idx) : sProp 𝕄 :=
  iprop(Transfers.Flight (EC (F := F)) (thr d L) (.dma (semG (slot k))) (default : HIx 1) credit
      iprop(landed d L fp fb hb k ∗ (sharedAt.view.loc (thr d L) ↦[sharedAt.view.set]{sharedPiece qs (slot k)} fp)
        ∗ ((idxAt L k).view.loc (thr d L) ↦[(idxAt L k).view.set]{sixth (slot k)} idxs L fb))
    ∗ (sharedAt.view.loc (thr d L) ↦[Finset.univ \ sharedAt.view.set]{sharedPiece qs (slot k)} fp)
    ∗ ((idxAt L k).view.loc (thr d L) ↦[Finset.univ \ (idxAt L k).view.set]{sixth (slot k)} idxs L fb)
    ∗ zeroW d L (slot k) ∗ outSlot d L fp fb hb fo (slot k) W)

/-- Chunk `k`'s gather done, its write not begun. -/
def gathered' (k : Fin 25) (W : Finset S100000x128.Idx) : sProp 𝕄 :=
  iprop(landed d L fp fb hb k ∗ zeroG d L (slot k) ∗ zeroW d L (slot k) ∗ sharedSlot d L fp qs (slot k) ∗ idxSlot d L fb (slot k)
    ∗ outSlot d L fp fb hb fo (slot k) W)

/-- Chunk `k`'s write under way. -/
def writing (k : Fin 25) (W : Finset S100000x128.Idx) : sProp 𝕄 :=
  iprop(Transfers.Flight (EC (F := F)) (thr d L) (.dma (semW (slot k))) (default : HIx 1) credit
      iprop(outSlot d L fp fb hb fo (slot k) (W ∪ (outAt L k).view.set) ∗ landed d L fp fb hb k)
    ∗ zeroG d L (slot k) ∗ sharedSlot d L fp qs (slot k) ∗ idxSlot d L fb (slot k))

/-- What the tile owes besides, and what it has waited for: nothing but transfers and the call's own. -/
def owing (O : CellTallies nD τ sig (HIx 1)) (W₀ : Waits sig (HIx 1)) : sProp 𝕄 :=
  iprop(∃ W', ⌜∀ p ∈ W', p ∈ W₀ ∨ p.2 = none ∨ p.2 = some (0 : Fin 1)⌝ ∗ owes (thr d L) O W')

/-! ## The operations -/

variable [FloatOps F] (O : CellTallies nD τ sig (HIx 1)) (W₀ : Waits sig (HIx 1))

local notation "WP" => wp frame (wpE (defs₀ (F := F)) 𝒱₀ (thr d L) none) Set.univ

theorem numel_rows : 0 < S128x128.numel := by decide

/-- The rows of a gather into a slot's row buffer are worth that credit together. -/
theorem rowCredits (s : Fin 6) : ∑ j, ((rowBuf s).slice (S128x128.rowRect gathers_S256x128_S128x128.axis' j)
    (S128x128.stride_rowRect gathers_S256x128_S128x128.axis' j)).view.dmaCredit = credit :=
  SparseCore.sum_rowCredit_eq_dmaCredit (rowBuf s) _ (fun _ => rfl)

theorem creditG (s : Fin 6) : (rowBuf s).view.dmaCredit = credit := rfl
theorem creditW (k : Fin 25) : (outAt L k).view.dmaCredit = credit := rfl

/-- A chunk's gather started from a free slot. -/
theorem wp_gather (k : Fin 25) (W : Finset S100000x128.Idx) (p : PUnit.{1} → TaskProg F L)
    (Q : PUnit.{1} → sProp 𝕄) :
    free d L fp fb hb fo qs (slot k) W
      ⊢ iprop((gathering d L fp fb hb fo qs k W -∗ WP (p ⟨⟩) Q) -∗ WP (gather L k >>= p) Q) := by
  unfold free gathering gather
  iintro ⟨⟨%f, Hbuf⟩, HG, HW, Hs, Hi, Ho⟩ Hk
  icases (pointsTo_split_subset (Finset.subset_univ sharedAt.view.set)).1 $$ Hs with ⟨Hs, Hs'⟩
  icases (pointsTo_split_subset (Finset.subset_univ (idxAt L k).view.set)).1 $$ Hi with ⟨Hi, Hi'⟩
  iapply (SparseCore.wp_indirectGatherLocal (EC (F := F)) 𝒱₀ (thr d L) none (default : HIx 1) credit
    (src := sharedAt) (dst := rowBuf (slot k)) (hg := gathers_S256x128_S128x128) (offs := idxAt L k) (hn := rfl) (sem := semG (slot k))
    (fs := fp) (fd := f) (fo := idxs L fb) (rowCredits (slot k)) numel_rows (idxAt_lt hb)) $$ [Hs Hbuf Hi HG]
  · isplitl [Hs]; · iexact Hs
    isplitl [Hbuf]; · iexact Hbuf
    isplitl [Hi]; · iexact Hi
    iexact HG
  iintro HF
  iapply Hk
  isplitl [HF]
  · iapply (Transfers.Flight_mono (EC (F := F)) (thr d L) ?_) $$ HF
    unfold landed
    iintro ⟨Hb, Hs, Hi⟩
    isplitl [Hb]
    · iexists _
      isplitr; swap; · iexact Hb
      ipureintro
      rw [View.read_write_univ]
      exact gathered hb
    isplitl [Hs] <;> iassumption
  isplitl [Hs']; · iexact Hs'
  isplitl [Hi']; · iexact Hi'
  isplitl [HW] <;> iassumption

/-- The wait for a chunk's gather. -/
theorem wp_waitGather (k : Fin 25) (W : Finset S100000x128.Idx) (p : PUnit.{1} → TaskProg F L)
    (Q : PUnit.{1} → sProp 𝕄) :
    iprop(gathering d L fp fb hb fo qs k W ∗ owing d L O W₀ ∗ Transfers.MayWaits (thr d L) (default : HIx 1) O)
      ⊢ iprop((iprop(gathered' d L fp fb hb fo qs k W ∗ owing d L O W₀) -∗ WP (p ⟨⟩) Q) -∗ WP (waitGather L k >>= p) Q) := by
  unfold gathering gathered' owing waitGather
  iintro ⟨⟨HF, Hs', Hi', HW, Ho⟩, ⟨%W', %hW', HO⟩, #Hmw⟩ Hk
  ihave Hmw' := (Transfers.MayWaits.elim (.dma (semG (slot k)))) $$ Hmw
  iapply (Transfers.wp_waitLocalO (EC (F := F)) 𝒱₀ (thr d L) none (default : HIx 1) (N := credit) (creditG (slot k))) $$ [HF HO Hmw']
  · isplitl [HF]; · iexact HF
    isplitl [HO] <;> iassumption
  iintro ⟨⟨Hl, Hs, Hi⟩, HG, HO⟩
  iapply Hk
  isplitr [HO]
  · isplitl [Hl]; · iexact Hl
    isplitl [HG]; · iexact HG
    isplitl [HW]; · iexact HW
    isplitl [Hs Hs']
    · iapply (pointsTo_split_subset (Finset.subset_univ sharedAt.view.set)).2
      isplitl [Hs] <;> iassumption
    isplitl [Hi Hi']
    · iapply (pointsTo_split_subset (Finset.subset_univ (idxAt L k).view.set)).2
      isplitl [Hi] <;> iassumption
    iexact Ho
  iexists _
  isplitr; swap; · iexact HO
  ipureintro
  intro q hq
  rcases Finset.mem_insert.mp hq with rfl | hq
  · exact .inr (.inl rfl)
  · exact hW' q hq

/-- A chunk's write started: its rows of the result are to be marked. -/
theorem wp_write (ιwm : ℕ) (k : Fin 25) (W : Finset S100000x128.Idx) (p : PUnit.{1} → TaskProg F L)
    (Q : PUnit.{1} → sProp 𝕄) :
    iprop(wmInv (eW (F := F)) ιwm ∗ gathered' d L fp fb hb fo qs k W)
      ⊢ iprop((writing d L fp fb hb fo qs k W -∗ WP (p ⟨⟩) Q) -∗ WP (write L k >>= p) Q) := by
  unfold gathered' writing write
  iintro ⟨Hinv, Hl, HG, HW, Hs, Hi, Ho⟩ Hk
  unfold landed
  icases Hl with ⟨%f, %hf, Hl⟩
  imod (Transfers.flight_alloc (EC (F := F)) (g := (thr d L, .dma (semW (slot k)))) (N := credit) (View.dmaCredit_pos _ numel_rows)
    iprop(outSlot d L fp fb hb fo (slot k) (W ∪ (outAt L k).view.set) ∗ bufAt d L (slot k) f)) $$ HW with ⟨%γ, %δ, %κ, #Hfl, Hγ, Hδ⟩
  iapply (wp_enqueueDma 𝒱₀ (thr d L) none Set.univ (default : HIx 1) credit (show (outAt L k).view.amount (.dma (semW (slot k))) = credit from rfl)) $$ [Hl Hinv Ho] [Hγ]
  · isplitl [Hl]; · iexact Hl
    iapply (willBeTo_writeUpdate (emb := eW (F := F)) (ιwm := ιwm) (thr d L) (v := (outAt L k).view) (q := sixth (slot k)) (f := fo)
      (g := fun i => some (tgt fp fb hb i)) (W := W) (outAt_subset L k) (View.admitted_some_iff.mpr fun x _ => congrFun hf x))
    isplitl [Hinv] <;> iassumption
  · iapply (Transfers.flight_creditUpdate (EC (F := F)) (δ := δ))
    isplitr; · iexact Hfl
    iexact Hγ
  iintro Hcred
  iapply Hk
  isplitl [Hδ Hcred]
  · ihave HF := (Transfers.flight_intro (EC (F := F)) (thr d L) (κ := κ)) $$ [Hδ Hcred]
    · isplitr; · iexact Hfl
      isplitl [Hδ] <;> iassumption
    iapply (Transfers.Flight_mono (EC (F := F)) (thr d L) ?_) $$ HF
    iintro ⟨Ho, Hl⟩
    isplitl [Ho]; · iexact Ho
    iexists f
    isplitr; · ipureintro; exact hf
    iexact Hl
  isplitl [HG]; · iexact HG
  isplitl [Hs] <;> iassumption

/-- The wait for a chunk's write: its slot is free again. -/
theorem wp_waitWrite (k : Fin 25) (W : Finset S100000x128.Idx) (p : PUnit.{1} → TaskProg F L)
    (Q : PUnit.{1} → sProp 𝕄) :
    iprop(writing d L fp fb hb fo qs k W ∗ owing d L O W₀ ∗ Transfers.MayWaits (thr d L) (default : HIx 1) O)
      ⊢ iprop((iprop(free d L fp fb hb fo qs (slot k) (W ∪ (outAt L k).view.set) ∗ owing d L O W₀) -∗ WP (p ⟨⟩) Q)
          -∗ WP (waitWrite L k >>= p) Q) := by
  unfold writing free owing waitWrite
  iintro ⟨⟨HF, HG, Hs, Hi⟩, ⟨%W', %hW', HO⟩, #Hmw⟩ Hk
  ihave Hmw' := (Transfers.MayWaits.elim (.dma (semW (slot k)))) $$ Hmw
  iapply (Transfers.wp_waitLocalO (EC (F := F)) 𝒱₀ (thr d L) none (default : HIx 1) (N := credit) (creditW L k)) $$ [HF HO Hmw']
  · isplitl [HF]; · iexact HF
    isplitl [HO] <;> iassumption
  iintro ⟨⟨Ho, Hl⟩, HW, HO⟩
  iapply Hk
  isplitr [HO]
  · unfold landed
    icases Hl with ⟨%f, -, Hl⟩
    isplitl [Hl]; · iexists f; iexact Hl
    isplitl [HG]; · iexact HG
    isplitl [HW]; · iexact HW
    isplitl [Hs]; · iexact Hs
    isplitl [Hi] <;> iassumption
  iexists _
  isplitr; swap; · iexact HO
  ipureintro
  intro q hq
  rcases Finset.mem_insert.mp hq with rfl | hq
  · exact .inr (.inl rfl)
  · exact hW' q hq

end Cert.Proof.Expand

end
-- ==== Proof.Ring.lean ====
/-
  A tile's loop: at every step, the gathers of the next five chunks and the last writes are under way.

  Before step `j`, the gathers of chunks `j` to `j + 4` are under way, those of them there are. The writes of the chunks
  before `j` are too, back to `j - 1` as long as the loop waits for writes, and back to chunk 19 from then on. At step 0
  no write is under way and the sixth slot is free. The rows a slot has marked as written before a chunk are those of the
  earlier chunks of that slot.
-/
module

public import proofs.«01_k».proof.Proof.Slots

@[expose] public section

noncomputable section

namespace Cert.Proof.Expand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

/-! ## Runs of chunks -/

/-- The chunks from `a` on, before `b`. -/
def between (a b : ℕ) : Finset (Fin 25) := Finset.univ.filter fun k => a ≤ k.val ∧ k.val < b

theorem mem_between {a b : ℕ} {k : Fin 25} : k ∈ between a b ↔ a ≤ k.val ∧ k.val < b := by simp [between]

theorem between_first {a b : ℕ} (k : Fin 25) (ha : k.val = a) (hb : a < b) (Φ : Fin 25 → sProp 𝕄) :
    bigSep (between a b) Φ = iprop(Φ k ∗ bigSep (between (a + 1) b) Φ) := by
  rw [show between a b = insert k (between (a + 1) b) by
    ext x; rw [Finset.mem_insert, mem_between, mem_between, Fin.ext_iff]; omega]
  exact BI.bigSep_insert fun h => by rw [mem_between] at h; omega

theorem between_last {a b : ℕ} (k : Fin 25) (ha : a ≤ k.val) (hb : b = k.val + 1) (Φ : Fin 25 → sProp 𝕄) :
    bigSep (between a b) Φ = iprop(Φ k ∗ bigSep (between a k.val) Φ) := by
  rw [show between a b = insert k (between a k.val) by
    ext x; rw [Finset.mem_insert, mem_between, mem_between, Fin.ext_iff]; omega]
  exact BI.bigSep_insert fun h => by rw [mem_between] at h; omega

theorem between_none {a b : ℕ} (h : b ≤ a ∨ 25 ≤ a) (Φ : Fin 25 → sProp 𝕄) : bigSep (between a b) Φ = iprop(emp) := by
  rw [show between a b = ∅ by
    ext x
    rw [mem_between]
    simp only [Finset.notMem_empty, iff_false]
    have := x.isLt
    omega]
  exact BI.bigSep_empty

/-- The chunks there are. -/
theorem between_past {a b c : ℕ} (hb : 25 ≤ b) (hc : 25 ≤ c) : between a b = between a c := by
  ext x
  rw [mem_between, mem_between]
  have := x.isLt
  omega

/-! ## The rows marked -/

variable (d : Dev nD) (L : grid0.Coords)

/-- The rows written through a chunk's slot before it. -/
def marks (n : ℕ) : Finset S100000x128.Idx :=
  (Finset.univ.filter fun k : Fin 25 => k.val < n ∧ k.val % 6 = n % 6).biUnion fun k => (outAt L k).view.set

/-- The rows written through a slot in all. -/
def allMarks (s : Fin 6) : Finset S100000x128.Idx :=
  (Finset.univ.filter fun k : Fin 25 => slot k = s).biUnion fun k => (outAt L k).view.set

theorem marks_first (n : ℕ) (h : n < 6) : marks L n = ∅ := by
  unfold marks
  rw [show (Finset.univ.filter fun k : Fin 25 => k.val < n ∧ k.val % 6 = n % 6) = ∅ by
    ext k
    simp only [Finset.mem_filter, Finset.mem_univ, true_and, Finset.notMem_empty, iff_false]
    omega]
  exact Finset.biUnion_empty

theorem marks_next (k : Fin 25) : marks L k.val ∪ (outAt L k).view.set = marks L (k.val + 6) := by
  unfold marks
  rw [show (Finset.univ.filter fun k' : Fin 25 => k'.val < k.val + 6 ∧ k'.val % 6 = (k.val + 6) % 6)
      = insert k (Finset.univ.filter fun k' : Fin 25 => k'.val < k.val ∧ k'.val % 6 = k.val % 6) by
    ext k'
    simp only [Finset.mem_filter, Finset.mem_univ, true_and, Finset.mem_insert, Fin.ext_iff]
    omega, Finset.biUnion_insert, Finset.union_comm]

theorem marks_last (k : Fin 25) (h : 19 ≤ k.val) : marks L (k.val + 6) = allMarks L (slot k) := by
  unfold marks allMarks
  congr 1
  ext k'
  simp only [Finset.mem_filter, Finset.mem_univ, true_and, Fin.ext_iff]
  have := k'.isLt
  omega

/-- Every row of the tile is marked in some slot. -/
theorem tileRows_subset_allMarks : tileRows L ⊆ Finset.univ.biUnion (allMarks L) := by
  intro i hi
  obtain ⟨k, hk⟩ := tileRows_cover L i hi
  exact Finset.mem_biUnion.mpr ⟨slot k, Finset.mem_univ _,
    Finset.mem_biUnion.mpr ⟨k, Finset.mem_filter.mpr ⟨Finset.mem_univ _, rfl⟩, hk⟩⟩

/-! ## The state of the ring -/

variable (fp : S256x128.Idx → Elt F .f32) (fb : S100000.Idx → Elt F .i32) (hb : ∀ x, (fb x).toNat < 256)
  (fo : S100000x128.Idx → Elt F .f32) (qs : PosShare TreeShare)

/-- A chunk's gather, and its write, under way with the marks of its place in the loop; its slot after its write. -/
abbrev gatheringAt (k : Fin 25) : sProp 𝕄 := gathering d L fp fb hb fo qs k (marks L k.val)
abbrev writingAt (k : Fin 25) : sProp 𝕄 := writing d L fp fb hb fo qs k (marks L k.val)
abbrev freeAfter (k : Fin 25) : sProp 𝕄 := free d L fp fb hb fo qs (slot k) (marks L (k.val + 6))

/-- Before step `j`. -/
def ring (j : ℕ) : sProp 𝕄 :=
  iprop(bigSep (between j (j + 5)) (gatheringAt d L fp fb hb fo qs)
    ∗ if j = 0 then free d L fp fb hb fo qs 5 ∅ else bigSep (between (min j 20 - 1) j) (writingAt d L fp fb hb fo qs))

/-- Within step `j`, the next gather started. -/
def ringAhead (j : ℕ) : sProp 𝕄 :=
  iprop(bigSep (between j (j + 6)) (gatheringAt d L fp fb hb fo qs) ∗ bigSep (between 19 j) (writingAt d L fp fb hb fo qs))

variable [FloatOps F] (O : CellTallies nD τ sig (HIx 1)) (W₀ : Waits sig (HIx 1))

local notation "WP" => wp frame (wpE (defs₀ (F := F)) 𝒱₀ (thr d L) none) Set.univ

theorem wp_ahead (j : Fin 25) (p : PUnit.{1} → TaskProg F L) (Q : PUnit.{1} → sProp 𝕄) :
    iprop(ring d L fp fb hb fo qs j.val ∗ owing d L O W₀ ∗ Transfers.MayWaits (thr d L) (default : HIx 1) O)
      ⊢ iprop((iprop(ringAhead d L fp fb hb fo qs j.val ∗ owing d L O W₀) -∗ WP (p ⟨⟩) Q) -∗ WP (ahead L j >>= p) Q) := by
  unfold ring ringAhead ahead
  by_cases h : j.val + 5 < 25
  · rw [dif_pos h, between_none (Or.inl (by omega : j.val ≤ 19)), between_last (b := j.val + 6) ⟨j.val + 5, h⟩ (by simp) rfl]
    by_cases h' : 1 ≤ j.val
    · have hp : j.val - 1 < 25 := by omega
      have hs : slot ⟨j.val - 1, hp⟩ = slot ⟨j.val + 5, h⟩ := Fin.ext (by simp; omega)
      have hm : j.val - 1 + 6 = j.val + 5 := by omega
      have hr : between (min j.val 20 - 1) j.val = between (j.val - 1) j.val := by rw [show min j.val 20 - 1 = j.val - 1 by omega]
      rw [dif_pos h', if_neg (by omega), hr, between_first (a := j.val - 1) ⟨j.val - 1, hp⟩ rfl (by omega), between_none (Or.inl (by omega : j.val ≤ j.val - 1 + 1)),
        bind_assoc]
      iintro ⟨⟨HG, HW, -⟩, HO, #Hmw⟩ Hk
      iapply (wp_waitWrite d L fp fb hb fo qs O W₀ ⟨j.val - 1, hp⟩ (marks L (j.val - 1))) $$ [HW HO]
      · isplitl [HW]; · iexact HW
        isplitl [HO]; · iexact HO
        iexact Hmw
      iintro ⟨HF, HO⟩
      iapply (wp_gather d L fp fb hb fo qs ⟨j.val + 5, h⟩ (marks L (j.val + 5))) $$ [HF]
      · rw [marks_next L ⟨j.val - 1, hp⟩]
        rw [hs, hm]; iexact HF
      iintro HN
      iapply Hk
      isplitr [HO]; swap; · iexact HO
      isplitl [HG HN]
      · isplitl [HN] <;> iassumption
      iempintro
    · obtain rfl : j = 0 := Fin.ext (by simp; omega)
      rw [dif_neg (by decide), if_pos (show ((0 : Fin 25) : ℕ) = 0 from rfl)]
      iintro ⟨⟨HG, HF⟩, HO, -⟩ Hk
      iapply (wp_gather d L fp fb hb fo qs 5 (marks L 5)) $$ [HF]
      · rw [marks_first L 5 (by decide)]; iexact HF
      iintro HN
      iapply Hk
      isplitr [HO]; swap; · iexact HO
      isplitl [HG HN]
      · isplitl [HN]; · iexact HN
        iexact HG
      iempintro
  · rw [dif_neg h, if_neg (by omega), pure_bind, between_past (by omega : 25 ≤ j.val + 6) (by omega : 25 ≤ j.val + 5), show min j.val 20 - 1 = 19 by omega]
    iintro ⟨⟨HG, HW⟩, HO, -⟩ Hk
    iapply Hk
    isplitl [HG HW]
    · isplitl [HG] <;> iassumption
    iexact HO

theorem wp_step (ιwm : ℕ) (j : Fin 25) (p : PUnit.{1} → TaskProg F L) (Q : PUnit.{1} → sProp 𝕄) :
    iprop(wmInv (eW (F := F)) ιwm ∗ ring d L fp fb hb fo qs j.val ∗ owing d L O W₀ ∗ Transfers.MayWaits (thr d L) (default : HIx 1) O)
      ⊢ iprop((iprop(ring d L fp fb hb fo qs (j.val + 1) ∗ owing d L O W₀) -∗ WP (p ⟨⟩) Q) -∗ WP (step L j >>= p) Q) := by
  unfold step
  simp only [bind_assoc]
  iintro ⟨#Hinv, HR, HO, #Hmw⟩ Hk
  iapply (wp_ahead d L fp fb hb fo qs O W₀ j) $$ [HR HO]
  · isplitl [HR]; · iexact HR
    isplitl [HO]; · iexact HO
    iexact Hmw
  iintro ⟨HR, HO⟩
  unfold ringAhead
  rw [between_first j rfl (by omega)]
  icases HR with ⟨⟨HG, HGs⟩, HWs⟩
  iapply (wp_waitGather d L fp fb hb fo qs O W₀ j (marks L j.val)) $$ [HG HO]
  · isplitl [HG]; · iexact HG
    isplitl [HO]; · iexact HO
    iexact Hmw
  iintro ⟨HG, HO⟩
  iapply (wp_write d L fp fb hb fo qs ιwm j (marks L j.val)) $$ [HG]
  · isplitr; · iexact Hinv
    iexact HG
  iintro HW
  iapply Hk
  isplitr [HO]; swap; · iexact HO
  unfold ring
  rw [if_neg (Nat.succ_ne_zero _), between_last (b := j.val + 1) j (by omega) rfl]
  isplitl [HGs]; · iexact HGs
  isplitl [HW]; · iexact HW
  by_cases h : j.val ≤ 19
  · rw [between_none (Or.inl (by omega : j.val ≤ min (j.val + 1) 20 - 1))]
    iclear HWs
    iempintro
  · rw [show min (j.val + 1) 20 - 1 = 19 by omega]; iexact HWs

theorem wp_steps (ιwm : ℕ) (p : PUnit.{1} → TaskProg F L) (Q : PUnit.{1} → sProp 𝕄) : ∀ (n : ℕ) (h : n ≤ 25),
    iprop(wmInv (eW (F := F)) ιwm ∗ ring d L fp fb hb fo qs (25 - n) ∗ owing d L O W₀ ∗ Transfers.MayWaits (thr d L) (default : HIx 1) O)
      ⊢ iprop((iprop(ring d L fp fb hb fo qs 25 ∗ owing d L O W₀) -∗ WP (p ⟨⟩) Q) -∗ WP (steps L n h >>= p) Q)
  | 0, _ => by
    unfold steps
    rw [pure_bind]
    iintro ⟨-, HR, HO, -⟩ Hk
    iapply Hk
    isplitl [HR] <;> iassumption
  | n + 1, h => by
    have hn : 24 - n < 25 := by omega
    have hn' : n ≤ 25 := by omega
    unfold steps
    rw [bind_assoc]
    iintro ⟨#Hinv, HR, HO, #Hmw⟩ Hk
    iapply (wp_step d L fp fb hb fo qs O W₀ ιwm ⟨24 - n, hn⟩) $$ [HR HO]
    · isplitr; · iexact Hinv
      isplitl [HR]; · rw [show 25 - (n + 1) = 24 - n by omega]; iexact HR
      isplitl [HO]; · iexact HO
      iexact Hmw
    iintro ⟨HR, HO⟩
    iapply (wp_steps ιwm p Q n hn') $$ [HR HO]
    · isplitr; · iexact Hinv
      isplitl [HR]; · rw [show 25 - n = 24 - n + 1 by omega]; iexact HR
      isplitl [HO]; · iexact HO
      iexact Hmw
    iexact Hk

/-- The waits for the last writes. -/
theorem wp_drain (p : PUnit.{1} → TaskProg F L) (Q : PUnit.{1} → sProp 𝕄) : ∀ (n : ℕ) (h : n ≤ 25), n ≤ 6 →
    iprop(bigSep (between (25 - n) 25) (writingAt d L fp fb hb fo qs) ∗ bigSep (between 19 (25 - n)) (freeAfter d L fp fb hb fo qs)
        ∗ owing d L O W₀ ∗ Transfers.MayWaits (thr d L) (default : HIx 1) O)
      ⊢ iprop((iprop(bigSep (between 19 25) (freeAfter d L fp fb hb fo qs) ∗ owing d L O W₀) -∗ WP (p ⟨⟩) Q) -∗ WP (drain L n h >>= p) Q)
  | 0, _, _ => by
    unfold drain
    rw [pure_bind]
    iintro ⟨-, HF, HO, -⟩ Hk
    iapply Hk
    isplitl [HF] <;> iassumption
  | n + 1, h, h6 => by
    have hn : 24 - n < 25 := by omega
    have hn' : n ≤ 25 := by omega
    have h6' : n ≤ 6 := by omega
    have ha : 24 - n = 25 - (n + 1) := by omega
    have hb' : 25 - (n + 1) < 25 := by omega
    have hc : 19 ≤ 24 - n := by omega
    have he : 25 - n = 24 - n + 1 := by omega
    unfold drain
    rw [bind_assoc, between_first (a := 25 - (n + 1)) ⟨24 - n, hn⟩ ha hb']
    iintro ⟨⟨HW, HWs⟩, HF, HO, #Hmw⟩ Hk
    iapply (wp_waitWrite d L fp fb hb fo qs O W₀ ⟨24 - n, hn⟩ (marks L (24 - n))) $$ [HW HO]
    · isplitl [HW]; · iexact HW
      isplitl [HO]; · iexact HO
      iexact Hmw
    iintro ⟨HN, HO⟩
    iapply (wp_drain p Q n hn' h6') $$ [HWs HF HN HO]
    · isplitl [HWs]; · rw [show 25 - n = 25 - (n + 1) + 1 by omega]; iexact HWs
      isplitl [HF HN]
      · rw [between_last (b := 25 - n) ⟨24 - n, hn⟩ hc he]
        isplitl [HN]; · iapply (Entails.of_eq (congrArg (free d L fp fb hb fo qs _) (marks_next L ⟨24 - n, hn⟩))); iexact HN
        rw [show 25 - (n + 1) = 24 - n by omega]; iexact HF
      isplitl [HO]; · iexact HO
      iexact Hmw
    iexact Hk

/-- The first gathers: five slots' of the six. -/
theorem wp_fill (p : PUnit.{1} → TaskProg F L) (Q : PUnit.{1} → sProp 𝕄) :
    (bigSep Finset.univ fun s : Fin 6 => free d L fp fb hb fo qs s ∅)
      ⊢ iprop((ring d L fp fb hb fo qs 0 -∗ WP (p ⟨⟩) Q) -∗ WP (fill L >>= p) Q) := by
  unfold fill ring
  rw [if_pos rfl]
  simp only [bind_assoc]
  simp only [bigSep_univ_succ]
  have e (k : Fin 25) (hk : k.val < 6) : free d L fp fb hb fo qs (slot k) ∅ = free d L fp fb hb fo qs (slot k) (marks L k.val) := by
    rw [marks_first L _ hk]
  iintro ⟨H0, H1, H2, H3, H4, H5, -⟩ Hk
  iapply (wp_gather d L fp fb hb fo qs 0 (marks L 0)) $$ [H0]
  · iapply (Entails.of_eq (e 0 (by decide))); iexact H0
  iintro H0
  iapply (wp_gather d L fp fb hb fo qs 1 (marks L 1)) $$ [H1]
  · iapply (Entails.of_eq (e 1 (by decide))); iexact H1
  iintro H1
  iapply (wp_gather d L fp fb hb fo qs 2 (marks L 2)) $$ [H2]
  · iapply (Entails.of_eq (e 2 (by decide))); iexact H2
  iintro H2
  iapply (wp_gather d L fp fb hb fo qs 3 (marks L 3)) $$ [H3]
  · iapply (Entails.of_eq (e 3 (by decide))); iexact H3
  iintro H3
  iapply (wp_gather d L fp fb hb fo qs 4 (marks L 4)) $$ [H4]
  · iapply (Entails.of_eq (e 4 (by decide))); iexact H4
  iintro H4
  iapply Hk
  rw [between_first (a := 0) 0 rfl (by decide), between_first (a := 0 + 1) 1 rfl (by decide), between_first (a := 0 + 1 + 1) 2 rfl (by decide),
    between_first (a := 0 + 1 + 1 + 1) 3 rfl (by decide), between_first (a := 0 + 1 + 1 + 1 + 1) 4 rfl (by decide), between_none (Or.inl le_rfl)]
  isplitr [H5]; swap; · iexact H5
  isplitl [H0]; · iexact H0
  isplitl [H1]; · iexact H1
  isplitl [H2]; · iexact H2
  isplitl [H3]; · iexact H3
  isplitl [H4]; · iexact H4
  iempintro

/-- The chunks after the last writes are the six slots. -/
theorem free_slots : bigSep (between 19 25) (freeAfter d L fp fb hb fo qs)
    = bigSep Finset.univ fun s : Fin 6 => free d L fp fb hb fo qs s (allMarks L s) := by
  have hinj : Set.InjOn slot (between 19 25 : Finset (Fin 25)) := fun a ha b hb h => by
    have ha' := (mem_between.mp (Finset.mem_coe.mp ha)).1
    have hb' := (mem_between.mp (Finset.mem_coe.mp hb)).1
    have h' : a.val % 6 = b.val % 6 := congrArg Fin.val h
    exact Fin.ext (by omega)
  rw [show (Finset.univ : Finset (Fin 6)) = (between 19 25).image slot by decide, SparseCore.bigSep_image_of_injOn hinj]
  exact bigSep_congr fun k hk => by
    show free d L fp fb hb fo qs (slot k) (marks L (k.val + 6)) = _
    rw [marks_last L k (mem_between.mp hk).1]

/-- All the chunks: every slot is free again, its rows written. -/
theorem wp_chunks (ιwm : ℕ) (Q : PUnit.{1} → sProp 𝕄) :
    iprop(wmInv (eW (F := F)) ιwm ∗ (bigSep Finset.univ fun s : Fin 6 => free d L fp fb hb fo qs s ∅) ∗ owing d L O W₀
        ∗ Transfers.MayWaits (thr d L) (default : HIx 1) O)
      ⊢ iprop((iprop((bigSep Finset.univ fun s : Fin 6 => free d L fp fb hb fo qs s (allMarks L s)) ∗ owing d L O W₀) -∗ Q ⟨⟩)
          -∗ WP (chunks L) Q) := by
  rw [← free_slots]
  unfold chunks
  rw [← bind_pure (drain L 6 (by decide))]
  iintro ⟨#Hinv, HF, HO, #Hmw⟩ Hk
  iapply (wp_fill d L fp fb hb fo qs) $$ HF
  iintro HR
  iapply (wp_steps d L fp fb hb fo qs O W₀ ιwm _ _ 25 le_rfl) $$ [HR HO]
  · isplitr; · iexact Hinv
    isplitl [HR]; · iexact HR
    isplitl [HO]; · iexact HO
    iexact Hmw
  iintro ⟨HR, HO⟩
  unfold ring
  rw [if_neg (by decide)]
  icases HR with ⟨-, HW⟩
  iapply (wp_drain d L fp fb hb fo qs O W₀ _ _ 6 _ le_rfl) $$ [HW HO]
  · isplitl [HW]; · iexact HW
    isplitr; · rw [show 25 - 6 = 19 from rfl, between_none (Or.inl le_rfl)]; iempintro
    isplitl [HO]; · iexact HO
    iexact Hmw
  iintro H
  rw [wp_pure]
  imodintro
  iapply Hk $$ H

end Cert.Proof.Expand

end
-- ==== Proof.Tile.lean ====
/-
  A tile's task: tile 0 copies the pooled array into the shared scratch; the tiles meet at the barrier, where each gets a
  share of the shared scratch; a tile copies its indices in and expands its chunks. Its rows of the result then hold the
  target.
-/
module

public import proofs.«01_k».proof.Proof.Ring
public import Idealize.ShloMosaic.Lib.Ring

@[expose] public section

noncomputable section

namespace Cert.Proof.Expand

open Cert.Kernel Cert.Kernel.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable (d : Dev nD) (L : grid0.Coords)

/-! ## The tile's own semaphores and buffers -/

abbrev stageCell : GSem nD τ sig := (thr d L, .dma cc0_scoped0.sem)
abbrev idxCell : GSem nD τ sig := (thr d L, .dma cc0_scoped1.sem)
abbrev cellG (s : Fin 6) : GSem nD τ sig := (thr d L, .dma (semG s))
abbrev cellW (s : Fin 6) : GSem nD τ sig := (thr d L, .dma (semW s))

/-- The semaphores the slots and the two copies use. -/
def semOf : Fin 6 ⊕ Fin 6 ⊕ Fin 2 → DmaSem sig
  | .inl s => semG s
  | .inr (.inl s) => semW s
  | .inr (.inr 0) => cc0_scoped0.sem
  | .inr (.inr 1) => cc0_scoped1.sem

theorem semOf_injective : Function.Injective semOf := by decide
theorem semOf_scoped : ∀ n, (SemLoc.dma (semOf n) : SemLoc sig).isScoped .scVector = true := by decide

/-- The semaphores at zero: the slots', the two copies', and the rest. -/
theorem ownSems0_tile : ∃ R : sProp 𝕄, (ownSems0 (thr d L) : sProp 𝕄)
    = iprop(((bigSep Finset.univ fun s : Fin 6 => semVal (cellG d L s) 0) ∗ (bigSep Finset.univ fun s : Fin 6 => semVal (cellW d L s) 0)
        ∗ semVal (stageCell d L) 0 ∗ semVal (idxCell d L) 0) ∗ R) := by
  have hinj : Function.Injective fun n => ((thr d L, .dma (semOf n)) : GSem nD τ sig) := fun a b h =>
    semOf_injective (SemLoc.dma.inj (Prod.mk.inj h).2)
  have hsub : (Finset.univ.image fun n => ((thr d L, .dma (semOf n)) : GSem nD τ sig)) ⊆ ownCells (thr d L) := by
    intro g hg
    obtain ⟨n, -, rfl⟩ := Finset.mem_image.mp hg
    exact mem_ownCells.mpr ⟨rfl, semOf_scoped n⟩
  refine ⟨bigSep (ownCells (thr d L) \ Finset.univ.image fun n => ((thr d L, .dma (semOf n)) : GSem nD τ sig)) fun g => semVal g 0, ?_⟩
  unfold SparseCore.Cfg.ownSems0
  rw [SparseCore.bigSep_sdiff_split' hsub, SparseCore.bigSep_image_of_injOn hinj.injOn, BI.bigSep_univ_sum, BI.bigSep_univ_sum,
    BI.bigSep_fin_two]
  rfl

abbrev rowSet (s : Fin 6) : Finset S6x128x128.Idx := (rowBuf s).view.set

/-- The entries of a slot's row buffer. -/
theorem mem_rowBuf (s : Fin 6) (i : S6x128x128.Idx) : i ∈ rowSet s ↔ (i 0).val = s.val := by
  rw [show rowSet s = (rowsV.view.slice (Rect.unit (s := S6x128x128) ![s.val, 0, 0] S1x128x128.size (inb_slot s))).set from
    View.set_reshape _ _, View.set_slice_whole, Rect.mem_set_unit]
  constructor
  · intro h
    have := h 0
    simp at this
    omega
  · intro h a
    have h0 := (i a).isLt
    fin_cases a <;> simp_all <;> omega

theorem rowBufs_disjoint : ∀ s ∈ (Finset.univ : Finset (Fin 6)), ∀ t ∈ (Finset.univ : Finset (Fin 6)), s ≠ t →
    Disjoint (rowSet s) (rowSet t) := fun s _ t _ h =>
  Finset.disjoint_left.mpr fun i hs ht => h (Fin.ext (((mem_rowBuf s i).mp hs).symm.trans ((mem_rowBuf t i).mp ht)))

theorem rowBufs_cover : ((Finset.univ : Finset (Fin 6)).biUnion fun s => rowSet s) = Finset.univ :=
  Finset.eq_univ_iff_forall.mpr fun i => Finset.mem_biUnion.mpr ⟨⟨(i 0).val, (i 0).isLt⟩, Finset.mem_univ _, (mem_rowBuf _ i).mpr rfl⟩

theorem bufs_split (f : S6x128x128.Idx → Elt F .f32) :
    (rowsV.view.loc (thr d L) ↦{fullShare} f : sProp 𝕄) = bigSep Finset.univ fun s : Fin 6 => bufAt d L s f := by
  have h := pointsTo_biUnion (Ix := HIx 1) (Name := ℕ) (U := UU F) (Lvl := ℕ) (Val := Elt F) (q := fullShare) (f := f) Finset.univ (ℓ := rowsV.view.loc (thr d L))
    (fun s : Fin 6 => rowSet s) rowBufs_disjoint
  rw [rowBufs_cover] at h
  exact h

theorem bufs_join (f₀ : S6x128x128.Idx → Elt F .f32) : (bigSep Finset.univ fun s : Fin 6 => (iprop(∃ f, bufAt d L s f) : sProp 𝕄))
    ⊢ iprop(∃ f, rowsV.view.loc (thr d L) ↦{fullShare} f) :=
  Ring.pointsTo_blocks_join_exists (ℓ := rowsV.view.loc (thr d L)) (fun s : Fin 6 => rowSet s)
    (fun s t h => rowBufs_disjoint s (Finset.mem_univ _) t (Finset.mem_univ _) h) rowBufs_cover f₀

/-- The tile's buffers: the indices', the rows', and the rest. -/
theorem ownBufs_tile : ∃ R : sProp 𝕄, (ownBufs (thr d L) : sProp 𝕄)
    = iprop((∃ f, idxV.view.loc (thr d L) ↦{fullShare} f) ∗ (∃ f, rowsV.view.loc (thr d L) ↦{fullShare} f) ∗ R) := by
  refine ⟨bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f), ?_⟩
  unfold SparseCore.Cfg.ownBufs
  rw [SparseCore.bigSep_erase' (SparseCore.Cfg.mem_ownRefs_of_owner (p := Proc.scVector (cV L) (jV L))
      (b := (Proc.scVector (cV L) (jV L)).devRef cc0_scratch0) rfl),
    SparseCore.bigSep_erase' (Finset.mem_erase.mpr ⟨show (Proc.scVector (cV L) (jV L)).devRef cc0_scratch1 ≠ (Proc.scVector (cV L) (jV L)).devRef cc0_scratch0
        from by simp [Proc.devRef],
      SparseCore.Cfg.mem_ownRefs_of_owner (p := Proc.scVector (cV L) (jV L)) (b := (Proc.scVector (cV L) (jV L)).devRef cc0_scratch1) rfl⟩)]

/-! ## The two copies -/

section Program

variable [FloatOps F] (O : CellTallies nD τ sig (HIx 1)) (W₀ : Waits sig (HIx 1))

local notation "WP" => wp frame (wpE (defs₀ (F := F)) 𝒱₀ (thr d L) none) Set.univ

theorem owing_wait {O : CellTallies nD τ sig (HIx 1)} (sm : DmaSem sig) (W' : Waits sig (HIx 1))
    (hW' : ∀ p ∈ W', p ∈ W₀ ∨ p.2 = none ∨ p.2 = some (0 : Fin 1)) :
    (owes (thr d L) O (insert (SemLoc.dma sm, (default : HIx 1)) W') : sProp 𝕄) ⊢ owing d L O W₀ := by
  unfold owing
  iintro HO
  iexists _
  isplitr; swap; · iexact HO
  ipureintro
  intro q hq
  rcases Finset.mem_insert.mp hq with rfl | hq
  · exact .inr (.inl rfl)
  · exact hW' q hq

/-- Tile 0's copy of the pooled array into the shared scratch, and its wait. -/
theorem wp_stage (fp f : S256x128.Idx → Elt F .f32) (q : PosShare TreeShare) (p : PUnit.{1} → TaskProg F L) (Q : PUnit.{1} → sProp 𝕄) :
    iprop((pooledLoc d ↦{q} fp) ∗ (sharedLoc d (cV L) ↦{fullShare} f) ∗ semVal (stageCell d L) 0 ∗ owing d L O W₀
        ∗ Transfers.MayWaits (thr d L) (default : HIx 1) O)
      ⊢ iprop((iprop((pooledLoc d ↦{q} fp) ∗ (sharedLoc d (cV L) ↦{fullShare} fp) ∗ semVal (stageCell d L) 0 ∗ owing d L O W₀) -∗ WP (p ⟨⟩) Q)
          -∗ WP (stage L >>= p) Q) := by
  unfold stage
  rw [bind_assoc]
  conv_lhs => unfold owing
  iintro ⟨Hs, Hd, HS, ⟨%W', %hW', HO⟩, #Hmw⟩ Hk
  ihave Hmw' := (Transfers.MayWaits.elim (.dma cc0_scoped0.sem)) $$ Hmw
  iapply (Transfers.wp_dmaLocal (EC (F := F)) 𝒱₀ (thr d L) none (src := pooledV) (via := .same) (dst := sharedV) (fs := fp) (fd := f) (q := q)
    (Sd := Finset.univ) (default : HIx 1) sharedV.view.dmaCredit rfl (View.dmaCredit_pos _ (by decide)) (Finset.subset_univ _)) $$ [Hs Hd HS]
  · isplitl [Hs]; · rw [show pooledV.view.set = Finset.univ from View.set_whole _]; iexact Hs
    isplitl [Hd]; · iexact Hd
    iexact HS
  iintro HF
  iapply (Transfers.wp_waitLocalO (EC (F := F)) 𝒱₀ (thr d L) none (default : HIx 1) (N := sharedV.view.dmaCredit) rfl) $$ [HF HO Hmw']
  · isplitl [HF]; · iexact HF
    isplitl [HO] <;> iassumption
  iintro ⟨⟨Hd, Hs⟩, HS, HO⟩
  iapply Hk
  isplitl [Hs]; · rw [show pooledV.view.set = Finset.univ from View.set_whole _]; iexact Hs
  isplitl [Hd]
  · rw [show sharedV.view.write (Elt F) f (ReadAs.same.apply (pooledV.view.read (Elt F) fp)) Finset.univ = fp from View.write_whole_univ _ _ _]
    iexact Hd
  isplitl [HS]; · iexact HS
  iapply (owing_wait d L W₀ _ W' hW') $$ HO

/-- A tile's copy of its indices, and its wait. -/
theorem wp_copyIdx (fb : S100000.Idx → Elt F .i32) (f : S3200.Idx → Elt F .i32) (q : PosShare TreeShare) (p : PUnit.{1} → TaskProg F L)
    (Q : PUnit.{1} → sProp 𝕄) :
    iprop((batchLoc d ↦{q} fb) ∗ (idxV.view.loc (thr d L) ↦{fullShare} f) ∗ semVal (idxCell d L) 0 ∗ owing d L O W₀
        ∗ Transfers.MayWaits (thr d L) (default : HIx 1) O)
      ⊢ iprop((iprop((batchLoc d ↦{q} fb) ∗ (idxV.view.loc (thr d L) ↦{fullShare} idxs L fb) ∗ semVal (idxCell d L) 0 ∗ owing d L O W₀) -∗ WP (p ⟨⟩) Q)
          -∗ WP (copyIdx L >>= p) Q) := by
  unfold copyIdx
  rw [bind_assoc]
  conv_lhs => unfold owing
  iintro ⟨Hs, Hd, HS, ⟨%W', %hW', HO⟩, #Hmw⟩ Hk
  icases (pointsTo_split_subset (Finset.subset_univ (batchAt L).view.set)).1 $$ Hs with ⟨Hs, Hs'⟩
  ihave Hmw' := (Transfers.MayWaits.elim (.dma cc0_scoped1.sem)) $$ Hmw
  iapply (Transfers.wp_dmaLocal (EC (F := F)) 𝒱₀ (thr d L) none (src := batchAt L) (via := .same) (dst := idxV) (fs := fb) (fd := f) (q := q)
    (Sd := Finset.univ) (default : HIx 1) idxV.view.dmaCredit rfl (View.dmaCredit_pos _ (by decide)) (Finset.subset_univ _)) $$ [Hs Hd HS]
  · isplitl [Hs]; · iexact Hs
    isplitl [Hd] <;> iassumption
  iintro HF
  iapply (Transfers.wp_waitLocalO (EC (F := F)) 𝒱₀ (thr d L) none (default : HIx 1) (N := idxV.view.dmaCredit) rfl) $$ [HF HO Hmw']
  · isplitl [HF]; · iexact HF
    isplitl [HO] <;> iassumption
  iintro ⟨⟨Hd, Hs⟩, HS, HO⟩
  iapply Hk
  isplitl [Hs Hs']
  · iapply (pointsTo_split_subset (Finset.subset_univ (batchAt L).view.set)).2
    isplitl [Hs] <;> iassumption
  isplitl [Hd]
  · rw [show idxV.view.write (Elt F) f (ReadAs.same.apply ((batchAt L).view.read (Elt F) fb)) Finset.univ = idxs L fb from View.write_whole_univ _ _ _]
    iexact Hd
  isplitl [HS]; · iexact HS
  iapply (owing_wait d L W₀ _ W' hW') $$ HO

/-! ## Staging, and the barrier -/

theorem stagesWord_iff : stagesWord L = 1#1 ↔ (jV L).val = 0 := by
  show stagesWord L = 1#1 ↔ (L 1).val = 0
  have h := lt_sub L
  unfold stagesWord
  generalize (L 1).val = n at h ⊢
  revert n
  decide

variable (fp : (d : Dev nD) → S256x128.Idx → Elt F .f32)

/-- What a tile has to hand over at the barrier: tile 0 the shared scratch. -/
def handsOver : sProp 𝕄 := if (jV L).val = 0 then sharedPts fp d (cV L) fullShare else iprop(emp)

theorem handsOver_pays : (handsOver d L fp : sProp 𝕄)
    ⊢ bigSep Finset.univ fun j : Fin (grid0.bound 1) => (bRd fp).payload (bcell d (cV L) (j.castLE hsub0)) 0 (jV L).val := by
  unfold handsOver
  by_cases h : (jV L).val = 0
  · rw [if_pos h, sharedPts, pointsTo_piecesOf Finset.univ _ (by decide : 0 < 16)]
    refine Entails.of_eq (bigSep_congr fun j _ => ?_)
    show _ = bPay fp (bcell d (cV L) (j.castLE hsub0)) (jV L).val
    unfold bPay
    dsimp only
    rw [if_pos h]
    rfl
  · rw [if_neg h]
    rw [show (fun j : Fin (grid0.bound 1) => (bRd fp).payload (bcell d (cV L) (j.castLE hsub0)) 0 (jV L).val) = fun _ => (iprop(emp) : sProp 𝕄) from
      funext fun j => if_neg h]
    exact Entails.of_eq (bigSep_emp_const _).symm

theorem pays_share : (bigSep ((bRd fp).duties (bcell d (cV L) (jV L)) 0 \ ∅) fun n => (bRd fp).payload (bcell d (cV L) (jV L)) 0 n)
    ⊢ (sharedPts fp d (cV L) (sharedShare (jV L)) : sProp 𝕄) := by
  rw [Finset.sdiff_empty, bRd_duties₀]
  exact bigSep_elim (Φ := fun n => (bRd fp).payload (bcell d (cV L) (jV L)) 0 n) (i := (0 : ℕ))
    (Finset.mem_image.mpr ⟨(⟨0, by decide⟩ : Fin τ.nSub), Finset.mem_univ _, rfl⟩)

/-- Tile 0 stages, the others pass. -/
theorem wp_maybeStage (p : PUnit.{1} → TaskProg F L) (Q : PUnit.{1} → sProp 𝕄) :
    iprop(stagerTakes fp d (cV L) (jV L) ∗ semVal (stageCell d L) 0 ∗ owing d L O W₀ ∗ Transfers.MayWaits (thr d L) (default : HIx 1) O)
      ⊢ iprop((iprop(stagerBrings fp d (cV L) (jV L) ∗ handsOver d L fp ∗ semVal (stageCell d L) 0 ∗ owing d L O W₀) -∗ WP (p ⟨⟩) Q)
          -∗ WP ((if _h : stagesWord L = 1#1 then stage L else pure ⟨⟩) >>= p) Q) := by
  unfold stagerTakes stagerBrings handsOver
  by_cases h : (jV L).val = 0
  · rw [if_pos h, if_pos h, if_pos h, dif_pos ((stagesWord_iff L).mpr h)]
    iintro ⟨⟨Hp, %f, Hs⟩, HS, HO, #Hmw⟩ Hk
    iapply (wp_stage d L O W₀ (fp d) f _ p) $$ [Hp Hs HS HO]
    · isplitl [Hp]; · iexact Hp
      isplitl [Hs]; · iexact Hs
      isplitl [HS]; · iexact HS
      isplitl [HO]; · iexact HO
      iexact Hmw
    iexact Hk
  · rw [if_neg h, if_neg h, if_neg h, dif_neg fun e => h ((stagesWord_iff L).mp e), pure_bind]
    iintro ⟨-, HS, HO, -⟩ Hk
    iapply Hk
    isplitr; · iempintro
    isplitr; · iempintro
    isplitl [HS] <;> iassumption

end Program

end Cert.Proof.Expand

end
-- ==== Proof.Body.lean ====
/-
  A tile's whole task, and the obligation of the call's tiles.

  A tile's rows of the result are put in write mode before its chunks and taken out after them: all of them are then
  marked as written, so all of them hold the target.
-/
module

public import proofs.«01_k».proof.Proof.Tile

@[expose] public section

noncomputable section

namespace Cert.Proof.Expand

open Cert.Kernel Cert.Kernel.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable (d : Dev nD) (L : grid0.Coords)

/-! ## The slots, dealt and gathered -/

section Deal

variable (fp : S256x128.Idx → Elt F .f32) (fb : S100000.Idx → Elt F .i32) (hb : ∀ x, (fb x).toNat < 256)
  (fo : S100000x128.Idx → Elt F .f32) (qs : PosShare TreeShare)

/-- A tile's rows of the result in write mode, the rows `W` written. -/
abbrev outRows (W : Finset S100000x128.Idx) : sProp 𝕄 :=
  willBeTo (Ix := HIx 1) (Name := ℕ) (Lvl := ℕ) (eW (F := F)) (outV.view.loc (thr d L)) (tileRows L) fullShare fo (fun i => some (tgt fp fb hb i)) W

/-- What the slots share and have, all slots together. -/
theorem slots_eq (W : Fin 6 → Finset S100000x128.Idx) :
    (bigSep Finset.univ fun s : Fin 6 => free d L fp fb hb fo qs s (W s))
      = (iprop((bigSep Finset.univ fun s : Fin 6 => (iprop(∃ f, bufAt d L s f) : sProp 𝕄))
        ∗ (bigSep Finset.univ fun s : Fin 6 => semVal (cellG d L s) 0) ∗ (bigSep Finset.univ fun s : Fin 6 => semVal (cellW d L s) 0)
        ∗ (sharedAt.view.loc (thr d L) ↦{qs} fp) ∗ (idxV.view.loc (thr d L) ↦{fullShare} idxs L fb)
        ∗ outRows d L fp fb hb fo (Finset.univ.biUnion W)) : sProp 𝕄) := by
  unfold free
  rw [bigSep_sep', bigSep_sep', bigSep_sep', bigSep_sep', bigSep_sep',
    pointsTo_piecesOf (ℓ := sharedAt.view.loc (thr d L)) Finset.univ fp (by decide : 0 < 6),
    pointsTo_piecesOf (ℓ := idxV.view.loc (thr d L)) Finset.univ (idxs L fb) (by decide : 0 < 6)]
  unfold outRows
  rw [willBeTo_piecesOf (ℓ := outV.view.loc (thr d L)) (tileRows L) fo (fun i => some (tgt fp fb hb i)) (by decide : 0 < 6) fullShare W]

theorem bufs_deal : iprop(∃ f, rowsV.view.loc (thr d L) ↦{fullShare} f)
    ⊢ (bigSep Finset.univ fun s : Fin 6 => (iprop(∃ f, bufAt d L s f) : sProp 𝕄)) := by
  iintro ⟨%f, H⟩
  have h : (rowsV.view.loc (thr d L) ↦{fullShare} f : sProp 𝕄) ⊢ (bigSep Finset.univ fun s : Fin 6 => (iprop(∃ f, bufAt d L s f) : sProp 𝕄)) := by
    rw [bufs_split d L f]
    exact bigSep_mono fun s _ => exists_intro (Φ := fun f => bufAt d L s f) f
  iapply h $$ H

/-- All the tile's rows written, they hold the target. -/
theorem written : ((outV.view.loc (thr d L) ↦[tileRows L]{fullShare}
      ((Finset.univ.biUnion (allMarks L)).piecewise (tgt fp fb hb) fo : S100000x128.Idx → Elt F .f32)) : sProp 𝕄)
    = iprop(outV.view.loc (thr d L) ↦[tileRows L]{fullShare} tgt fp fb hb) :=
  pointsTo_congr fun i hi => Finset.piecewise_eq_of_mem _ _ _ (tileRows_subset_allMarks L hi)

variable [FloatOps F] (O : CellTallies nD τ sig (HIx 1)) (W₀ : Waits sig (HIx 1))

local notation "WP" => wp frame (wpE (defs₀ (F := F)) 𝒱₀ (thr d L) none) Set.univ

/-- What the chunks need and leave, the tile's rows of the result apart. -/
abbrev tools : sProp 𝕄 :=
  iprop((∃ f, rowsV.view.loc (thr d L) ↦{fullShare} f)
    ∗ (bigSep Finset.univ fun s : Fin 6 => semVal (cellG d L s) 0) ∗ (bigSep Finset.univ fun s : Fin 6 => semVal (cellW d L s) 0)
    ∗ (sharedAt.view.loc (thr d L) ↦{qs} fp) ∗ (idxV.view.loc (thr d L) ↦{fullShare} idxs L fb))

/-- A tile's chunks fill its rows of the result with the target. -/
theorem wp_fillRows (ιwm : ℕ) (Q : PUnit.{1} → sProp 𝕄) :
    iprop(wmInv (eW (F := F)) ιwm ∗ tools d L fp fb qs ∗ (outV.view.loc (thr d L) ↦[tileRows L]{fullShare} fo) ∗ owing d L O W₀
        ∗ Transfers.MayWaits (thr d L) (default : HIx 1) O)
      ⊢ iprop((iprop(tools d L fp fb qs ∗ (outV.view.loc (thr d L) ↦[tileRows L]{fullShare} tgt fp fb hb) ∗ owing d L O W₀) -∗ Q ⟨⟩)
          -∗ WP (chunks L) Q) := by
  iintro ⟨#Hinv, ⟨⟨%f₀, Hr⟩, HG, HW, Hs, Hi⟩, Ho, HO, #Hmw⟩ Hk
  imod (pointsTo_castIn (emb := eW (F := F)) (ιwm := ιwm) (ℓ := outV.view.loc (thr d L)) (fun i => some (tgt fp fb hb i)) (Set.mem_univ _)) $$ [Ho] with Ho
  · isplitr; · iexact Hinv
    iexact Ho
  iapply (wp_fupd frame (wpE (defs₀ (F := F)) 𝒱₀ (thr d L) none) Set.univ (chunks L) Q)
  iapply (wp_chunks d L fp fb hb fo qs O W₀ ιwm (fun _ => iprop(|={Set.univ}=> Q ⟨⟩))) $$ [Hr HG HW Hs Hi Ho HO]
  · isplitr; · iexact Hinv
    isplitr [HO]
    · rw [slots_eq d L fp fb hb fo qs fun _ => ∅]
      isplitl [Hr]; · iapply (bufs_deal d L); iexists f₀; iexact Hr
      isplitl [HG]; · iexact HG
      isplitl [HW]; · iexact HW
      isplitl [Hs]; · iexact Hs
      isplitl [Hi]; · iexact Hi
      rw [show (Finset.univ.biUnion fun _ : Fin 6 => (∅ : Finset S100000x128.Idx)) = ∅ from
        Finset.eq_empty_of_forall_notMem fun x hx => by obtain ⟨_, _, h⟩ := Finset.mem_biUnion.mp hx; exact absurd h (Finset.notMem_empty x)]
      iexact Ho
    isplitl [HO]; · iexact HO
    iexact Hmw
  rw [slots_eq d L fp fb hb fo qs (allMarks L)]
  iintro ⟨⟨Hr, HG, HW, Hs, Hi, Ho⟩, HO⟩
  imod (willBeTo_castOut_some (emb := eW (F := F)) (ιwm := ιwm) (ℓ := outV.view.loc (thr d L)) (g := tgt fp fb hb)
    (Set.mem_univ _)) $$ [Ho] with Ho
  · isplitr; · iexact Hinv
    iexact Ho
  imodintro
  iapply Hk
  isplitl [Hr HG HW Hs Hi]
  · isplitl [Hr]; · iapply (bufs_join d L f₀); iexact Hr
    isplitl [HG]; · iexact HG
    isplitl [HW]; · iexact HW
    isplitl [Hs] <;> iassumption
  isplitl [Ho]; · rw [← written d L fp fb hb fo]; iexact Ho
  iexact HO

end Deal

/-! ## The task -/

section Task

variable [FloatOps F] (fp : (d : Dev nD) → S256x128.Idx → Elt F .f32) (fb : (d : Dev nD) → S100000.Idx → Elt F .i32)
  (hb : ∀ d x, (fb d x).toNat < 256) (fo : (d : Dev nD) → S100000x128.Idx → Elt F .f32)

theorem dite_bind {c : Prop} [Decidable c] (x : c → TaskProg F L) (k : PUnit.{1} → TaskProg F L) :
    (if h : c then x h >>= k else k ⟨⟩) = ((if h : c then x h else pure ⟨⟩) >>= k) := by
  split
  · rfl
  · rw [pure_bind]

theorem expand_bind : expand (F := F) L = ((if _h : stagesWord L = 1#1 then stage L else pure ⟨⟩) >>= fun _ =>
    SparseCore.subcoreBarrier sc_bar0 (grid0.bound 1) hsub0 >>= fun _ => copyIdx L >>= fun _ => chunks L) := by
  unfold expand
  exact dite_bind L (fun _ => stage L) _

/-- The task of tile `L`: what it takes and what it leaves. -/
theorem tile_body (q : PosShare TreeShare) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ kit fp d (cV L) (jV L)
        ∗ (stagerTakes fp d (cV L) (jV L) ∗ batchPts fb d q ∗ outLoc d ↦[tileRows L]{fullShare} fo d)
        ∗ scopedBufs (thr d L) ∗ scopedSems0 (thr d L) ∗ owes (thr d L) (O + oxV d (cV L)) W)
      ⊢ wp frame (wpE (defs₀ (F := F)) 𝒱₀ (thr d L) none) Set.univ (expand L)
          fun _ => iprop((stagerBrings fp d (cV L) (jV L) ∗ batchPts fb d q ∗ (outLoc d ↦[tileRows L]{fullShare} tgt (fp d) (fb d) (hb d))
              ∗ sharedPts fp d (cV L) (sharedShare (jV L)) ∗ semVal (bcell d (cV L) (jV L)) 0)
            ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨RS, hRS⟩ := ownSems0_tile (F := F) d L
  obtain ⟨RB, hRB⟩ := ownBufs_tile (F := F) d L
  rw [(K (F := F)).scopedBufs_V facts d (cV L) (jV L), SparseCore.Cfg.scopedSems0_V (Val := Elt F) d (cV L) (jV L), hRS, hRB, expand_bind]
  unfold kit bkit
  iintro ⟨#Hlv, ⟨⟨⟨%κ, #Hinv⟩, Htoks, #Hrch, Hat, Hcred⟩, %ιwm, #Hwm⟩, ⟨Hst, Hb, Ho⟩, ⟨⟨%fi, Hi⟩, Hr, HRB⟩, ⟨⟨HG, HW, HA, HI⟩, HRS⟩, HO⟩
  have hO' : ∀ g, (O + oxV d (cV L)) g none = 0 := fun g => by rw [Pi.add_apply, Finsupp.add_apply, hO g, oxV_none]
  ihave #Hmw1 := (show levAts (K (F := F)).L (K (F := F)).lev ⊢ Transfers.MayWaits (thr d L) (default : HIx 1) (O + oxV d (cV L)) from
    (K (F := F)).mayWaits_none (thr := thr d L) hO') $$ Hlv
  ihave #Hmw2 := (show levAts (K (F := F)).L (K (F := F)).lev ⊢ Transfers.MayWaits (thr d L) (default : HIx 1) O from
    (K (F := F)).mayWaits_none (thr := thr d L) hO) $$ Hlv
  -- tile 0 stages
  iapply (wp_maybeStage d L (O + oxV d (cV L)) W fp _ _) $$ [Hst HA HO]
  · isplitl [Hst]; · iexact Hst
    isplitl [HA]; · iexact HA
    isplitl [HO]
    · unfold owing
      iexists W
      isplitr; swap; · iexact HO
      ipureintro
      exact fun p hp => .inl hp
    iexact Hmw1
  unfold owing
  iintro ⟨Hst, Hho, HA, %W₁, %hW₁, HO⟩
  -- the barrier
  ihave Hpays := (handsOver_pays d L fp) $$ Hho
  iapply (SparseCore.wp_subcoreBarrier 𝒱₀ none EB (bRd fp) d (sc := cV L) (i := jV L) sc_bar0 (grid0.bound 1) hsub0 (L 1) rfl κ (fun _ => 0) (jV L).val
      (fun j => bRd_mem₀ fp d _ _ _) (fun _ => rfl) (bRd_expect fp d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd fp) (g := bcell d (cV L) (jV L)) (Set.mem_univ (κ _)) (fun h => h) (bRd_duties_succ fp _)) $$ [Hat] with Hbar
  · isplitr
    · iapply (SparseCore.ent (bigSep_elim (Φ := fun j : Fin (grid0.bound 1) =>
        (cellInv EB (bRd fp) (κ (bcell d (cV L) (j.castLE hsub0))) (bcell d (cV L) (j.castLE hsub0)) : sProp 𝕄)) (Finset.mem_univ (L 1)))); iexact Hinv
    · iexact Hat
  ihave Hsh := (pays_share d L fp) $$ Hgot
  -- the indices
  iapply (wp_copyIdx d L O W (fb d) fi q _ _) $$ [Hb Hi HI HO]
  · isplitl [Hb]; · iexact Hb
    isplitl [Hi]; · iexact Hi
    isplitl [HI]; · iexact HI
    isplitl [HO]
    · unfold owing
      iexists _
      isplitr; swap; · iexact HO
      ipureintro
      intro p hp
      rcases Finset.mem_insert.mp hp with hp | hp
      · exact .inr (.inr (hp ▸ rfl))
      · exact hW₁ p hp
    iexact Hmw2
  iintro ⟨Hb, Hi, HI, HO⟩
  -- the chunks
  iapply (wp_fillRows d L (fp d) (fb d) (hb d) (fo d) (sharedShare (jV L)) O W ιwm _) $$ [Hr HG HW Hsh Hi Ho HO]
  · isplitr; · iexact Hwm
    isplitl [Hr HG HW Hsh Hi]
    · isplitl [Hr]; · iexact Hr
      isplitl [HG]; · iexact HG
      isplitl [HW]; · iexact HW
      isplitl [Hsh]; · iexact Hsh
      iexact Hi
    isplitl [Ho]; · iexact Ho
    isplitl [HO]; · iexact HO
    iexact Hmw2
  unfold owing
  iintro ⟨⟨Hr, HG, HW, Hsh, Hi⟩, Ho, HO⟩
  isplitl [Hst Hb Ho Hsh Hbar]
  · isplitl [Hst]; · iexact Hst
    isplitl [Hb]; · iexact Hb
    isplitl [Ho]; · iexact Ho
    isplitl [Hsh]; · iexact Hsh
    iexact Hbar
  isplitl [Hi Hr HRB]
  · isplitl [Hi]; · iexists _; iexact Hi
    isplitl [Hr] <;> iassumption
  isplitl [HG HW HA HI HRS]
  · isplitr [HRS]; swap; · iexact HRS
    isplitl [HG]; · iexact HG
    isplitl [HW]; · iexact HW
    isplitl [HA] <;> iassumption
  iexact HO

/-! ## The obligation -/

theorem defs₀_vector (c : Fin τ.nSC) (s : Fin τ.nSub) :
    defs₀ (F := F) (.scVector c s) 0 () = SparseCore.onTile hcore0 hsub0 (fun c s => expand (coordsV c s)) ⟨⟩ c s := by
  rw [show (fun c s => expand (F := F) (coordsV c s)) = fun c s => _ from funext fun c => funext fun s => (expand_eq (coordsV c s)).symm]
  rfl

set_option maxRecDepth 16384 in
theorem tileObl : (K (F := F)).TileObl (D (F := F)) 𝒱 (P fp fb hb fo) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) fp fb hb fo _ O W hO hOlev

end Task

end Cert.Proof.Expand

end
-- ==== Proof.Deal.lean ====
/-
  How the arrays are dealt: by the TensorCore between the two SparseCores, and by a sequencer between its sixteen tiles.
-/
module

public import proofs.«01_k».proof.Proof.Body

@[expose] public section

noncomputable section

namespace Cert.Proof.Expand

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

/-! ## The rows of the result, over all tiles -/

theorem mem_rowsOf (x : Fin τ.nSC × Fin τ.nSub) (i : S100000x128.Idx) :
    i ∈ rowsOf x.1 x.2 ↔ (i 0).val / 3200 = 2 * x.2.val + x.1.val := by
  have hc : x.1.val < 2 := x.1.isLt
  unfold rowsOf tileRows
  rw [Finset.mem_filter]
  show _ ∧ 6400 * x.2.val + 3200 * x.1.val ≤ (i 0).val ∧ (i 0).val < 6400 * x.2.val + 3200 * x.1.val + 3200 ↔ _
  constructor
  · rintro ⟨-, h⟩; omega
  · intro h; exact ⟨Finset.mem_univ _, by omega⟩

theorem rowsOf_disjoint : ∀ x ∈ (Finset.univ : Finset (Fin τ.nSC × Fin τ.nSub)), ∀ y ∈ (Finset.univ : Finset (Fin τ.nSC × Fin τ.nSub)), x ≠ y →
    Disjoint (rowsOf x.1 x.2) (rowsOf y.1 y.2) := fun x _ y _ h =>
  Finset.disjoint_left.mpr fun i hx hy => h (by
    have e := ((mem_rowsOf x i).mp hx).symm.trans ((mem_rowsOf y i).mp hy)
    have hx1 : x.1.val < 2 := x.1.isLt
    have hy1 : y.1.val < 2 := y.1.isLt
    exact Prod.ext (Fin.ext (by omega)) (Fin.ext (by omega)))

theorem rowsOf_cover : ((Finset.univ : Finset (Fin τ.nSC × Fin τ.nSub)).biUnion fun x => rowsOf x.1 x.2) = Finset.univ :=
  Finset.eq_univ_iff_forall.mpr fun i => by
    have hi : (i 0).val < 100000 := (i 0).isLt
    have hq : (i 0).val / 3200 < 32 := by omega
    refine Finset.mem_biUnion.mpr ⟨(⟨(i 0).val / 3200 % 2, Nat.mod_lt _ (by decide)⟩,
      ⟨(i 0).val / 3200 / 2, show (i 0).val / 3200 / 2 < 16 by omega⟩), Finset.mem_univ _, (mem_rowsOf _ i).mpr ?_⟩
    show (i 0).val / 3200 = 2 * ((i 0).val / 3200 / 2) + (i 0).val / 3200 % 2
    omega

theorem out_split (d : Dev nD) (f : S100000x128.Idx → Elt F .f32) : (outLoc d ↦{fullShare} f : sProp 𝕄)
    = bigSep Finset.univ fun c : Fin τ.nSC => bigSep Finset.univ fun i : Fin τ.nSub => rowsPts d c i f := by
  have h := pointsTo_biUnion (Ix := HIx 1) (Name := ℕ) (U := UU F) (Lvl := ℕ) (Val := Elt F) (q := fullShare) (f := f) Finset.univ (ℓ := outLoc d)
    (fun x : Fin τ.nSC × Fin τ.nSub => rowsOf x.1 x.2) rowsOf_disjoint
  rw [rowsOf_cover, bigSep_univ_prod] at h
  exact h

/-! ## Between the SparseCores -/

section

variable (fp : (d : Dev nD) → S256x128.Idx → Elt F .f32) (fb : (d : Dev nD) → S100000.Idx → Elt F .i32)
  (hb : ∀ d x, (fb d x).toNat < 256) (fo : (d : Dev nD) → S100000x128.Idx → Elt F .f32)

/-- The three arrays, the result at `f`: what the two SparseCores have together. -/
theorem cores_eq (d : Dev nD) (f : S100000x128.Idx → Elt F .f32) :
    (bigSep Finset.univ fun c : Fin τ.nSC => coreArrays fp fb d c f)
      = (iprop(pooledPts fp d fullShare ∗ batchPts fb d fullShare ∗ outLoc d ↦{fullShare} f) : sProp 𝕄) := by
  rw [bigSep_sep', bigSep_sep', out_split, pooledPts, batchPts, pointsTo_piecesOf (ℓ := pooledLoc d) Finset.univ (fp d) (by decide : 0 < 2),
    pointsTo_piecesOf (ℓ := batchLoc d) Finset.univ (fb d) (by decide : 0 < 2)]

/-! ## Between a SparseCore's tiles -/

/-- What only tile 0 has. -/
theorem bigSep_first (X : sProp 𝕄) : (bigSep Finset.univ fun i : Fin τ.nSub => if i.val = 0 then X else iprop(emp)) = X := by
  show (bigSep Finset.univ fun i : Fin (15 + 1) => if i.val = 0 then X else iprop(emp)) = X
  rw [bigSep_univ_succ, if_pos (show ((0 : Fin (15 + 1)).val = 0) from rfl), show (fun k : Fin 15 => if (k.succ).val = 0 then X else iprop(emp)) = fun _ => (iprop(emp) : sProp 𝕄) from
    funext fun k => if_neg (Nat.succ_ne_zero _)]
  exact (congrArg (fun Y => iprop(X ∗ Y)) (bigSep_emp_const _)).trans (equiv_iff.mp sep_emp)

/-- The shared scratch is one of the sequencer's own buffers. -/
theorem ownBufs_seq (d : Dev nD) (c : Fin τ.nSC) : ∃ R : sProp 𝕄, (ownBufs (S d c) : sProp 𝕄) = iprop((∃ f, sharedLoc d c ↦{fullShare} f) ∗ R) :=
  ⟨_, SparseCore.bigSep_erase' ((mem_ownRefs (p := Proc.scScalar c) (b := sharedRef c)).mpr rfl)⟩

theorem tilesIn_eq (d : Dev nD) (c : Fin τ.nSC) (f : S100000x128.Idx → Elt F .f32) :
    (bigSep Finset.univ fun i : Fin τ.nSub => tileIn fp fb d c i f)
      = (iprop((pooledPts fp d (coreShare c) ∗ ∃ f, sharedLoc d c ↦{fullShare} f) ∗ batchPts fb d (coreShare c)
        ∗ bigSep Finset.univ fun i : Fin τ.nSub => rowsPts d c i f) : sProp 𝕄) := by
  rw [bigSep_sep', bigSep_sep', batchPts, pointsTo_piecesOf (ℓ := batchLoc d) Finset.univ (fb d) (by decide : 0 < 16)]
  unfold stagerTakes
  rw [bigSep_first]

theorem tilesOut_eq (d : Dev nD) (c : Fin τ.nSC) :
    (bigSep Finset.univ fun i : Fin τ.nSub => tileOut fp fb hb d c i)
      = (iprop(pooledPts fp d (coreShare c) ∗ batchPts fb d (coreShare c)
        ∗ (bigSep Finset.univ fun i : Fin τ.nSub => rowsPts d c i (tgt (fp d) (fb d) (hb d))) ∗ sharedPts fp d c fullShare ∗ bars d c) : sProp 𝕄) := by
  rw [bigSep_sep', bigSep_sep', bigSep_sep', bigSep_sep', batchPts, sharedPts, pointsTo_piecesOf (ℓ := batchLoc d) Finset.univ (fb d) (by decide : 0 < 16),
    pointsTo_piecesOf (ℓ := sharedLoc d c) Finset.univ (fp d) (by decide : 0 < 16)]
  unfold stagerBrings
  rw [bigSep_first]

theorem vecSplit [FloatOps F] : (K (F := F)).VecSplit (P fp fb hb fo) 0 := by
  intro d c
  obtain ⟨R, hR⟩ := ownBufs_seq (F := F) d (coreOf (F := F) c)
  show iprop(coreArrays fp fb d (coreOf (F := F) c) (fo d) ∗ ownBufs (S d (coreOf (F := F) c))) ⊢ |={Set.univ}=> iprop(
    (bigSep Finset.univ fun i : Fin τ.nSub => tileIn fp fb d (coreOf (F := F) c) i (fo d))
      ∗ ((bigSep Finset.univ fun i : Fin τ.nSub => tileOut fp fb hb d (coreOf (F := F) c) i)
        -∗ iprop(iprop(coreArrays fp fb d (coreOf (F := F) c) (tgt (fp d) (fb d) (hb d)) ∗ bars d (coreOf (F := F) c)) ∗ ownBufs (S d (coreOf (F := F) c)))))
  rw [tilesIn_eq, tilesOut_eq, hR]
  iintro ⟨⟨Hp, Hb, Ho⟩, Hs, HR⟩
  imodintro
  isplitr [HR]
  · isplitl [Hp Hs]
    · isplitl [Hp] <;> iassumption
    isplitl [Hb] <;> iassumption
  iintro ⟨Hp, Hb, Ho, Hs, Hbars⟩
  isplitr [Hs HR]
  · isplitr [Hbars]; swap; · iexact Hbars
    isplitl [Hp]; · iexact Hp
    isplitl [Hb] <;> iassumption
  isplitl [Hs]; · iexists _; iexact Hs
  iexact HR

end

end Cert.Proof.Expand

end
-- ==== Proof.Launch.lean ====
/-
  The launch: the certificate's ghost state at the start and what each thread has of it, @main on the TensorCore, and what
  a finished run has in memory.
-/
module

public import proofs.«01_k».proof.Proof.Deal

@[expose] public section

noncomputable section

namespace Cert.Proof.Expand

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

/-! ## The ghost state at the start -/

/-- A tile of the machine, and its barrier semaphore. -/
abbrev Tile : Type := Dev nD × Fin τ.nSC × Fin τ.nSub
abbrev barOf (t : Tile) : GSem nD τ sig := bcell t.1 t.2.1 t.2.2
abbrev mate (t : Tile) (j : Fin (grid0.bound 1)) : GSem nD τ sig := bcell t.1 t.2.1 (j.castLE hsub0)

theorem barOf_injective : Function.Injective barOf := fun a b e => by
  obtain ⟨h, -⟩ := Prod.mk.inj e
  obtain ⟨h₁, h₂⟩ := Prod.mk.inj h
  obtain ⟨h₃, h₄⟩ := Proc.scVector.inj h₂
  exact Prod.ext h₁ (Prod.ext h₃ h₄)

/-- All barrier semaphores. -/
def barCells : Finset (GSem nD τ sig) := Finset.univ.image barOf
/-- A tile's token in the round of each tile of its SparseCore. -/
def barToks : Finset (GSem nD τ sig × ℕ × ℕ) :=
  (Finset.univ : Finset (Tile × Fin (grid0.bound 1))).image fun x => (mate x.1 x.2, 0, x.1.2.2.val)

theorem barCells_eq (Φ : GSem nD τ sig → sProp 𝕄) : bigSep barCells Φ = bigSep Finset.univ fun t : Tile => Φ (barOf t) :=
  SparseCore.bigSep_image_of_injOn barOf_injective.injOn Φ

theorem barToks_eq (Φ : GSem nD τ sig × ℕ × ℕ → sProp 𝕄) :
    bigSep barToks Φ = bigSep Finset.univ fun t : Tile => bigSep Finset.univ fun j : Fin (grid0.bound 1) => Φ (mate t j, 0, t.2.2.val) := by
  refine (SparseCore.bigSep_image_of_injOn (fun x _ y _ e => ?_) Φ).trans (bigSep_univ_prod _)
  obtain ⟨e₁, e₂⟩ := Prod.mk.inj e
  obtain ⟨h, -⟩ := Prod.mk.inj e₁
  obtain ⟨hd, hp⟩ := Prod.mk.inj h
  obtain ⟨hc, hj⟩ := Proc.scVector.inj hp
  exact Prod.ext (Prod.ext hd (Prod.ext hc (Fin.ext (Prod.mk.inj e₂).2))) (Fin.ext (congrArg Fin.val hj))

def u₀ : UU F := (initOf (K (F := F)).hsCells (K (F := F)).hsToks, (initOf barCells barToks, (wm₀ nD τ sig (Elt F), 1)))

theorem u₀_split : (ownU (u₀ (F := F)) : sProp 𝕄)
    ⊢ iprop(BI.own (EH (initOf (K (F := F)).hsCells (K (F := F)).hsToks)) ∗ BI.own (EB (initOf barCells barToks)) ∗ ownU (eW (wm₀ nD τ sig (Elt F)))) :=
  have h₁ : (ownU (u₀ (F := F)) : sProp 𝕄) ⊢ iprop(BI.own (EH (initOf (K (F := F)).hsCells (K (F := F)).hsToks))
      ∗ ownU ((1, (initOf barCells barToks, (wm₀ nD τ sig (Elt F), 1))) : UU F)) :=
    BI.own_op_elim ((uEmb (nD := nD) (sig := sig) (Ix := HIx 1) (Val := Elt F) (Name := ℕ) (U := UU F) (Lvl := ℕ)).toEmb.op_of_mem
      (Prod.mk_mem_op (URA.mem_op_one _) (URA.mem_one_op _)))
  have h₂ : (ownU ((1, (initOf barCells barToks, (wm₀ nD τ sig (Elt F), 1))) : UU F) : sProp 𝕄)
      ⊢ iprop(BI.own (EB (initOf barCells barToks)) ∗ ownU (eW (wm₀ nD τ sig (Elt F)))) :=
    BI.own_op_elim ((uEmb (nD := nD) (sig := sig) (Ix := HIx 1) (Val := Elt F) (Name := ℕ) (U := UU F) (Lvl := ℕ)).toEmb.op_of_mem
      (Prod.mk_mem_op (URA.mem_one_op _) (Prod.mk_mem_op (URA.mem_op_one _) (URA.mem_one_op _))))
  h₁.trans (sep_mono_right h₂)

variable (fp : (d : Dev nD) → S256x128.Idx → Elt F .f32) (fb : (d : Dev nD) → S100000.Idx → Elt F .i32)
  (hb : ∀ d x, (fb d x).toNat < 256) (fo : (d : Dev nD) → S100000x128.Idx → Elt F .f32)

theorem bars_free : ((K (F := F)).freeOn (· ∈ barCells) : sProp 𝕄) ⊢ bigSep barCells fun g => semVal g 0 := by
  unfold SparseCore.Cfg.freeOn
  rw [barCells_eq]
  refine sep_elim_right.trans (bigSep_mono fun t _ => ?_)
  exact bigSep_elim (Φ := fun sm : SemLoc sig => (semVal (V t.1 t.2.1 t.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem barOf (Finset.mem_univ t)⟩)

theorem bars_invs : iprop((bigSep barCells fun g => (semVal g 0 : sProp 𝕄)) ∗ bigSep barCells fun g => roundState EB (bRd fp) g 0)
    ⊢ |={Set.univ}=> iprop(∃ κ : GSem nD τ sig → ℕ, bigSep barCells fun g => cellInv EB (bRd fp) (κ g) g) := by
  refine ((Rounds.bodies_intro EB (bRd fp) barCells).trans (inv_alloc_family barCells (Rounds.body EB (bRd fp)) ∅ (E := Set.univ))).trans ?_
  iintro H
  imod H with ⟨%κ, -, Hinv⟩
  imodintro
  iexists κ
  iexact Hinv

theorem tallies (g : GSem nD τ sig) (ι : HIx 1) (n : ℕ) : ∑ _ : Fin n, tallyAt g ι 1 = (tallyAt g ι n : CellTallies nD τ sig (HIx 1)) := by
  induction n with
  | zero => rw [tallyAt_zero]; exact Finset.sum_of_isEmpty _
  | succ n ih => rw [Fin.sum_univ_castSucc, ih, tallyAt_add]

/-- The credit for what the tiles owe at the barrier, by the tile it is owed to. -/
theorem bars_creds [FloatOps F] : ((P fp fb hb fo).oxCred : sProp 𝕄) ⊢ bigSep Finset.univ fun t : Tile => cred (tallyAt (barOf t) (some 0) (grid0.bound 1)) := by
  unfold SparseCore.Cfg.Pay.oxCred
  rw [SparseCore.Cfg.bigSep_threads (fun thr : Thread nD τ => (cred ((P fp fb hb fo).oxFrom 0 thr) : sProp 𝕄))]
  refine sep_elim_right.trans (sep_elim_right.trans ?_)
  rw [bigSep_univ_prod, bigSep_univ_prod (fun t : Tile => (cred (tallyAt (barOf t) (some 0) (grid0.bound 1)) : sProp 𝕄))]
  refine bigSep_mono fun d _ => ?_
  rw [bigSep_univ_prod, bigSep_univ_prod (fun ci : Fin τ.nSC × Fin τ.nSub => (cred (tallyAt (barOf (d, ci)) (some 0) (grid0.bound 1)) : sProp 𝕄))]
  refine bigSep_mono fun c _ => ?_
  have hox : ∀ i, (P fp fb hb fo).oxFrom 0 (V d c i) = oxV d c := fun i => by
    rw [show (0 : ℕ) = (0 : Fin 1).val from rfl, (P fp fb hb fo).oxFrom_step, (P fp fb hb fo).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum]
  exact Entails.of_eq (congrArg (cred (nD := nD) (τ := τ) (sig := sig) (Val := Elt F) (Name := ℕ) (U := UU F) (Lvl := ℕ)) (tallies _ _ _))

/-- What every tile has alike: the invariants of all barrier semaphores, that their rounds have begun, write mode's. -/
def common (κ : GSem nD τ sig → ℕ) (ιwm : ℕ) : sProp 𝕄 :=
  iprop((bigSep Finset.univ fun t : Tile => cellInv EB (bRd fp) (κ (barOf t)) (barOf t)) ∗ (bigSep Finset.univ fun t : Tile => reached EB (barOf t) 0)
    ∗ wmInv (eW (F := F)) ιwm)

instance common_persistent (κ : GSem nD τ sig → ℕ) (ιwm : ℕ) : BI.Persistent (common fp κ ιwm) := by unfold common; infer_instance

/-- What is each tile's own. -/
abbrev own₁ (t : Tile) : sProp 𝕄 :=
  iprop(atPos EB (barOf t) 0 ∅ 0 ∗ (bigSep Finset.univ fun j : Fin (grid0.bound 1) => dutyTok EB (mate t j) 0 t.2.2.val)
    ∗ cred (tallyAt (barOf t) (some 0) (grid0.bound 1)))

theorem kit_intro (κ : GSem nD τ sig → ℕ) (ιwm : ℕ) (t : Tile) : iprop(common fp κ ιwm ∗ own₁ t) ⊢ (kit fp t.1 t.2.1 t.2.2 : sProp 𝕄) := by
  unfold common kit bkit
  iintro ⟨⟨#Hinv, #Hr, #Hwm⟩, Hat, Htok, Hcred⟩
  isplitr []; swap; · iexists ιwm; iexact Hwm
  isplitr
  · iexists κ
    iapply (SparseCore.ent (bigSep_intro_persistent (S := (Finset.univ : Finset (Fin (grid0.bound 1)))) fun j _ =>
      bigSep_elim (Φ := fun t : Tile => (cellInv EB (bRd fp) (κ (barOf t)) (barOf t) : sProp 𝕄)) (Finset.mem_univ (t.1, t.2.1, j.castLE hsub0))))
    iexact Hinv
  isplitl [Htok]; · iexact Htok
  isplitr
  · iapply (SparseCore.ent (bigSep_intro_persistent (S := (Finset.univ : Finset (Fin (grid0.bound 1)))) fun j _ =>
      bigSep_elim (Φ := fun t : Tile => (reached EB (barOf t) 0 : sProp 𝕄)) (Finset.mem_univ (t.1, t.2.1, j.castLE hsub0))))
    iexact Hr
  isplitl [Hat] <;> iassumption

/-- All the tiles' own, and what they have alike, as the launch theorem wants it. -/
theorem kits_deal [FloatOps F] (κ : GSem nD τ sig → ℕ) (ιwm : ℕ) : iprop(common fp κ ιwm ∗ bigSep Finset.univ own₁)
    ⊢ (bigSep Finset.univ fun thr : Thread nD τ => bigSep Finset.univ fun q : Fin 1 => (P fp fb hb fo).x q thr : sProp 𝕄) := by
  rw [SparseCore.Cfg.bigSep_threads (fun thr : Thread nD τ => bigSep Finset.univ fun q : Fin 1 => (P fp fb hb fo).x q thr)]
  have h : iprop(common fp κ ιwm ∗ bigSep Finset.univ own₁)
      ⊢ (bigSep Finset.univ fun t : Tile => bigSep Finset.univ fun q : Fin 1 => (P fp fb hb fo).x q (V t.1 t.2.1 t.2.2) : sProp 𝕄) := by
    have h₁ : common fp κ ιwm ⊢ (bigSep Finset.univ fun _ : Tile => common fp κ ιwm : sProp 𝕄) := bigSep_intro_persistent fun _ _ => Entails.refl _
    refine ((sep_mono_left h₁).trans (Entails.of_eq (bigSep_sep' _ _ _).symm)).trans (bigSep_mono fun t _ => ?_)
    rw [bigSep_univ_of_subsingleton (0 : Fin 1)]
    exact kit_intro fp κ ιwm t
  have h0 : ∀ {I : Type} [Fintype I], (iprop(emp) : sProp 𝕄) ⊢ bigSep Finset.univ fun _ : I => bigSep Finset.univ fun _ : Fin 1 => iprop(emp) := fun {I} _ => by
    rw [bigSep_univ_of_subsingleton (0 : Fin 1)]
    exact Entails.of_eq (bigSep_emp_const _).symm
  iintro H
  isplitr; · iapply h0; iempintro
  isplitr; · iapply h0; iempintro
  iapply h $$ H

theorem hu₀ [FloatOps F] (st : MemSt nD τ sig (Elt F)) : iprop(ownU (u₀ (F := F)) ∗ (P fp fb hb fo).oxCred ∗ (K (F := F)).freeOn (· ∈ barCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fp fb hb fo).x q thr) : sProp 𝕄) := by
  iintro ⟨Hu, Hcred, Hfree⟩
  icases (u₀_split (F := F)) $$ Hu with ⟨HH, HB, HW⟩
  imod (wmInv_alloc (emb := eW (F := F)) st (avoid := ∅)) $$ HW with ⟨%ιwm, -, #Hwm⟩
  imod (Rounds.fund EB (bRd fp) barCells barToks) $$ HB with ⟨Hst, #Hr, Hat, Htok⟩
  imod (bars_invs fp) $$ [Hfree Hst] with ⟨%κ, #Hinv⟩
  · isplitl [Hfree]; · iapply (bars_free (F := F)) $$ Hfree
    iexact Hst
  ihave Hcred' := (bars_creds fp fb hb fo) $$ Hcred
  imodintro
  isplitl [HH]; · iexact HH
  isplitr; · iapply (SparseCore.ent (Entails.of_eq (bigSep_emp_const _).symm)); iempintro
  iapply (kits_deal fp fb hb fo κ ιwm)
  isplitr
  · unfold common
    rw [← barCells_eq fun g => cellInv EB (bRd fp) (κ g) g, ← barCells_eq fun g => reached EB g 0]
    isplitr; · iexact Hinv
    isplitr; · iexact Hr
    iexact Hwm
  unfold own₁
  rw [bigSep_sep', bigSep_sep', ← barCells_eq fun g => atPos EB g 0 ∅ 0]
  isplitl [Hat]; · iexact Hat
  isplitl [Htok]; · rw [← barToks_eq fun x => dutyTok EB x.1 x.2.1 x.2.2]; iexact Htok
  iexact Hcred'

/-! ## @main on the TensorCore, and a finished run -/

section Main

variable [FloatOps F] (m : (ℓ : Loc nD τ sig) → Buf (Elt F) ℓ) (ρ : Dev nD → PrngReg) (hm : ∀ d x, (m (batchLoc d) x).toNat < 256)

/-- The handshakes from the memory `m`. -/
abbrev Pm : (K (F := F)).Pay (nD := nD) (Val := Elt F) (Name := ℕ) (U := UU F) :=
  P (fun d => m (pooledLoc d)) (fun d => m (batchLoc d)) hm (fun d => m (outLoc d))

/-- What the result is to hold. -/
abbrev want (d : Dev nD) : S100000x128.Idx → Elt F .f32 := tgt (m (pooledLoc d)) (m (batchLoc d)) (hm d)

theorem arrays_eq (d : Dev nD) (W : (b : Ref sig .tc) → Buf (Elt F) ((d.tc : Thread nD τ).loc b)) :
    (unscopedBufs d W : sProp 𝕄)
      = iprop((pooledLoc d ↦{fullShare} W main_arg0) ∗ (batchLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main ends with: the arrays, the result at what it is to hold, and all the barrier semaphores. -/
abbrev FIN (d : Dev nD) : sProp 𝕄 :=
  iprop((pooledLoc d ↦{fullShare} m (pooledLoc d)) ∗ (batchLoc d ↦{fullShare} m (batchLoc d)) ∗ (outLoc d ↦{fullShare} want m hm d)
    ∗ bigSep Finset.univ fun c : Fin τ.nSC => bars d c)

theorem starts_eq (d : Dev nD) : (bigSep Finset.univ fun c : Fin ((K (F := F)).nCore 0) => (Pm m hm).st 0 d c)
    = iprop((pooledLoc d ↦{fullShare} m (pooledLoc d)) ∗ (batchLoc d ↦{fullShare} m (batchLoc d)) ∗ outLoc d ↦{fullShare} m (outLoc d)) :=
  cores_eq (fun d => m (pooledLoc d)) (fun d => m (batchLoc d)) d (m (outLoc d))

theorem dones_eq (d : Dev nD) : (bigSep Finset.univ fun c : Fin ((K (F := F)).nCore 0) => (Pm m hm).dn 0 d c)
    = iprop(((pooledLoc d ↦{fullShare} m (pooledLoc d)) ∗ (batchLoc d ↦{fullShare} m (batchLoc d)) ∗ outLoc d ↦{fullShare} want m hm d)
      ∗ bigSep Finset.univ fun c : Fin τ.nSC => bars d c) := by
  rw [← cores_eq (fun d => m (pooledLoc d)) (fun d => m (batchLoc d)) d (want m hm d)]
  exact bigSep_sep' _ _ _

theorem hmain (κ : GSem nD τ sig → ℕ) (d : Dev nD) :
    iprop((K (F := F)).ctx EH (Pm m hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [arrays_eq]
  simp only [main, wp_bind, wp_pure]
  iintro ⟨#Hctx, Hst, ⟨Hb, Harr, Hts, -⟩, -⟩
  iapply ((K (F := F)).wp_run (D (F := F)) 𝒱 (EH := EH) (P := Pm m hm) κ d 0) $$ [Hst Harr Hb Hts]
  isplitr; · iexact Hctx
  isplitl [Hst]; · iexact Hst
  isplitl [Harr]
  · rw [starts_eq]
    iexact Harr
  iintro ⟨Hst, Hdn⟩
  ihave Hdn' := (Entails.of_eq (dones_eq m hm d)) $$ Hdn
  icases Hdn' with ⟨⟨Hp, Hbt, Ho⟩, Hbars⟩
  imodintro
  isplitl [Hst]; · iexact Hst
  isplitr [Hb Hts]
  · isplitl [Hp]; · iexact Hp
    isplitl [Hbt]; · iexact Hbt
    isplitl [Ho] <;> iassumption
  isplitl [Hb] <;> iassumption

/-- A finished run's memory at device `d`. -/
def fq (d : Dev nD) (s' : Phys nD τ sig (Elt F)) : Prop :=
  (s'.mem.mem (pooledLoc d) = m (pooledLoc d) ∧ s'.mem.mem (batchLoc d) = m (batchLoc d) ∧ s'.mem.mem (outLoc d) = want m hm d)
    ∧ ∀ c i, s'.mem.sem (bcell d c i) = 0

theorem holds (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨H, HSI⟩
  ihave H' := (SI_pointsTo_agree (st := s') (ℓ := ℓ) (I := Finset.univ) (q := fullShare) (f := f)) $$ [HSI H]
  · isplitl [HSI] <;> iassumption
  icases H' with %h
  ipureintro; exact funext fun i => h i (Finset.mem_univ i)

theorem hfin (d : Dev nD) (s' : Phys nD τ sig (Elt F)) : iprop(FIN m hm d ∗ SI s') ⊢ (⌜fq m hm d s'⌝ : sProp 𝕄) := fun x hx =>
  ⟨⟨((sep_mono_left sep_elim_left).trans (holds _ _ s')) x hx,
    ((sep_mono_left (sep_elim_right.trans sep_elim_left)).trans (holds _ _ s')) x hx,
    ((sep_mono_left (sep_elim_right.trans (sep_elim_right.trans sep_elim_left))).trans (holds _ _ s')) x hx⟩,
    fun c i => ((sep_mono_left (sep_elim_right.trans (sep_elim_right.trans (sep_elim_right.trans ((SparseCore.ent (bigSep_elim (Finset.mem_univ c))).trans
      (SparseCore.ent (bigSep_elim (Finset.mem_univ i)))))))).trans (SparseCore.Cfg.semVal_zero_read _ s')) x hx⟩

theorem bars_end (s' : Phys nD τ sig (Elt F)) (h : ∀ d, fq m hm d s') (g : GSem nD τ sig) (hg : g ∈ barCells) : s'.mem.sem g = 0 := by
  obtain ⟨⟨d, c, i⟩, -, rfl⟩ := Finset.mem_image.mp hg
  exact (h d).2 c i

/-- What the claims say of a run from the memory `m`. -/
def Done : PUnit × MemSt nD τ sig (Elt F) → Prop := fun r =>
  (∀ d : Dev nD, r.2.mem (pooledLoc d) = m (pooledLoc d) ∧ r.2.mem (batchLoc d) = m (batchLoc d) ∧ r.2.mem (outLoc d) = want m hm d)
    ∧ r.2.sem = fun _ => 0

theorem run_main [∀ e, Nonempty (Elt F e)] :
    θ_run (Cert.Kernel.defs (F := F)) (Cert.Kernel.threads (F := F)) ⟨m, fun _ => 0, ρ⟩ (Done m hm) :=
  SparseCore.Cfg.θ_run_sc_quiescent (K := K (F := F)) (D := D (F := F)) (𝒱 := 𝒱) (EH := EH) (P := Pm m hm) (hA := bars_end m hm) facts v₀
    (fun q hq => match q with | 0 => nomatch hq)
    (fun q _ => match q with | 0 => tileObl _ _ hm _)
    (fun q _ => match q with | 0 => vecSplit _ _ hm _)
    m ρ main (fun _ => iprop(emp)) (FIN m hm) (u₀ (F := F)) (hu₀ _ _ hm _ ⟨m, fun _ => 0, ρ⟩) (hmain m ρ hm) (fq m hm) (hfin m hm) (Done m hm)
    (fun _ h hz => ⟨fun d => (h d).1, hz⟩)

end Main

end Cert.Proof.Expand

end
-- ==== Proof.Value.lean ====
/-
  The values: what the precondition says of the batch array, and that the reference's indexing of rows is `tgt`.
-/
module

public import proofs.«01_k».proof.Proof.Geometry
public import proofs.«01_k».proof.Proof.Gen.Reference
public import proofs.«01_k».proof.Proof.Gen.Pre_in_range
public import Idealize.ShloMosaic.Lib.ReduceAll
public import Idealize.ShloMosaic.Lib.WordCmp
public import Idealize.ShloMosaic.Lib.StableHlo.Predicate

@[expose] public section

noncomputable section

namespace Cert.Proof.Expand

open Idealize.ShloMosaic Idealize.ShloMosaic.WordCmp Idealize.ShloMosaic.StableHlo.Predicate

variable {F : FTy → Type} [FloatOps F]

/-- There is one index of a scalar. -/
theorem scalar_unique (a b : Cert.Pre_in_range.S_.Idx) : a = b := funext fun x => x.elim0

/-- A batch array that the predicate accepts names a row of the pooled array at every entry. -/
theorem in_range_lt (fp : FVec F Cert.Pre_in_range.S256x128 .f32) (fb : IVec Cert.Pre_in_range.S100000 32)
    (h : Cert.Pre_in_range.fn (F := F) fp fb = fun _ => 1#1) (x : Cert.Pre_in_range.S100000.Idx) : (fb x).toNat < 256 := by
  haveI : Subsingleton Cert.Pre_in_range.S_.Idx := ⟨scalar_unique⟩
  have e := Host.reduce_andi_all _ _ _ _ (fun a => a.elim0) (congrFun h fun a => a.elim0) x
  have e' : IntOp.andi (IntOp.cmpi .sge (fb x) 0#32) (IntOp.cmpi .slt (fb x) (BitVec.ofNat 32 256)) = 1#1 := e
  rw [andi_sge_zero_slt_ofNat (by decide), ofBool_decide_eq_one_iff] at e'
  exact e'

/-- Reading whole rows: where the start indices are a column of row numbers and a slice is one row of the table, row `i 0`
    of the result is the row its start index names, held within the table. -/
theorem gather_rows {α : Type} {N n k w : Nat} (d : GatherDims ⟨2, ![N, k]⟩ ⟨2, ![n, 1]⟩ ⟨2, ![n, k]⟩)
    (hoff : d.offsetDims = [1]) (hcoll : d.collapsedSliceDims = [0]) (hob : d.operandBatchingDims = [])
    (hsim : d.startIndexMap = [0]) (hivd : d.indexVectorDim = 1)
    (x : (⟨2, ![N, k]⟩ : Shape).Idx → α) (idx : IVec ⟨2, ![n, 1]⟩ w) (i : (⟨2, ![n, k]⟩ : Shape).Idx)
    (p : (⟨2, ![N, k]⟩ : Shape).Idx) (h0 : (p 0).val = (idx (ixP (i 0))).toInt.toNat) (h1 : (p 1).val = (i 1).val) :
    Host.gather d x idx i = x p := by
  have hnb : ∀ a, d.batchCoord i a = 0 := fun a => d.batchCoord_eq_zero _ _ (by rw [hob]; exact List.not_mem_nil)
  refine congrArg x (funext fun a => Fin.ext ?_)
  show d.start i idx a + d.batchCoord i a + d.offCoord i a = _
  rw [hnb, Nat.add_zero]
  match a with
  | 0 =>
    have hk : (0 : Fin 2) ∉ d.sKept := by rw [GatherDims.mem_sKept, hcoll]; simp
    have hm : (0 : Fin 2) ∈ d.startIndexMap := by rw [hsim]; exact List.mem_singleton.mpr rfl
    have hs : d.sliceSizes 0 = 1 := d.slice_collapsed 0 (by rw [hcoll]; exact List.mem_singleton.mpr rfl)
    have hix : d.siIdx i ⟨d.startIndexMap.idxOf 0, List.idxOf_lt_length_iff.2 hm⟩ = ixP (i 0) := by
      funext b
      refine Fin.ext ?_
      match b with
      | 0 =>
        unfold GatherDims.siIdx
        rw [dif_neg (by rw [hivd]; simp)]
        have hbd : d.batchDims = [0] := by unfold GatherDims.batchDims; rw [hoff]; rfl
        have one : ∀ (l : List (Fin 2)) (q : Nat) (hq : q < l.length), l = [0] → l[q] = 0 := by
          rintro l q hq rfl
          exact List.mem_singleton.1 (List.getElem_mem hq)
        unfold GatherDims.siCoord
        exact congrArg (fun c => (i c).val) (one _ _ _ hbd)
      | 1 =>
        unfold GatherDims.siIdx
        rw [dif_pos (by rw [hivd]; rfl)]
        show List.idxOf (0 : Fin 2) d.startIndexMap = 0
        rw [hsim]; simp
    have hlt : (p 0).val < N := (p 0).isLt
    rw [d.offCoord_eq_zero _ _ hk, Nat.add_zero, GatherDims.start, dif_pos hm, hix, hs]
    refine (congrArg (fun c => min c (N - 1)) h0.symm).trans ?_
    show min (p 0).val (N - 1) = (p 0).val
    omega
  | 1 =>
    have hm : (1 : Fin 2) ∉ d.startIndexMap := by rw [hsim]; simp
    have hk : (1 : Fin 2) ∈ d.sKept := by rw [GatherDims.mem_sKept, hcoll, hob]; simp
    have one : ∀ (l : List (Fin 2)) (q : Nat) (hq : q < l.length), l = [1] → l[q] = 1 := by
      rintro l q hq rfl
      exact List.mem_singleton.1 (List.getElem_mem hq)
    rw [GatherDims.start, dif_neg hm, Nat.zero_add, GatherDims.offCoord, dif_pos hk, one _ _ _ hoff]
    exact h1.symm

open Cert.Reference Cert.Reference.Gen in
/-- The reference's result, as its operations compose it, from batch entries that name rows: at each row, the row named
    there. No entry is negative, so none is moved up by the number of rows before it is looked up. -/
theorem reference_rows (fp : FVec F S256x128 .f32) (fb : IVec S100000 32) (hb : ∀ x, (fb x).toNat < 256) :
    Host.gather gather_S256x128_S100000x1_S100000x128_1_0_n_n_0_1_1128 fp
      (broadcastInDim S100000x1 ![0] bcast_S100000_S100000x1_0
        (select (cmpi .slt fb (broadcastInDim S100000 ![] bcast_S_S100000 (constantI S_ 32 0#32)))
          (addi fb (broadcastInDim S100000 ![] bcast_S_S100000 (constantI S_ 32 256#32))) fb))
      = tgt fp fb hb := by
  funext i
  have hrow : fb (batchIx (i 0)) = select (cmpi .slt fb (broadcastInDim S100000 ![] bcast_S_S100000 (constantI S_ 32 0#32)))
      (addi fb (broadcastInDim S100000 ![] bcast_S_S100000 (constantI S_ 32 256#32))) fb (batchIx (i 0)) := by
    have hlt := hb (batchIx (i 0))
    have hn : IntOp.cmpi .slt (fb (batchIx (i 0))) 0#32 = 0#1 := by
      have hp : ¬ (fb (batchIx (i 0))).toInt < (0#32).toInt := by
        rw [toInt_eq_toNat_of_lt (by omega)]; simp
      show BitVec.ofBool (decide ((fb (batchIx (i 0))).toInt < (0#32).toInt)) = 0#1
      rw [decide_eq_false hp]; rfl
    show _ = Scalar.select (IntOp.cmpi .slt (fb (batchIx (i 0))) 0#32) _ _
    rw [hn]; rfl
  refine gather_rows _ rfl rfl rfl rfl rfl fp _ i _ ?_ rfl
  show (fb (batchIx (i 0))).toNat = _
  have hix : (broadcastInDim S100000x1 ![0] bcast_S100000_S100000x1_0
        (select (cmpi .slt fb (broadcastInDim S100000 ![] bcast_S_S100000 (constantI S_ 32 0#32)))
          (addi fb (broadcastInDim S100000 ![] bcast_S_S100000 (constantI S_ 32 256#32))) fb)) (ixP (i 0)) = fb (batchIx (i 0)) := by
    rw [hrow]
    refine congrArg (select _ _ _) (funext fun a => ?_)
    match a with
    | 0 => rfl
  rw [hix, toInt_eq_toNat_of_lt (by have := hb (batchIx (i 0)); omega), Int.toNat_natCast]

end Cert.Proof.Expand

end
-- ==== Proof.PoolIdealRing.lean ====
/-
  The blocks of the points on their way into the two slots of the pooling pass's buffer.

  A block of a thousand rows is copied in four quarters, each on its slot's and quarter's own semaphore. Every slot and
  quarter has its own share of the points, so that a copy takes from its share the rows it reads and gives them back at
  its wait.
-/
module

public import proofs.«01_k».proof.Proof.Gen.PoolIdeal.Frame
public import proofs.«01_k».proof.Proof.Gen.PoolIdeal.Skeleton
public import Idealize.ShloMosaic.Lib.Pipeline.Routed
public import Idealize.ShloMosaic.Lib.Transfers
public import Idealize.ShloMosaic.Lib.Pointwise.Index

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)

variable {F : FTy → Type} [FloatOps F] [Named F]

local notation "𝕄" => MT nD τ sig Unit (Elt F) ℕ (UC sig nD τ) ℕ

/-- Where the transfers' counters live. -/
abbrev EC : UEmb Counters (MT nD τ sig Unit (Elt F) ℕ (UC sig nD τ) ℕ) := countersEmb

abbrev xV : Memref sig .tc .hbm S100000x128 .f32 := Memref.whole main_arg0
abbrev bufV : Memref sig .tc .vmem S2x1000x128 .f32 := Memref.whole cc0_scratch0

/-! ## The places -/

theorem inb_src (b : Fin 100) (q : Fin 4) : ∀ a, (![b.val * 1000 + 250 * q.val, 0] : Fin 2 → ℕ) a + S250x128.size a ≤ S100000x128.size a := by
  have hb := b.isLt
  have hq := q.isLt
  intro a
  fin_cases a <;> simp <;> omega

theorem inb_dst (s : Fin 2) (q : Fin 4) : ∀ a, (![s.val, 250 * q.val, 0] : Fin 3 → ℕ) a + S1x250x128.size a ≤ S2x1000x128.size a := by
  have hs := s.isLt
  have hq := q.isLt
  intro a
  fin_cases a <;> simp <;> omega

theorem inb_sem (s : Fin 2) (q : Fin 4) : ∀ a, (![s.val, q.val] : Fin 2 → ℕ) a + S1x1.size a ≤ S2x4.size a := by
  have hs := s.isLt
  have hq := q.isLt
  intro a
  fin_cases a <;> simp <;> omega

/-- A quarter of a block of the points, a quarter of a slot, its semaphore. -/
abbrev srcAt (b : Fin 100) (q : Fin 4) : Memref sig .tc .hbm S250x128 .f32 :=
  xV.slice (Rect.unit (s := S100000x128) ![b.val * 1000 + 250 * q.val, 0] S250x128.size (inb_src b q)) (fun _ => rfl)
abbrev dstAt (s : Fin 2) (q : Fin 4) : Memref sig .tc .vmem S250x128 .f32 :=
  (bufV.slice (Rect.unit (s := S2x1000x128) ![s.val, 250 * q.val, 0] S1x250x128.size (inb_dst s q)) (fun _ => rfl)).squeeze S250x128
    squeezes_S1x250x128_S250x128
abbrev semAt (s : Fin 2) (q : Fin 4) : DmaSem sig :=
  ((cc0_scratch5.slice (Rect.unit (s := S2x4) ![s.val, q.val] S1x1.size (inb_sem s q))).squeeze S_ squeezes_S1x1_S_).sem

/-- The slot a block goes to. -/
abbrev slot (b : ℕ) : Fin 2 := ⟨b % 2, Nat.mod_lt _ (by decide)⟩

/-! ## The resources -/

variable (c : Dev nD) (x : S100000x128.Idx → Elt F .f32)

/-- The share of the points a slot and quarter has. -/
def share (s : Fin 2) (q : Fin 4) : PosShare TreeShare := pieceOf fullShare 8 (by decide) (finProdFinEquiv (s, q))

/-- The row of the points that is row `r` of block `b`. -/
def row (b : Fin 100) (r : Fin 1000) : Fin 100000 := ⟨b.val * 1000 + r.val, by omega⟩

/-- A slot's contents once block `b` has arrived: the block. -/
def arrived (b : Fin 100) : S2x1000x128.Idx → Elt F .f32 := fun i => x (ix2 (row b (i 1)) (i 2))

abbrev bufAt (s : Fin 2) (q : Fin 4) (f : S2x1000x128.Idx → Elt F .f32) : sProp 𝕄 :=
  (dstAt s q).view.loc (c : Thread nD τ) ↦[(dstAt s q).view.set]{fullShare} f
abbrev zeroAt (s : Fin 2) (q : Fin 4) : sProp 𝕄 := semVal ((c : Thread nD τ), .dma (semAt s q)) 0
abbrev xAt (s : Fin 2) (q : Fin 4) : sProp 𝕄 := xV.view.loc (c : Thread nD τ) ↦{share s q} x

abbrev credit : ℕ := (dstAt 0 0).view.dmaCredit

/-- A slot's quarter with no copy under way. -/
def free (s : Fin 2) (q : Fin 4) : sProp 𝕄 := iprop((∃ f, bufAt c s q f) ∗ zeroAt c s q ∗ xAt c x s q)

/-- A quarter of block `b` arrived. -/
def here (b : Fin 100) (q : Fin 4) : sProp 𝕄 :=
  iprop(bufAt c (slot b.val) q (arrived x b) ∗ zeroAt c (slot b.val) q ∗ xAt c x (slot b.val) q)

/-- A quarter of block `b` on its way. -/
def coming (b : Fin 100) (q : Fin 4) : sProp 𝕄 :=
  iprop(Transfers.Flight (EC (F := F)) (c : Thread nD τ) (.dma (semAt (slot b.val) q)) () credit
      iprop(bufAt c (slot b.val) q (arrived x b) ∗ ((srcAt b q).view.loc (c : Thread nD τ) ↦[(srcAt b q).view.set]{share (slot b.val) q} x))
    ∗ ((srcAt b q).view.loc (c : Thread nD τ) ↦[Finset.univ \ (srcAt b q).view.set]{share (slot b.val) q} x))

/-! ## Where a quarter's entries lie -/

theorem dstAt_emb (s : Fin 2) (q : Fin 4) (j : S250x128.Idx) :
    (dstAt s q).view.emb j = ix3 s (⟨250 * q.val + (j 0).val, by have := (j 0).isLt; simp at this; omega⟩ : Fin 1000) (j 1) := by
  have h : Shape.reshapeEquiv squeezes_S1x250x128_S250x128.numel_eq j = (ix3 (0 : Fin 1) (j 0) (j 1) : S1x250x128.Idx) := by
    refine Shape.reshapeEquiv_eq_of_rowMajor _ ?_
    refine (Shape.rowMajor_val_three _).trans (Eq.trans ?_ (Shape.rowMajor_val_two _).symm)
    simp
  refine (congrArg (bufV.slice (Rect.unit (s := S2x1000x128) ![s.val, 250 * q.val, 0] S1x250x128.size (inb_dst s q)) (fun _ => rfl)).view.emb h).trans ?_
  funext a
  match a with
  | 0 => exact Fin.ext (show s.val + 1 * 0 = s.val by omega)
  | 1 => exact Fin.ext (show 250 * q.val + 1 * (j 0).val = _ by simp)
  | 2 => exact Fin.ext (show 0 + 1 * (j 1).val = _ by simp)

theorem srcAt_emb (b : Fin 100) (q : Fin 4) (j : S250x128.Idx) :
    (srcAt b q).view.emb j = ix2 (row b ⟨250 * q.val + (j 0).val, by have := (j 0).isLt; simp at this; omega⟩) (j 1) := by
  funext a
  match a with
  | 0 => exact Fin.ext (show b.val * 1000 + 250 * q.val + 1 * (j 0).val = _ by simp [row]; omega)
  | 1 => exact Fin.ext (show 0 + 1 * (j 1).val = _ by simp)

/-- What a copy leaves in its quarter is the block's. -/
theorem arrives (b : Fin 100) (s : Fin 2) (q : Fin 4) (f : S2x1000x128.Idx → Elt F .f32) :
    (bufAt c s q ((dstAt s q).view.write (Elt F) f (ReadAs.same.apply ((srcAt b q).view.read (Elt F) x)) Finset.univ) : sProp 𝕄)
      = bufAt c s q (arrived x b) := by
  refine pointsTo_congr fun i hi => ?_
  obtain ⟨j, -, rfl⟩ := Finset.mem_map.mp hi
  refine (congrFun ((dstAt s q).view.read_write_univ (Val := Elt F) f _) j).trans ?_
  show x ((srcAt b q).view.emb j) = arrived x b ((dstAt s q).view.emb j)
  rw [srcAt_emb, dstAt_emb]
  rfl

/-! ## Starting a copy and waiting for it -/

abbrev TC (F : FTy → Type) := Prog (TpuEff nD τ sig (Elt F) Λ₀ Proc.tc)
local notation "WP" => wp frame (wpE (defs₀ (F := F)) Variants.none (c : Thread nD τ) none) Set.univ

theorem wp_start (b : Fin 100) (q : Fin 4) {α : Type} (p : PUnit.{1} → TC F α) (Q : α → sProp 𝕄)
    (hs : (srcAt b q).view.WordExact) (hd : (dstAt (slot b.val) q).view.WordExact)
    (ht : DmaTarget.Typed (nD := nD) (τ := τ) (p := Proc.tc) .hbm (.dma (semAt (slot b.val) q)) (.here (dstAt (slot b.val) q))) :
    free c x (slot b.val) q
      ⊢ iprop((coming c x b q -∗ WP (p ⟨⟩) Q)
          -∗ WP (.op (.enqueueDma (srcAt b q) (.here (dstAt (slot b.val) q)) (.dma (semAt (slot b.val) q)) hs hd ht) p) Q) := by
  unfold free coming
  iintro ⟨⟨%f, Hb⟩, Hz, Hx⟩ Hk
  icases (pointsTo_split_subset (Finset.subset_univ (srcAt b q).view.set)).1 $$ Hx with ⟨Hx, Hx'⟩
  iapply (Transfers.wp_dmaLocal (EC (F := F)) Variants.none (c : Thread nD τ) none (src := srcAt b q) (via := .same) (dst := dstAt (slot b.val) q)
    (fs := x) (fd := f) (q := share (slot b.val) q) (Sd := (dstAt (slot b.val) q).view.set) () credit rfl (View.dmaCredit_pos _ (by decide))
    (Finset.Subset.refl _)) $$ [Hx Hb Hz]
  · isplitl [Hx]; · iexact Hx
    isplitl [Hb]; · iexact Hb
    iexact Hz
  iintro HF
  iapply Hk
  isplitl [HF]
  · iapply (Transfers.Flight_mono (EC (F := F)) (c : Thread nD τ) ?_) $$ HF
    iintro ⟨Hb, Hx⟩
    isplitl [Hb]
    · ihave Hb := (Entails.of_eq (arrives c x b (slot b.val) q f)) $$ Hb
      iexact Hb
    iexact Hx
  iexact Hx'

theorem wp_wait (b : Fin 100) (q : Fin 4) {α : Type} (p : PUnit.{1} → TC F α) (Q : α → sProp 𝕄)
    (hs : (srcAt b q).view.WordExact) (hd : (dstAt (slot b.val) q).view.WordExact) :
    iprop(coming c x b q ∗ ∃ W, owes (c : Thread nD τ) 0 W)
      ⊢ iprop((iprop(here c x b q ∗ ∃ W, owes (c : Thread nD τ) 0 W) -∗ WP (p ⟨⟩) Q)
          -∗ WP (.op (.waitDma2 (semAt (slot b.val) q) (srcAt b q) (dstAt (slot b.val) q) hs hd) p) Q) := by
  unfold coming here
  iintro ⟨⟨HF, Hx'⟩, ⟨%W, HO⟩⟩ Hk
  iapply (Transfers.wp_waitLocal (EC (F := F)) Variants.none (c : Thread nD τ) none (srcw := srcAt b q) (dstw := dstAt (slot b.val) q) (hsrc := hs) (hdst := hd)
    () (N := credit) rfl) $$ [HF HO]
  · isplitl [HF] <;> iassumption
  iintro ⟨⟨Hb, Hx⟩, Hz, HO⟩
  iapply Hk
  isplitr [HO]
  · isplitl [Hb]; · iexact Hb
    isplitl [Hz]; · iexact Hz
    iapply (pointsTo_split_subset (Finset.subset_univ (srcAt b q).view.set)).2
    isplitl [Hx] <;> iassumption
  iexists _
  iexact HO

end Cert.PoolIdeal.Pass
-- ==== Proof.PoolIdealFetch.lean ====
/-
  The fetching part of a grid point of the pooling pass: the first point starts block zero's copies, every point but the last
  starts the next block's, and every point waits for its own block's.
-/
module

public import proofs.«01_k».proof.Proof.PoolIdealRing
public import proofs.«01_k».proof.Proof.Gen.PoolIdeal.Launch

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)

variable {F : FTy → Type} [FloatOps F] [Named F]

local notation "𝕄" => MT nD τ sig Unit (Elt F) ℕ (UC sig nD τ) ℕ

abbrev poolM : Memref sig .tc .vmem S256x128 .f32 := Memref.whole cc0_scratch1
abbrev rowsM : Memref sig .tc .vmem S1000x128 .f32 := Memref.whole cc0_scratch2
abbrev sumM : Memref sig .tc .vmem S8x128 .f32 := Memref.whole cc0_scratch3
abbrev sqM : Memref sig .tc .vmem S8x128 .f32 := Memref.whole cc0_scratch4

/-! ## The places of the copies, as the program computes them -/

theorem off1_eq : ∀ i : grid0.Coords, k0_off1 i = ![((i 0).val + 1) % 2, 0] := by decide +kernel
theorem off2_eq : ∀ i : grid0.Coords, k0_off2 i = ![((i 0).val + 1) % 2, 0, 0] := by decide +kernel
theorem off4_eq : ∀ i : grid0.Coords, k0_off4 i = ![((i 0).val + 1) % 2, 1] := by decide +kernel
theorem off5_eq : ∀ i : grid0.Coords, k0_off5 i = ![((i 0).val + 1) % 2, 250, 0] := by decide +kernel
theorem off6_eq : ∀ i : grid0.Coords, k0_off6 i = ![((i 0).val + 1) % 2, 2] := by decide +kernel
theorem off7_eq : ∀ i : grid0.Coords, k0_off7 i = ![((i 0).val + 1) % 2, 500, 0] := by decide +kernel
theorem off8_eq : ∀ i : grid0.Coords, k0_off8 i = ![((i 0).val + 1) % 2, 3] := by decide +kernel
theorem off9_eq : ∀ i : grid0.Coords, k0_off9 i = ![((i 0).val + 1) % 2, 750, 0] := by decide +kernel
theorem off10_eq : ∀ i : grid0.Coords, k0_off10 i = ![(i 0).val % 2, 0] := by decide +kernel
theorem off11_eq : ∀ i : grid0.Coords, k0_off11 i = ![(i 0).val % 2, 0, 0] := by decide +kernel
theorem off13_eq : ∀ i : grid0.Coords, k0_off13 i = ![(i 0).val % 2, 1] := by decide +kernel
theorem off14_eq : ∀ i : grid0.Coords, k0_off14 i = ![(i 0).val % 2, 250, 0] := by decide +kernel
theorem off15_eq : ∀ i : grid0.Coords, k0_off15 i = ![(i 0).val % 2, 2] := by decide +kernel
theorem off16_eq : ∀ i : grid0.Coords, k0_off16 i = ![(i 0).val % 2, 500, 0] := by decide +kernel
theorem off17_eq : ∀ i : grid0.Coords, k0_off17 i = ![(i 0).val % 2, 3] := by decide +kernel
theorem off18_eq : ∀ i : grid0.Coords, k0_off18 i = ![(i 0).val % 2, 750, 0] := by decide +kernel

theorem off3_eq (i : grid0.Coords) (r : Fin 4) : k0_off3 i (BitVec.ofNat 32 (250 * r.val)) = ![((i 0).val + 1) * 1000 + 250 * r.val, 0] := by
  rw [k0_off3_eq]
  have h : 1000 * (i 0).val + 250 * r.val + 1000 = ((i 0).val + 1) * 1000 + 250 * r.val := by omega
  first | rw [h] | (simp only [h])

theorem off12_eq (i : grid0.Coords) (r : Fin 4) : k0_off12 i (BitVec.ofNat 32 (250 * r.val)) = ![(i 0).val * 1000 + 250 * r.val, 0] := by
  rw [k0_off12_eq]
  have h : 1000 * (i 0).val + 250 * r.val = (i 0).val * 1000 + 250 * r.val := by omega
  first | rw [h] | (simp only [h])

theorem cond2_iff : ∀ i : grid0.Coords, k0_cond2 i = 1#1 ↔ (i 0).val < 99 := by decide +kernel
theorem cond3_iff : ∀ i : grid0.Coords, k0_cond3 i = 1#1 ↔ (i 0).val = 99 := by decide +kernel
theorem cond1_iff : ∀ i : grid0.Coords,
    Scalar.cmpi .ne (Scalar.extui (Scalar.cmpi .eq (BitVec.ofNat 32 (i 0).val) 0#32) : BitVec 32) 0#32 = 1#1 ↔ (i 0).val = 0 := by decide +kernel

/-! ## A copy at the places the program computes -/

variable (c : Dev nD) (x : S100000x128.Idx → Elt F .f32)

local notation "WP" => wp frame (wpE (defs₀ (F := F)) Variants.none (c : Thread nD τ) none) Set.univ

section At

variable (b : Fin 100) (q : Fin 4) {o₁ o₃ : Fin 2 → ℕ} {o₂ : Fin 3 → ℕ}
  (e₁ : o₁ = ![b.val % 2, q.val]) (e₂ : o₂ = ![b.val % 2, 250 * q.val, 0]) (e₃ : o₃ = ![b.val * 1000 + 250 * q.val, 0])
  {i₁ : ∀ a, o₁ a + S1x1.size a ≤ S2x4.size a} {i₂ : ∀ a, o₂ a + S1x250x128.size a ≤ S2x1000x128.size a}
  {i₃ : ∀ a, o₃ a + S250x128.size a ≤ S100000x128.size a}
include e₁ e₂ e₃

theorem wp_start_at {s : Fin 2} (es : s = slot b.val) {α : Type} {p : PUnit.{1} → TC F α} {Q : α → sProp 𝕄}
    {hs : (xV.slice (Rect.unit (s := S100000x128) o₃ S250x128.size i₃) (fun _ => rfl)).view.WordExact}
    {hd : ((bufV.slice (Rect.unit (s := S2x1000x128) o₂ S1x250x128.size i₂) (fun _ => rfl)).squeeze S250x128 squeezes_S1x250x128_S250x128).view.WordExact}
    {ht : DmaTarget.Typed (nD := nD) (τ := τ) (p := Proc.tc) .hbm
      (.dma ((cc0_scratch5.slice (Rect.unit (s := S2x4) o₁ S1x1.size i₁)).squeeze S_ squeezes_S1x1_S_).sem)
      (.here ((bufV.slice (Rect.unit (s := S2x1000x128) o₂ S1x250x128.size i₂) (fun _ => rfl)).squeeze S250x128 squeezes_S1x250x128_S250x128))} :
    free c x s q
      ⊢ iprop((coming c x b q -∗ WP (p ⟨⟩) Q)
          -∗ WP (.op (.enqueueDma (xV.slice (Rect.unit (s := S100000x128) o₃ S250x128.size i₃) (fun _ => rfl))
            (.here ((bufV.slice (Rect.unit (s := S2x1000x128) o₂ S1x250x128.size i₂) (fun _ => rfl)).squeeze S250x128 squeezes_S1x250x128_S250x128))
            (.dma ((cc0_scratch5.slice (Rect.unit (s := S2x4) o₁ S1x1.size i₁)).squeeze S_ squeezes_S1x1_S_).sem) hs hd ht) p) Q) := by
  subst e₁ e₂ e₃ es
  exact wp_start c x b q p Q hs hd ht

theorem wp_wait_at {α : Type} {p : PUnit.{1} → TC F α} {Q : α → sProp 𝕄}
    {hs : (xV.slice (Rect.unit (s := S100000x128) o₃ S250x128.size i₃) (fun _ => rfl)).view.WordExact}
    {hd : ((bufV.slice (Rect.unit (s := S2x1000x128) o₂ S1x250x128.size i₂) (fun _ => rfl)).squeeze S250x128 squeezes_S1x250x128_S250x128).view.WordExact} :
    iprop(coming c x b q ∗ ∃ W, owes (c : Thread nD τ) 0 W)
      ⊢ iprop((iprop(here c x b q ∗ ∃ W, owes (c : Thread nD τ) 0 W) -∗ WP (p ⟨⟩) Q)
          -∗ WP (.op (.waitDma2 ((cc0_scratch5.slice (Rect.unit (s := S2x4) o₁ S1x1.size i₁)).squeeze S_ squeezes_S1x1_S_).sem
            (xV.slice (Rect.unit (s := S100000x128) o₃ S250x128.size i₃) (fun _ => rfl))
            ((bufV.slice (Rect.unit (s := S2x1000x128) o₂ S1x250x128.size i₂) (fun _ => rfl)).squeeze S250x128 squeezes_S1x250x128_S250x128) hs hd) p) Q) := by
  subst e₁ e₂ e₃
  exact wp_wait c x b q p Q hs hd

end At

/-! ## Loads and stores of a whole buffer's owner -/

/-- Part of some contents. -/
abbrev cut {s : Shape} {α : Type} (r : Rect s) (X : s.Idx → α) : r.shape.Idx → α := fun j => X (r.emb j)

/-- Contents with part of them replaced. -/
def over {s : Shape} {α : Type} (r : Rect s) (X : s.Idx → α) (w : r.shape.Idx → α) : s.Idx → α := by
  classical
  exact fun i => if h : ∃ j, r.emb j = i then w h.choose else X i

theorem over_emb {s : Shape} {α : Type} (r : Rect s) (X : s.Idx → α) (w : r.shape.Idx → α) (j : r.shape.Idx) : over r X w (r.emb j) = w j := by
  have h : ∃ j', r.emb j' = r.emb j := ⟨j, rfl⟩
  unfold over
  rw [dif_pos h]
  exact congrArg w (r.emb.injective h.choose_spec)

theorem over_of_not {s : Shape} {α : Type} (r : Rect s) (X : s.Idx → α) (w : r.shape.Idx → α) (i : s.Idx) (h : ∀ j, r.emb j ≠ i) : over r X w i = X i := by
  unfold over
  rw [dif_neg (by rintro ⟨j, hj⟩; exact h j hj)]

theorem wp_read {sp : CoreSpace} {s : Shape} {e : EltTy} (m : Memref sig .tc sp s e) (r : Rect s) (q : PosShare TreeShare) (X : s.Idx → Elt F e)
    {hl : m.view.LoadsAt r} {α : Type} {k : (r.shape.Idx → Elt F e) → TC F α} {Q : α → sProp 𝕄} :
    (owns (c : Thread nD τ) m q X : sProp 𝕄)
      ⊢ iprop((owns (c : Thread nD τ) m q X -∗ WP (k (cut r X)) Q) -∗ WP (.op (.load m r hl) k) Q) := by
  unfold owns
  iintro ⟨%f, %hf, H⟩ Hk
  subst hf
  iapply (wp_load_rect Variants.none (c : Thread nD τ) none Set.univ (m := m) (r := r) (S := m.view.set) (q := q) (f := f)
    (View.set_slice_subset m.view r)) $$ H
  iintro H
  iapply Hk
  iexists f
  isplitr; · ipureintro; rfl
  iexact H

theorem wp_write {sp : CoreSpace} {s : Shape} {e : EltTy} (m : Memref sig .tc sp s e) (r : Rect s) (X : s.Idx → Elt F e) (w : r.shape.Idx → Elt F e)
    {hx : (m.access r).Stores Finset.univ} {hm : (Finset.univ : Finset r.shape.Idx) = Finset.univ ∨ ∀ a, r.stride a = 1}
    {α : Type} {k : PUnit.{1} → TC F α} {Q : α → sProp 𝕄} :
    (owns (c : Thread nD τ) m fullShare X : sProp 𝕄)
      ⊢ iprop((owns (c : Thread nD τ) m fullShare (over r X w) -∗ WP (k ⟨⟩) Q) -∗ WP (.op (.store m r w Finset.univ hx hm) k) Q) := by
  unfold owns
  iintro ⟨%f, %hf, H⟩ Hk
  subst hf
  iapply (wp_store Variants.none (c : Thread nD τ) none Set.univ (m := m) (r := r) (S := m.view.set) (f := f)
    (View.set_slice_subset m.view r)) $$ H
  iintro H
  iapply Hk
  iexists _
  isplitr
  · ipureintro
    funext i
    by_cases h : ∃ j, r.emb j = i
    · obtain ⟨j, rfl⟩ := h
      rw [over_emb]
      exact congrFun ((m.access r).read_write_univ (Val := Elt F) f w) j
    · rw [over_of_not _ _ _ _ (fun j hj => h ⟨j, hj⟩)]
      refine View.read_slice_write_of_not_mem (v := m.view) (Val := Elt F) r f w Finset.univ fun hm => ?_
      obtain ⟨j, -, hj⟩ := Finset.mem_map.mp hm
      exact h ⟨j, hj⟩
  iexact H

theorem wp_word (m : Memref sig .tc .smem S100 .i32) (r : Rect S100) (q : PosShare TreeShare) (X : S100.Idx → Elt F .i32)
    {hw : (m.access r).Loads} {i : r.shape.Idx} {α : Type} {k : Elt F .i32 → TC F α} {Q : α → sProp 𝕄} :
    (owns (c : Thread nD τ) m q X : sProp 𝕄)
      ⊢ iprop((owns (c : Thread nD τ) m q X -∗ WP (k (X (r.emb i))) Q) -∗ WP (smemLoadElt m r hw i k) Q) := by
  unfold owns
  iintro ⟨%f, %hf, H⟩ Hk
  subst hf
  iapply (wp_smemLoadElt Variants.none (c : Thread nD τ) none Set.univ (m := m) (r := r) (S := m.view.set) (q := q) (f := f)
    (View.set_slice_subset m.view r)) $$ H
  iintro H
  iapply Hk
  iexists f
  isplitr; · ipureintro; rfl
  iexact H

end Cert.PoolIdeal.Pass
-- ==== Proof.PoolIdealWalk.lean ====
/-
  The fetching part of a grid point of the pooling pass, walked: what it leaves of the slots, and of the running maxima and sums.
-/
module

public import proofs.«01_k».proof.Proof.PoolIdealFetch

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)

variable {F : FTy → Type} [FloatOps F] [Named F]

local notation "𝕄" => MT nD τ sig Unit (Elt F) ℕ (UC sig nD τ) ℕ

/-- The windows' staging buffers a grid point's program works on. -/
structure Places where
  m1 : Memref sig .tc .smem S100 .i32
  h1 : m1.IsWhole
  m2 : Memref sig .tc .smem S100 .i32
  h2 : m2.IsWhole
  m4 : Memref sig .tc .vmem S128x128 .f32
  h4 : m4.IsWhole
  m5 : Memref sig .tc .vmem S1x128 .f32
  h5 : m5.IsWhole
  m6 : Memref sig .tc .vmem S1x128 .f32
  h6 : m6.IsWhole
  m7 : Memref sig .tc .vmem S1x128 .f32
  h7 : m7.IsWhole
  m8 : Memref sig .tc .vmem S1000x1 .i32
  h8 : m8.IsWhole
  m9 : Memref sig .tc .vmem S256x128 .f32
  h9 : m9.IsWhole

variable (A : Places) (i : grid0.Coords)

theorem xV_whole : (xV).IsWhole := Memref.isWhole_whole _
theorem bufV_whole : (bufV).IsWhole := Memref.isWhole_whole _
theorem poolM_whole : (poolM).IsWhole := Memref.isWhole_whole _
theorem rowsM_whole : (rowsM).IsWhole := Memref.isWhole_whole _
theorem sumM_whole : (sumM).IsWhole := Memref.isWhole_whole _
theorem sqM_whole : (sqM).IsWhole := Memref.isWhole_whole _

/-- The parts of the program at those buffers. -/
abbrev part1 := k0_part1 (F := F) i A.m1 A.h1 A.m2 A.h2 xV xV_whole A.m4 A.h4 A.m5 A.h5 A.m6 A.h6 A.m7 A.h7 A.m8 A.h8 A.m9 A.h9
  bufV bufV_whole poolM poolM_whole rowsM rowsM_whole sumM sumM_whole sqM sqM_whole cc0_scratch5
abbrev part2 := k0_part2 (F := F) i A.m1 A.h1 A.m2 A.h2 xV xV_whole A.m4 A.h4 A.m5 A.h5 A.m6 A.h6 A.m7 A.h7 A.m8 A.h8 A.m9 A.h9
  bufV bufV_whole poolM poolM_whole rowsM rowsM_whole sumM sumM_whole sqM sqM_whole cc0_scratch5
abbrev part3 := k0_part3 (F := F) i A.m1 A.h1 A.m2 A.h2 xV xV_whole A.m4 A.h4 A.m5 A.h5 A.m6 A.h6 A.m7 A.h7 A.m8 A.h8 A.m9 A.h9
  bufV bufV_whole poolM poolM_whole rowsM rowsM_whole sumM sumM_whole sqM sqM_whole cc0_scratch5

/-! ## Running maxima and sums -/

/-- The running maxima by segment, sums, and sums of squares. -/
structure Acc (F : FTy → Type) where
  pool : S256x128.Idx → Elt F .f32
  sum : S8x128.Idx → Elt F .f32
  sq : S8x128.Idx → Elt F .f32

/-- What the first point starts from. -/
def Acc.start : Acc F := ⟨k0_pay6, k0_pay7, k0_pay8⟩

variable (c : Dev nD) (x : S100000x128.Idx → Elt F .f32)

local notation "WP" => wp frame (wpE (defs₀ (F := F)) Variants.none (c : Thread nD τ) none) Set.univ

def accs (p : Acc F) : sProp 𝕄 :=
  iprop(owns (c : Thread nD τ) poolM fullShare p.pool ∗ owns (c : Thread nD τ) sumM fullShare p.sum ∗ owns (c : Thread nD τ) sqM fullShare p.sq)

abbrev frees (s : Fin 2) : sProp 𝕄 := iprop(free c x s 0 ∗ free c x s 1 ∗ free c x s 2 ∗ free c x s 3)
abbrev comings (b : Fin 100) : sProp 𝕄 := iprop(coming c x b 0 ∗ coming c x b 1 ∗ coming c x b 2 ∗ coming c x b 3)
abbrev heres (b : Fin 100) : sProp 𝕄 := iprop(here c x b 0 ∗ here c x b 1 ∗ here c x b 2 ∗ here c x b 3)

/-- Block `n` on its way, or its slot free when there is no such block. -/
def next (n : ℕ) : sProp 𝕄 := if h : n < 100 then comings c x ⟨n, h⟩ else frees c x (slot n)

theorem next_of (n : ℕ) (h : n < 100) : next c x n = comings c x ⟨n, h⟩ := dif_pos h
theorem next_end (n : ℕ) (h : ¬ n < 100) : next c x n = frees c x (slot n) := dif_neg h

/-- The slots before point `n`: block `n` is on its way, except before the first point, and the other slot is free. -/
def ring (n : ℕ) : sProp 𝕄 := if n = 0 then iprop(frees c x 0 ∗ frees c x 1) else iprop(next c x n ∗ frees c x (slot (n + 1)))

theorem over_whole {N M : ℕ} {α : Type} (h : ∀ a, (![0, 0] : Fin 2 → ℕ) a + (![N, M] : Fin 2 → ℕ) a ≤ (![N, M] : Fin 2 → ℕ) a)
    (X w : (⟨2, ![N, M]⟩ : Shape).Idx → α) : over (Rect.unit (s := ⟨2, ![N, M]⟩) ![0, 0] ![N, M] h) X w = w := by
  funext i
  have e : (Rect.unit (s := ⟨2, ![N, M]⟩) ![0, 0] ![N, M] h).emb i = i := by
    funext a
    match a with
    | 0 => exact Fin.ext (by show 0 + 1 * (i 0).val = (i 0).val; omega)
    | 1 => exact Fin.ext (by show 0 + 1 * (i 1).val = (i 1).val; omega)
  have := over_emb (Rect.unit (s := ⟨2, ![N, M]⟩) ![0, 0] ![N, M] h) X w i
  rw [e] at this
  exact this

/-- The first point starts its block's copies and clears the maxima and sums. -/
theorem wp_part1 (p : Acc F) {α : Type} (k : PUnit.{1} → TC F α) (Q : α → sProp 𝕄) :
    iprop(free c x 0 0 ∗ free c x 0 1 ∗ accs c p)
      ⊢ iprop((iprop(coming c x 0 0 ∗ coming c x 0 1 ∗ accs c Acc.start) -∗ WP (k ⟨⟩) Q) -∗ WP (part1 A i >>= k) Q) := by
  unfold part1 accs Acc.start
  rw [k0_part1_eq_skeleton]
  unfold k0_part1_skel
  simp only [bind_assoc, pure_bind]
  iintro ⟨H0, H1, HP, HS, HQ⟩ Hk
  iapply (wp_read c poolM _ fullShare _) $$ HP; iintro HP
  iapply (wp_write c poolM _ _ _) $$ HP; iintro HP
  iapply (wp_read c sumM _ fullShare _) $$ HS; iintro HS
  iapply (wp_write c sumM _ _ _) $$ HS; iintro HS
  iapply (wp_read c sqM _ fullShare _) $$ HQ; iintro HQ
  iapply (wp_write c sqM _ _ _) $$ HQ; iintro HQ
  iapply (wp_start_at c x (s := 0) 0 0 rfl rfl rfl rfl) $$ H0; iintro H0
  iapply (wp_start_at c x (s := 0) 0 1 rfl rfl rfl rfl) $$ H1; iintro H1
  iapply Hk
  isplitl [H0]; · iexact H0
  isplitl [H1]; · iexact H1
  isplitl [HP]; · iapply (Entails.of_eq (congrArg (owns (c : Thread nD τ) poolM fullShare) (over_whole _ _ _))) $$ HP
  isplitl [HS]; · iapply (Entails.of_eq (congrArg (owns (c : Thread nD τ) sumM fullShare) (over_whole _ _ _))) $$ HS
  iapply (Entails.of_eq (congrArg (owns (c : Thread nD τ) sqM fullShare) (over_whole _ _ _))) $$ HQ

/-- Every point but the last starts the next block's copies. -/
theorem wp_part2 (h : (i 0).val + 1 < 100) (a : BitVec 32) (hc : k0_cond2 i = 1#1) {α : Type} (k : BitVec 32 → TC F α) (Q : α → sProp 𝕄) :
    iprop(free c x (slot ((i 0).val + 1)) 0 ∗ free c x (slot ((i 0).val + 1)) 1 ∗ free c x (slot ((i 0).val + 1)) 2)
      ⊢ iprop((iprop(coming c x ⟨(i 0).val + 1, h⟩ 0 ∗ coming c x ⟨(i 0).val + 1, h⟩ 1 ∗ coming c x ⟨(i 0).val + 1, h⟩ 2)
            -∗ WP (k (Scalar.addi a 1#32)) Q)
          -∗ WP (part2 A i a hc >>= k) Q) := by
  unfold part2
  rw [k0_part2_eq_skeleton]
  unfold k0_part2_skel
  simp only [bind_assoc, pure_bind]
  iintro ⟨H0, H1, H2⟩ Hk
  iapply (wp_start_at c x ⟨(i 0).val + 1, h⟩ 0 (off1_eq i) (off2_eq i) (off3_eq i 0) rfl) $$ H0; iintro H0
  iapply (wp_start_at c x ⟨(i 0).val + 1, h⟩ 1 (off4_eq i) (off5_eq i) (off3_eq i 1) rfl) $$ H1; iintro H1
  iapply (wp_start_at c x ⟨(i 0).val + 1, h⟩ 2 (off6_eq i) (off7_eq i) (off3_eq i 2) rfl) $$ H2; iintro H2
  iapply Hk
  isplitl [H0]; · iexact H0
  isplitl [H1]; · iexact H1
  iexact H2

/-- Before its waits, a point has its own block on its way and the next one too. -/
theorem wp_fetch (p : Acc F) {α : Type} (k : (Σ' (_ : BitVec 32), BitVec 32) → TC F α) (Q : α → sProp 𝕄) :
    iprop(ring c x (i 0).val ∗ accs c p ∗ ∃ W, owes (c : Thread nD τ) 0 W)
      ⊢ iprop((iprop(here c x ⟨(i 0).val, (i 0).isLt⟩ 0 ∗ here c x ⟨(i 0).val, (i 0).isLt⟩ 1 ∗ coming c x ⟨(i 0).val, (i 0).isLt⟩ 2
              ∗ coming c x ⟨(i 0).val, (i 0).isLt⟩ 3 ∗ next c x ((i 0).val + 1) ∗ accs c (if (i 0).val = 0 then Acc.start else p)
              ∗ ∃ W, owes (c : Thread nD τ) 0 W)
            -∗ WP (k ⟨BitVec.ofNat 32 (i 0).val, 1000#32⟩) Q)
          -∗ WP (part3 A i >>= k) Q) := by
  unfold part3
  rw [k0_part3_eq_skeleton]
  unfold k0_part3_skel
  simp only [bind_assoc, pure_bind]
  have hi : (i 0).val < 100 := (i 0).isLt
  by_cases h0 : (i 0).val = 0
  · have h2 : (i 0).val < 99 := by omega
    rw [dif_pos ((cond1_iff i).mpr h0), dif_pos ((cond2_iff i).mpr h2), if_pos h0]
    simp only [bind_assoc, pure_bind]
    unfold ring
    rw [if_pos h0, next_of c x _ (show (i 0).val + 1 < 100 by omega)]
    have hs : slot ((i 0).val + 1) = 1 := by rw [h0]; rfl
    have hb : (⟨(i 0).val, hi⟩ : Fin 100) = 0 := Fin.ext h0
    iintro ⟨⟨⟨C0, C1, C2, C3⟩, ⟨F0, F1, F2, F3⟩⟩, HA, HO⟩ Hk
    iapply (wp_part1 A i c x p _ Q) $$ [C0 C1 HA]
    · isplitl [C0]; · iexact C0
      isplitl [C1]; · iexact C1
      iexact HA
    iintro ⟨C0, C1, HA⟩
    iapply (wp_start_at c x (s := 0) 0 2 rfl rfl rfl rfl) $$ C2; iintro C2
    iapply (wp_start_at c x (s := 0) 0 3 rfl rfl rfl rfl) $$ C3; iintro C3
    rw [← hb, ← hs]
    have h1 : (i 0).val + 1 < 100 := by omega
    iapply (wp_part2 A i c x h1 _ ((cond2_iff i).mpr h2) _ Q) $$ [F0 F1 F2]
    · isplitl [F0]; · iexact F0
      isplitl [F1]; · iexact F1
      iexact F2
    iintro ⟨F0, F1, F2⟩
    iapply (wp_start_at c x ⟨(i 0).val + 1, h1⟩ 3 (off8_eq i) (off9_eq i) (off3_eq i 3) rfl) $$ F3; iintro F3
    iapply (wp_wait_at c x ⟨(i 0).val, hi⟩ 0 (off10_eq i) (off11_eq i) (off12_eq i 0)) $$ [C0 HO]
    · isplitl [C0]; · iexact C0
      iexact HO
    iintro ⟨C0, HO⟩
    iapply (wp_wait_at c x ⟨(i 0).val, hi⟩ 1 (off13_eq i) (off14_eq i) (off12_eq i 1)) $$ [C1 HO]
    · isplitl [C1]; · iexact C1
      iexact HO
    iintro ⟨C1, HO⟩
    iapply Hk
    isplitl [C0]; · iexact C0
    isplitl [C1]; · iexact C1
    isplitl [C2]; · iexact C2
    isplitl [C3]; · iexact C3
    isplitl [F0 F1 F2 F3]
    · isplitl [F0]; · iexact F0
      isplitl [F1]; · iexact F1
      isplitl [F2]; · iexact F2
      iexact F3
    isplitl [HA]; · iexact HA
    iexact HO
  · rw [dif_neg (fun h => h0 ((cond1_iff i).mp h)), if_neg h0]
    unfold ring
    rw [if_neg h0, next_of c x _ hi]
    iintro ⟨⟨⟨C0, C1, C2, C3⟩, HN⟩, HA, HO⟩ Hk
    by_cases h2 : (i 0).val < 99
    · rw [dif_pos ((cond2_iff i).mpr h2), next_of c x _ (show (i 0).val + 1 < 100 by omega)]
      simp only [bind_assoc, pure_bind]
      icases HN with ⟨F0, F1, F2, F3⟩
      have h1 : (i 0).val + 1 < 100 := by omega
      iapply (wp_part2 A i c x h1 _ ((cond2_iff i).mpr h2) _ Q) $$ [F0 F1 F2]
      · isplitl [F0]; · iexact F0
        isplitl [F1]; · iexact F1
        iexact F2
      iintro ⟨F0, F1, F2⟩
      iapply (wp_start_at c x ⟨(i 0).val + 1, h1⟩ 3 (off8_eq i) (off9_eq i) (off3_eq i 3) rfl) $$ F3; iintro F3
      iapply (wp_wait_at c x ⟨(i 0).val, hi⟩ 0 (off10_eq i) (off11_eq i) (off12_eq i 0)) $$ [C0 HO]
      · isplitl [C0]; · iexact C0
        iexact HO
      iintro ⟨C0, HO⟩
      iapply (wp_wait_at c x ⟨(i 0).val, hi⟩ 1 (off13_eq i) (off14_eq i) (off12_eq i 1)) $$ [C1 HO]
      · isplitl [C1]; · iexact C1
        iexact HO
      iintro ⟨C1, HO⟩
      iapply Hk
      isplitl [C0]; · iexact C0
      isplitl [C1]; · iexact C1
      isplitl [C2]; · iexact C2
      isplitl [C3]; · iexact C3
      isplitl [F0 F1 F2 F3]
      · isplitl [F0]; · iexact F0
        isplitl [F1]; · iexact F1
        isplitl [F2]; · iexact F2
        iexact F3
      isplitl [HA]; · iexact HA
      iexact HO
    · rw [dif_neg (fun h => h2 ((cond2_iff i).mp h)), next_end c x _ (show ¬ (i 0).val + 1 < 100 by omega)]
      simp only [bind_assoc, pure_bind]
      iapply (wp_wait_at c x ⟨(i 0).val, hi⟩ 0 (off10_eq i) (off11_eq i) (off12_eq i 0)) $$ [C0 HO]
      · isplitl [C0]; · iexact C0
        iexact HO
      iintro ⟨C0, HO⟩
      iapply (wp_wait_at c x ⟨(i 0).val, hi⟩ 1 (off13_eq i) (off14_eq i) (off12_eq i 1)) $$ [C1 HO]
      · isplitl [C1]; · iexact C1
        iexact HO
      iintro ⟨C1, HO⟩
      iapply Hk
      isplitl [C0]; · iexact C0
      isplitl [C1]; · iexact C1
      isplitl [C2]; · iexact C2
      isplitl [C3]; · iexact C3
      isplitl [HN]; · iexact HN
      isplitl [HA]; · iexact HA
      iexact HO

end Cert.PoolIdeal.Pass
-- ==== Proof.PoolIdealSlot.lean ====
/-
  Reading the block that has arrived: the four quarters of its slot together, two hundred rows at a time.
-/
module

public import proofs.«01_k».proof.Proof.PoolIdealWalk

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)

variable {F : FTy → Type} [FloatOps F] [Named F]

local notation "𝕄" => MT nD τ sig Unit (Elt F) ℕ (UC sig nD τ) ℕ

variable (c : Dev nD) (x : S100000x128.Idx → Elt F .f32)

local notation "WP" => wp frame (wpE (defs₀ (F := F)) Variants.none (c : Thread nD τ) none) Set.univ

/-! ## A slot and its quarters -/

/-- The places of slot `s` from row `250 q` on. -/
def slotFrom (s : Fin 2) (q : ℕ) : Finset S2x1000x128.Idx := Finset.univ.filter fun i => (i 0).val = s.val ∧ 250 * q ≤ (i 1).val

theorem mem_dst (s : Fin 2) (q : Fin 4) (i : S2x1000x128.Idx) :
    i ∈ (dstAt s q).view.set ↔ (i 0).val = s.val ∧ 250 * q.val ≤ (i 1).val ∧ (i 1).val < 250 * (q.val + 1) := by
  constructor
  · intro h
    obtain ⟨j, -, rfl⟩ := Finset.mem_map.mp h
    rw [dstAt_emb]
    have hj : (j 0).val < 250 := (j 0).isLt
    refine ⟨rfl, ?_, ?_⟩
    · show 250 * q.val ≤ 250 * q.val + (j 0).val; omega
    · show 250 * q.val + (j 0).val < _; omega
  · rintro ⟨h0, h1, h2⟩
    refine Finset.mem_map.mpr ⟨(ix2 (⟨(i 1).val - 250 * q.val, by omega⟩ : Fin 250) (i 2) : S250x128.Idx), Finset.mem_univ _, ?_⟩
    rw [dstAt_emb]
    funext a
    match a with
    | 0 => exact Fin.ext h0.symm
    | 1 => exact Fin.ext (show 250 * q.val + ((i 1).val - 250 * q.val) = (i 1).val by omega)
    | 2 => rfl

theorem dst_sub (s : Fin 2) (q : Fin 4) : (dstAt s q).view.set ⊆ slotFrom s q.val := fun i h => by
  obtain ⟨h0, h1, -⟩ := (mem_dst s q i).mp h
  exact Finset.mem_filter.mpr ⟨Finset.mem_univ _, h0, h1⟩

theorem slot_rest (s : Fin 2) (q : Fin 4) : slotFrom s q.val \ (dstAt s q).view.set = slotFrom s (q.val + 1) := by
  ext i
  rw [Finset.mem_sdiff, mem_dst]
  unfold slotFrom
  simp only [Finset.mem_filter, Finset.mem_univ, true_and]
  constructor
  · rintro ⟨⟨h0, h1⟩, h2⟩
    exact ⟨h0, by by_contra h; exact h2 ⟨h0, h1, by omega⟩⟩
  · rintro ⟨h0, h1⟩
    exact ⟨⟨h0, by omega⟩, fun h => by omega⟩

theorem slot_end (s : Fin 2) : slotFrom s 4 = ∅ := by
  unfold slotFrom
  refine Finset.filter_eq_empty_iff.mpr fun i _ h => ?_
  have : (i 1).val < 1000 := (i 1).isLt
  omega

abbrev slotAt (s : Fin 2) (q : ℕ) (f : S2x1000x128.Idx → Elt F .f32) : sProp 𝕄 := bufV.view.loc (c : Thread nD τ) ↦[slotFrom s q]{fullShare} f

theorem slot_split (s : Fin 2) (q : Fin 4) (n m : ℕ) (hn : q.val = n) (hm : q.val + 1 = m) (f : S2x1000x128.Idx → Elt F .f32) :
    slotAt c s n f ⊣⊢ iprop(bufAt c s q f ∗ slotAt c s m f) := by
  subst hn hm
  have h := pointsTo_split_subset (Ix := Unit) (Name := ℕ) (U := UC sig nD τ) (Lvl := ℕ) (ℓ := bufV.view.loc (c : Thread nD τ)) (q := fullShare) (f := f) (dst_sub s q)
  rw [slot_rest] at h
  exact h

/-- A slot's semaphores at rest and its shares of the points. -/
def idle (s : Fin 2) : sProp 𝕄 :=
  iprop((zeroAt c s 0 ∗ xAt c x s 0) ∗ (zeroAt c s 1 ∗ xAt c x s 1) ∗ (zeroAt c s 2 ∗ xAt c x s 2) ∗ (zeroAt c s 3 ∗ xAt c x s 3))

theorem gather_slot (b : Fin 100) : heres c x b ⊢ iprop(slotAt c (slot b.val) 0 (arrived x b) ∗ idle c x (slot b.val)) := by
  unfold heres here idle
  iintro ⟨⟨B0, Z0, X0⟩, ⟨B1, Z1, X1⟩, ⟨B2, Z2, X2⟩, B3, Z3, X3⟩
  isplitl [B0 B1 B2 B3]
  · iapply (slot_split c (slot b.val) 0 0 1 rfl rfl (arrived x b)).2
    isplitl [B0]; · iexact B0
    iapply (slot_split c (slot b.val) 1 1 2 rfl rfl (arrived x b)).2
    isplitl [B1]; · iexact B1
    iapply (slot_split c (slot b.val) 2 2 3 rfl rfl (arrived x b)).2
    isplitl [B2]; · iexact B2
    iapply (slot_split c (slot b.val) 3 3 4 rfl rfl (arrived x b)).2
    isplitl [B3]; · iexact B3
    have e : (slotAt c (slot b.val) 4 (arrived x b) : sProp 𝕄) = BI.emp := by
      unfold slotAt
      rw [slot_end]
      exact pointsTo_empty
    rw [e]
    iempintro
  isplitl [Z0 X0]; · isplitl [Z0]; · iexact Z0
                     iexact X0
  isplitl [Z1 X1]; · isplitl [Z1]; · iexact Z1
                     iexact X1
  isplitl [Z2 X2]; · isplitl [Z2]; · iexact Z2
                     iexact X2
  isplitl [Z3]; · iexact Z3
  iexact X3

theorem scatter_slot (s : Fin 2) (f : S2x1000x128.Idx → Elt F .f32) : iprop(slotAt c s 0 f ∗ idle c x s) ⊢ frees c x s := by
  unfold frees free idle
  iintro ⟨B, ⟨Z0, X0⟩, ⟨Z1, X1⟩, ⟨Z2, X2⟩, Z3, X3⟩
  icases (slot_split c s 0 0 1 rfl rfl f).1 $$ B with ⟨B0, B⟩
  icases (slot_split c s 1 1 2 rfl rfl f).1 $$ B with ⟨B1, B⟩
  icases (slot_split c s 2 2 3 rfl rfl f).1 $$ B with ⟨B2, B⟩
  icases (slot_split c s 3 3 4 rfl rfl f).1 $$ B with ⟨B3, -⟩
  isplitl [B0 Z0 X0]; · isplitl [B0]; · iexists f; iexact B0
                        isplitl [Z0]; · iexact Z0
                        iexact X0
  isplitl [B1 Z1 X1]; · isplitl [B1]; · iexists f; iexact B1
                        isplitl [Z1]; · iexact Z1
                        iexact X1
  isplitl [B2 Z2 X2]; · isplitl [B2]; · iexists f; iexact B2
                        isplitl [Z2]; · iexact Z2
                        iexact X2
  isplitl [B3]; · iexists f; iexact B3
  isplitl [Z3]; · iexact Z3
  iexact X3

/-! ## Two hundred rows of the block -/

/-- Rows `200 k` on of block `b`. -/
def xs (b : Fin 100) (k : Fin 5) : S1x200x128.Idx → Elt F .f32 :=
  fun j => x (ix2 (row b ⟨200 * k.val + (j 1).val, by have := k.isLt; have : (j 1).val < 200 := (j 1).isLt; omega⟩) (j 2))

theorem off20_eq : ∀ i : grid0.Coords, k0_off20 i = ![(i 0).val % 2, 0, 0] := by decide +kernel
theorem off21_eq : ∀ i : grid0.Coords, k0_off21 i = ![(i 0).val % 2, 200, 0] := by decide +kernel
theorem off22_eq : ∀ i : grid0.Coords, k0_off22 i = ![(i 0).val % 2, 400, 0] := by decide +kernel
theorem off23_eq : ∀ i : grid0.Coords, k0_off23 i = ![(i 0).val % 2, 600, 0] := by decide +kernel
theorem off24_eq : ∀ i : grid0.Coords, k0_off24 i = ![(i 0).val % 2, 800, 0] := by decide +kernel

theorem xs_emb (b : Fin 100) (k : Fin 5) (ho : ∀ a, (![b.val % 2, 200 * k.val, 0] : Fin 3 → ℕ) a + S1x200x128.size a ≤ S2x1000x128.size a)
    (j : S1x200x128.Idx) : (Rect.unit (s := S2x1000x128) ![b.val % 2, 200 * k.val, 0] S1x200x128.size ho).emb j
      = ix3 (slot b.val) (⟨200 * k.val + (j 1).val, by have := k.isLt; have : (j 1).val < 200 := (j 1).isLt; omega⟩ : Fin 1000) (j 2) := by
  funext a
  have h0 : (j 0).val < 1 := (j 0).isLt
  match a with
  | 0 => exact Fin.ext (show b.val % 2 + 1 * (j 0).val = b.val % 2 by omega)
  | 1 => exact Fin.ext (show 200 * k.val + 1 * (j 1).val = 200 * k.val + (j 1).val by omega)
  | 2 => exact Fin.ext (show 0 + 1 * (j 2).val = (j 2).val by omega)

theorem wp_xread (b : Fin 100) (k : Fin 5) {o : Fin 3 → ℕ} (e : o = ![b.val % 2, 200 * k.val, 0])
    {ho : ∀ a, o a + S1x200x128.size a ≤ S2x1000x128.size a}
    {hl : bufV.view.LoadsAt (Rect.unit (s := S2x1000x128) o S1x200x128.size ho)} {α : Type} {p : (S1x200x128.Idx → Elt F .f32) → TC F α} {Q : α → sProp 𝕄} :
    (slotAt c (slot b.val) 0 (arrived x b) : sProp 𝕄)
      ⊢ iprop((slotAt c (slot b.val) 0 (arrived x b) -∗ WP (p (xs x b k)) Q)
          -∗ WP (.op (.load bufV (Rect.unit (s := S2x1000x128) o S1x200x128.size ho) hl) p) Q) := by
  subst e
  have hv : (bufV.access (Rect.unit (s := S2x1000x128) ![b.val % 2, 200 * k.val, 0] S1x200x128.size ho)).read (Elt F) (arrived x b) = xs x b k := by
    funext j
    exact congrArg (arrived x b) (xs_emb b k ho j)
  have hS : (bufV.access (Rect.unit (s := S2x1000x128) ![b.val % 2, 200 * k.val, 0] S1x200x128.size ho)).set ⊆ slotFrom (slot b.val) 0 := by
    intro i hi
    obtain ⟨j, -, rfl⟩ := Finset.mem_map.mp hi
    refine Finset.mem_filter.mpr ⟨Finset.mem_univ _, ?_, by omega⟩
    exact congrArg (fun i : S2x1000x128.Idx => (i 0).val) (xs_emb b k ho j)
  iintro H Hk
  iapply (wp_load_rect Variants.none (c : Thread nD τ) none Set.univ (m := bufV)
    (r := Rect.unit (s := S2x1000x128) ![b.val % 2, 200 * k.val, 0] S1x200x128.size ho) (S := slotFrom (slot b.val) 0) (q := fullShare)
    (f := arrived x b) hS) $$ H
  iintro H
  rw [hv]
  iapply Hk
  iexact H

end Cert.PoolIdeal.Pass
-- ==== Proof.PoolIdealStep.lean ====
/-
  What a grid point of the pooling pass adds to the running maxima and sums, as a function of the block.
-/
module

public import proofs.«01_k».proof.Proof.PoolIdealSlot

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)

variable {F : FTy → Type} [FloatOps F] [Named F]

local notation "𝕄" => MT nD τ sig Unit (Elt F) ℕ (UC sig nD τ) ℕ

/-- What the pass works on: the points, each block's first and last segment, the layer's matrix and vectors, and each block's segments. -/
structure Ins (F : FTy → Type) where
  x : S100000x128.Idx → Elt F .f32
  first : S100.Idx → Elt F .i32
  last : S100.Idx → Elt F .i32
  W : S128x128.Idx → Elt F .f32
  b : S1x128.Idx → Elt F .f32
  gamma : S1x128.Idx → Elt F .f32
  beta : S1x128.Idx → Elt F .f32
  seg : Fin 100 → S1000x1.Idx → Elt F .i32
  ok1 : ∀ n : Fin 100, k0_chk1 (first (ix1 n))
  ok2 : ∀ n : Fin 100, k0_chk2 (first (ix1 n)) (last (ix1 n))

namespace Ins

variable (J : Ins F) (n : Fin 100)

abbrev w : S128x128.Idx → Elt F .f32 := cut (Rect.unit (s := S128x128) ![0, 0] S128x128.size inb_S128x128_S128x128_0_0) J.W
abbrev bias : FVec F S1x128 .f32 := k0_pay9 (cut (Rect.unit (s := S1x128) ![0, 0] S1x128.size inb_S1x128_S1x128_0_0) J.b)
abbrev s0 : Elt F .i32 := J.first (ix1 n)
abbrev s1 : Elt F .i32 := J.last (ix1 n)

/-! ## The block in five chunks of two hundred rows: its segments, and its rows through the linear layer -/

abbrev ids0 := cut (Rect.unit (s := S1000x1) ![0, 0] S200x1.size inb_S1000x1_S200x1_0_0) (J.seg n)
abbrev ids1 := cut (Rect.unit (s := S1000x1) ![200, 0] S200x1.size inb_S1000x1_S200x1_200_0) (J.seg n)
abbrev ids2 := cut (Rect.unit (s := S1000x1) ![400, 0] S200x1.size inb_S1000x1_S200x1_400_0) (J.seg n)
abbrev ids3 := cut (Rect.unit (s := S1000x1) ![600, 0] S200x1.size inb_S1000x1_S200x1_600_0) (J.seg n)
abbrev ids4 := cut (Rect.unit (s := S1000x1) ![800, 0] S200x1.size inb_S1000x1_S200x1_800_0) (J.seg n)

def h0 : FVec F S200x128 .f32 := k0_pay15 J.w J.bias (xs J.x n 0)
def h1 : FVec F S200x128 .f32 := k0_pay25 J.w J.bias (xs J.x n 1)
def h2 : FVec F S200x128 .f32 := k0_pay35 J.w J.bias (xs J.x n 2)
def h3 : FVec F S200x128 .f32 := k0_pay45 J.w J.bias (xs J.x n 3)
def h4 : FVec F S200x128 .f32 := k0_pay55 J.w J.bias (xs J.x n 4)

/-- The block's rows through the linear layer, as the five chunks leave them. -/
def rowsOn (f : S1000x128.Idx → Elt F .f32) : S1000x128.Idx → Elt F .f32 :=
  over (Rect.unit (s := S1000x128) ![800, 0] S200x128.size inb_S1000x128_S200x128_800_0)
    (over (Rect.unit (s := S1000x128) ![600, 0] S200x128.size inb_S1000x128_S200x128_600_0)
      (over (Rect.unit (s := S1000x128) ![400, 0] S200x128.size inb_S1000x128_S200x128_400_0)
        (over (Rect.unit (s := S1000x128) ![200, 0] S200x128.size inb_S1000x128_S200x128_200_0)
          (over (Rect.unit (s := S1000x128) ![0, 0] S200x128.size inb_S1000x128_S200x128_0_0) f
            (k0_pay16 J.w J.bias (xs J.x n 0))) (k0_pay26 J.w J.bias (xs J.x n 1))) (k0_pay36 (J.h2 n))) (k0_pay46 J.w J.bias (xs J.x n 3)))
    (k0_pay56 J.w J.bias (xs J.x n 4))

/-! ## The block's sums -/

def sum : FVec F S8x128 .f32 :=
  k0_pay57 J.w J.bias (k0_pay47 J.w J.bias (k0_pay37 (k0_pay27 J.w J.bias (k0_pay17 J.w J.bias (k0_pay10 (F := F)) (xs J.x n 0)) (xs J.x n 1)) (J.h2 n)) (xs J.x n 3))
    (xs J.x n 4)
def sq : FVec F S8x128 .f32 :=
  k0_pay58 J.w J.bias (k0_pay48 J.w J.bias (k0_pay38 (k0_pay28 J.w J.bias (k0_pay18 J.w J.bias (k0_pay11 (F := F)) (xs J.x n 0)) (xs J.x n 1)) (J.h2 n)) (xs J.x n 3))
    (xs J.x n 4)

/-! ## The maxima of its first four segments -/

def max0 : FVec F S1x128 .f32 :=
  k0_pay61 (k0_pay50 J.w J.bias (J.s0 n)
    (k0_pay40 (J.s0 n) (k0_pay31 (k0_pay20 J.w J.bias (J.s0 n) (xs J.x n 0) (J.ids0 n)) (J.h1 n) (k0_pay30 (J.s0 n) (J.ids1 n))) (J.h2 n) (J.ids2 n))
    (xs J.x n 3) (J.ids3 n)) (J.h4 n) (k0_pay60 (J.s0 n) (J.ids4 n))
def max1 : FVec F S1x128 .f32 :=
  k0_pay62 (J.s0 n) (k0_pay52
    (k0_pay41 (J.s0 n) (k0_pay32 (J.s0 n) (k0_pay22 (k0_pay12 (F := F)) (k0_pay21 J.w J.bias (J.s0 n) (xs J.x n 0) (J.ids0 n))) (J.h1 n) (k0_pay29 (J.ids1 n)))
      (J.h2 n) (J.ids2 n))
    (k0_pay51 J.w J.bias (J.s0 n) (xs J.x n 3) (J.ids3 n))) (J.h4 n) (k0_pay59 (J.ids4 n))
def max2 : FVec F S1x128 .f32 :=
  k0_pay63 (J.s0 n) (k0_pay53 (J.s0 n)
    (k0_pay42 (J.s0 n) (k0_pay33 (J.s0 n) (k0_pay23 (J.s0 n) (k0_pay13 (F := F)) (J.h0 n) (k0_pay19 (J.ids0 n))) (J.h1 n) (k0_pay29 (J.ids1 n)))
      (J.h2 n) (J.ids2 n))
    (J.h3 n) (k0_pay49 (J.ids3 n))) (J.h4 n) (k0_pay59 (J.ids4 n))
def max3 : FVec F S1x128 .f32 :=
  k0_pay64 (J.s0 n) (k0_pay54 (J.s0 n)
    (k0_pay44 (k0_pay34 (J.s0 n) (k0_pay24 (J.s0 n) (k0_pay14 (F := F)) (J.h0 n) (k0_pay19 (J.ids0 n))) (J.h1 n) (k0_pay29 (J.ids1 n)))
      (J.h2 n) (k0_pay43 (J.s0 n) (J.ids2 n)) (Scalar.ofBits .f32 0xFF800000#32))
    (J.h3 n) (k0_pay49 (J.ids3 n))) (J.h4 n) (k0_pay59 (J.ids4 n))

/-- A row of the running maxima. -/
abbrev near (k : Fin 4) : Rect S256x128 :=
  Rect.unit (s := S256x128) (k0_off25 (J.s0 n) (BitVec.ofNat 32 k.val)) S1x128.size (k0_off25_inb (J.s0 n) (J.ok1 n) k)

/-- The running maxima with the first four segments' taken in. -/
def pool1 (P : S256x128.Idx → Elt F .f32) : S256x128.Idx → Elt F .f32 := over (J.near n 0) P (k0_pay67 (J.max0 n) (cut (J.near n 0) P))
def pool2 (P : S256x128.Idx → Elt F .f32) : S256x128.Idx → Elt F .f32 := over (J.near n 1) P (k0_pay68 (J.max1 n) (cut (J.near n 1) P))
def pool3 (P : S256x128.Idx → Elt F .f32) : S256x128.Idx → Elt F .f32 := over (J.near n 2) P (k0_pay69 (J.max2 n) (cut (J.near n 2) P))
def pool4 (P : S256x128.Idx → Elt F .f32) : S256x128.Idx → Elt F .f32 :=
  over (J.near n 3) P (k0_pay1 (k0_pay70 (J.max3 n) (cut (J.near n 3) P)))

abbrev far (k : Fin (k0_t1_loop (J.s0 n) (J.s1 n)).trips) : Rect S256x128 :=
  Rect.unit (s := S256x128) (k0_off26 (J.s0 n) (J.s1 n) k) S1x128.size (k0_off26_inb (J.s0 n) (J.s1 n) (J.ok2 n) k)

/-- The block's rows, whatever was there before. -/
def rows : S1000x128.Idx → Elt F .f32 := J.rowsOn n fun _ => Scalar.ofBits .f32 0#32

/-- The running maxima after `k` of the segments beyond the first four. -/
def loop (P : S256x128.Idx → Elt F .f32) : ℕ → S256x128.Idx → Elt F .f32
  | 0 => P
  | k + 1 => if h : k < (k0_t1_loop (J.s0 n) (J.s1 n)).trips then
      over (J.far n ⟨k, h⟩) (loop P k) (k0_pay3 (J.s0 n) (J.s1 n)
        (cut (Rect.unit (s := S1000x1) ![0, 0] S1000x1.size inb_S1000x1_S1000x1_0_0) (J.seg n)) ⟨k, h⟩
        (cut (Rect.unit (s := S1000x128) ![0, 0] S1000x128.size inb_S1000x128_S1000x128_0_0) (J.rows n)) (cut (J.far n ⟨k, h⟩) (loop P k)))
    else loop P k

/-- What block `n` makes of the running maxima and sums. -/
def step (p : Acc F) : Acc F where
  pool := J.loop n (J.pool4 n (J.pool3 n (J.pool2 n (J.pool1 n p.pool)))) (k0_t1_loop (J.s0 n) (J.s1 n)).trips
  sum := k0_pay65 (J.sum n) (cut (Rect.unit (s := S8x128) ![0, 0] S8x128.size inb_S8x128_S8x128_0_0) p.sum)
  sq := k0_pay66 (J.sq n) (cut (Rect.unit (s := S8x128) ![0, 0] S8x128.size inb_S8x128_S8x128_0_0) p.sq)

/-- The running maxima and sums after the first `k` blocks. -/
def after : ℕ → Acc F
  | 0 => Acc.start
  | k + 1 => if h : k < 100 then J.step ⟨k, h⟩ (after k) else after k

/-- The pass's result. -/
def result (p : Acc F) : S256x128.Idx → Elt F .f32 :=
  k0_pay5 (cut (Rect.unit (s := S8x128) ![0, 0] S8x128.size inb_S8x128_S8x128_0_0) p.sum)
    (cut (Rect.unit (s := S8x128) ![0, 0] S8x128.size inb_S8x128_S8x128_0_0) p.sq)
    (cut (Rect.unit (s := S1x128) ![0, 0] S1x128.size inb_S1x128_S1x128_0_0) J.gamma)
    (cut (Rect.unit (s := S1x128) ![0, 0] S1x128.size inb_S1x128_S1x128_0_0) J.beta)
    (cut (Rect.unit (s := S256x128) ![0, 0] S256x128.size inb_S256x128_S256x128_0_0) p.pool)

/-! ## The chunks cover the block -/

theorem over_rows (o : ℕ) (h : ∀ a, (![o, 0] : Fin 2 → ℕ) a + S200x128.size a ≤ S1000x128.size a) (X : S1000x128.Idx → Elt F .f32)
    (v : S200x128.Idx → Elt F .f32) (i : S1000x128.Idx) :
    over (Rect.unit (s := S1000x128) ![o, 0] S200x128.size h) X v i
      = if hi : o ≤ (i 0).val ∧ (i 0).val < o + 200 then v (ix2 ⟨(i 0).val - o, by omega⟩ (i 1)) else X i := by
  by_cases hi : o ≤ (i 0).val ∧ (i 0).val < o + 200
  · rw [dif_pos hi]
    have e : (Rect.unit (s := S1000x128) ![o, 0] S200x128.size h).emb (ix2 (⟨(i 0).val - o, by omega⟩ : Fin 200) (i 1)) = i := by
      funext a
      match a with
      | 0 => exact Fin.ext (show o + 1 * ((i 0).val - o) = (i 0).val by omega)
      | 1 => exact Fin.ext (show 0 + 1 * (i 1).val = (i 1).val by omega)
    have h' := over_emb (Rect.unit (s := S1000x128) ![o, 0] S200x128.size h) X v (ix2 (⟨(i 0).val - o, by omega⟩ : Fin 200) (i 1))
    rw [e] at h'
    exact h'
  · rw [dif_neg hi]
    refine over_of_not _ _ _ _ fun j hj => hi ?_
    have : o + 1 * (j 0).val = (i 0).val := congrArg (fun i : S1000x128.Idx => (i 0).val) hj
    have hj0 : (j 0).val < 200 := (j 0).isLt
    omega

theorem over_same (o : ℕ) (h : ∀ a, (![o, 0] : Fin 2 → ℕ) a + S200x128.size a ≤ S1000x128.size a) {X Y : S1000x128.Idx → Elt F .f32}
    (v : S200x128.Idx → Elt F .f32) (i : S1000x128.Idx) (e : ¬(o ≤ (i 0).val ∧ (i 0).val < o + 200) → X i = Y i) :
    over (Rect.unit (s := S1000x128) ![o, 0] S200x128.size h) X v i = over (Rect.unit (s := S1000x128) ![o, 0] S200x128.size h) Y v i := by
  refine (over_rows o h X v i).trans ((?_ : _ = _).trans (over_rows o h Y v i).symm)
  split
  · rfl
  · exact e ‹_›

theorem rowsOn_eq (f : S1000x128.Idx → Elt F .f32) : J.rowsOn n f = J.rows n := by
  unfold rows
  funext i
  have hi : (i 0).val < 1000 := (i 0).isLt
  exact over_same 800 _ _ i fun a4 => over_same 600 _ _ i fun a3 => over_same 400 _ _ i fun a2 => over_same 200 _ _ i fun a1 => over_same 0 _ _ i fun a0 => by
    omega

end Ins

end Cert.PoolIdeal.Pass
-- ==== Proof.PoolIdealPoint.lean ====
/-
  A grid point of the pooling pass, walked from its fetch to its end.
-/
module

public import proofs.«01_k».proof.Proof.PoolIdealStep
public import Idealize.ShloMosaic.Lib.LoopRemainder

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)

variable {F : FTy → Type} [FloatOps F] [Named F]

local notation "𝕄" => MT nD τ sig Unit (Elt F) ℕ (UC sig nD τ) ℕ

variable (A : Places) (i : grid0.Coords) (c : Dev nD) (J : Ins F)

local notation "WP" => wp frame (wpE (defs₀ (F := F)) Variants.none (c : Thread nD τ) none) Set.univ

/-- The program of a grid point at the windows' staging buffers. -/
abbrev body := cc0__tc_body (F := F) i A.m1 A.h1 A.m2 A.h2 xV xV_whole A.m4 A.h4 A.m5 A.h5 A.m6 A.h6 A.m7 A.h7 A.m8 A.h8 A.m9 A.h9
  bufV bufV_whole poolM poolM_whole rowsM rowsM_whole sumM sumM_whole sqM sqM_whole cc0_scratch5

/-- What the input windows hold at block `n`. -/
def inputs (n : Fin 100) : sProp 𝕄 :=
  iprop(owns (c : Thread nD τ) A.m1 fullShare J.first ∗ owns (c : Thread nD τ) A.m2 fullShare J.last ∗ owns (c : Thread nD τ) A.m4 fullShare J.W
    ∗ owns (c : Thread nD τ) A.m5 fullShare J.b ∗ owns (c : Thread nD τ) A.m6 fullShare J.gamma ∗ owns (c : Thread nD τ) A.m7 fullShare J.beta
    ∗ owns (c : Thread nD τ) A.m8 fullShare (J.seg n))

/-- The word a point reads from a list of a hundred is that of its block. -/
theorem wp_word_at (m : Memref sig .tc .smem S100 .i32) (X : S100.Idx → Elt F .i32)
    {hi : ∀ a, k0_off19 i a + S1.size a ≤ S100.size a} {h1 : (Rect.unit (s := S100) (k0_off19 i) S1.size hi).shape.numel = 1} {hp : EltTy.i32.packing = 1}
    {α : Type} {k : Elt F .i32 → TC F α} {Q : α → sProp 𝕄} :
    (owns (c : Thread nD τ) m fullShare X : sProp 𝕄)
      ⊢ iprop((owns (c : Thread nD τ) m fullShare X -∗ WP (k (X (ix1 ⟨(i 0).val, (i 0).isLt⟩))) Q)
          -∗ WP (smemLoad m (Rect.unit (s := S100) (k0_off19 i) S1.size hi) h1 hp >>= k) Q) := by
  unfold smemLoad
  rw [smemLoadElt_bind]
  have e : ∀ j : (Rect.unit (s := S100) (k0_off19 i) S1.size hi).shape.Idx,
      (Rect.unit (s := S100) (k0_off19 i) S1.size hi).emb j = ix1 (⟨(i 0).val, (i 0).isLt⟩ : Fin 100) := by
    intro j
    funext a
    have ha : a = 0 := Subsingleton.elim _ _
    subst ha
    refine Fin.ext ?_
    show k0_off19 i 0 + 1 * (j 0).val = (i 0).val
    have hj : (j 0).val < 1 := (j 0).isLt
    have h0 : k0_off19 i 0 = (i 0).val := congrFun (k0_off19_eq i) 0
    omega
  iintro H Hk
  iapply (wp_word c m (Rect.unit (s := S100) (k0_off19 i) S1.size hi) fullShare X) $$ H
  iintro H
  rw [e]
  iapply Hk
  iexact H

theorem wp_done {α : Type} (a : α) (Q : α → sProp 𝕄) : Q a ⊢ WP (.ret a) Q := by
  rw [wp_ret]
  exact fupd_intro

/-- The loop over the segments beyond the first four. -/
theorem wp_loop (n : Fin 100) (P : S256x128.Idx → Elt F .f32)
    (k : Fin (k0_t1_loop (J.s0 n) (J.s1 n)).trips) (u : Unit) :
    (iprop(owns (c : Thread nD τ) rowsM fullShare (J.rows n) ∗ owns (c : Thread nD τ) poolM fullShare (J.loop n P k.val)) : sProp 𝕄)
      ⊢ WP (k0_t1_body (F := F) i A.m1 A.h1 A.m2 A.h2 xV xV_whole A.m4 A.h4 A.m5 A.h5 A.m6 A.h6 A.m7 A.h7 A.m8 A.h8 A.m9 A.h9
          bufV bufV_whole poolM poolM_whole rowsM rowsM_whole sumM sumM_whole sqM sqM_whole cc0_scratch5 (J.s0 n) (J.s1 n) (J.ok2 n)
          (cut (Rect.unit (s := S1000x1) ![0, 0] S1000x1.size inb_S1000x1_S1000x1_0_0) (J.seg n)) k u)
        (fun _ => iprop(owns (c : Thread nD τ) rowsM fullShare (J.rows n) ∗ owns (c : Thread nD τ) poolM fullShare (J.loop n P (k.val + 1)))) := by
  unfold k0_t1_body
  simp only [bind_assoc, pure_bind]
  iintro ⟨HR, HP⟩
  iapply (wp_read c rowsM _ fullShare _) $$ HR; iintro HR
  iapply (wp_read c poolM _ fullShare _) $$ HP; iintro HP
  iapply (wp_read c poolM _ fullShare _) $$ HP; iintro HP
  iapply (wp_write c poolM _ _ _) $$ HP; iintro HP
  iapply (wp_done c () _)
  isplitl [HR]; · iexact HR
  have e : J.loop n P (k.val + 1) = over (J.far n k) (J.loop n P k.val) (k0_pay3 (J.s0 n) (J.s1 n)
      (cut (Rect.unit (s := S1000x1) ![0, 0] S1000x1.size inb_S1000x1_S1000x1_0_0) (J.seg n)) k
      (cut (Rect.unit (s := S1000x128) ![0, 0] S1000x128.size inb_S1000x128_S1000x128_0_0) (J.rows n)) (cut (J.far n k) (J.loop n P k.val))) := dif_pos k.isLt
  rw [e]
  iexact HP

theorem slot_two (n : ℕ) : slot (n + 1 + 1) = slot n := Fin.ext (by show (n + 1 + 1) % 2 = n % 2; omega)

theorem rows_owned (n : Fin 100) (f : S1000x128.Idx → Elt F .f32) :
    (owns (c : Thread nD τ) rowsM fullShare (J.rowsOn n f) : sProp 𝕄) ⊢ owns (c : Thread nD τ) rowsM fullShare (J.rows n) :=
  Entails.of_eq (congrArg (owns (c : Thread nD τ) rowsM fullShare) (J.rowsOn_eq n f))

/-- A grid point takes its block into the running maxima and sums, and the last writes the result. -/
theorem wp_point (p : Acc F) (n : Fin 100) (hn : (i 0).val = n.val) (out : S256x128.Idx → Elt F .f32) {α : Type} (k : PUnit.{1} → TC F α) (Q : α → sProp 𝕄) :
    iprop(ring c J.x n.val ∗ accs c p ∗ (∃ f, owns (c : Thread nD τ) rowsM fullShare f) ∗ inputs A c J n ∗ owns (c : Thread nD τ) A.m9 fullShare out
        ∗ ∃ W, owes (c : Thread nD τ) 0 W)
      ⊢ iprop((iprop(ring c J.x (n.val + 1) ∗ accs c (J.step n (if n.val = 0 then Acc.start else p)) ∗ (∃ f, owns (c : Thread nD τ) rowsM fullShare f)
              ∗ inputs A c J n
              ∗ owns (c : Thread nD τ) A.m9 fullShare (if n.val = 99 then J.result (J.step n (if n.val = 0 then Acc.start else p)) else out)
              ∗ ∃ W, owes (c : Thread nD τ) 0 W)
            -∗ WP (k ⟨⟩) Q)
          -∗ WP (body A i >>= k) Q) := by
  obtain rfl : n = ⟨(i 0).val, (i 0).isLt⟩ := Fin.ext hn.symm
  unfold body
  rw [cc0__tc_body_eq_skeleton]
  unfold cc0__tc_body_skel
  simp only [bind_assoc]
  iintro ⟨HG, HA, ⟨%f, HR⟩, HI, H9, HO⟩ Hk
  iapply (wp_fetch A i c J.x p _ Q) $$ [HG HA HO]
  · isplitl [HG]; · iexact HG
    isplitl [HA]; · iexact HA
    iexact HO
  iintro ⟨C0, C1, C2, C3, HN, HA, HO⟩
  rw [k0_part4_eq_skeleton, k0_part5_eq_skeleton, k0_part6_eq_skeleton, k0_part7_eq_skeleton, k0_part8_eq_skeleton, k0_part9_eq_skeleton,
    k0_part10_eq_skeleton, k0_part11_eq_skeleton, k0_part12_eq_skeleton]
  unfold k0_part4_skel
  simp only [bind_assoc, pure_bind]
  iapply (wp_wait_at c J.x ⟨(i 0).val, (i 0).isLt⟩ 2 (off15_eq i) (off16_eq i) (off12_eq i 2)) $$ [C2 HO]
  · isplitl [C2]; · iexact C2
    iexact HO
  iintro ⟨C2, HO⟩
  iapply (wp_wait_at c J.x ⟨(i 0).val, (i 0).isLt⟩ 3 (off17_eq i) (off18_eq i) (off12_eq i 3)) $$ [C3 HO]
  · isplitl [C3]; · iexact C3
    iexact HO
  iintro ⟨C3, HO⟩
  icases (gather_slot c J.x ⟨(i 0).val, (i 0).isLt⟩) $$ [C0 C1 C2 C3] with ⟨B, HZ⟩
  · isplitl [C0]; · iexact C0
    isplitl [C1]; · iexact C1
    isplitl [C2]; · iexact C2
    iexact C3
  unfold inputs accs
  icases HI with ⟨H1, H2, H4, H5, H6, H7, H8⟩
  icases HA with ⟨HP, HS, HQ⟩
  iapply (wp_read c A.m4 _ fullShare _) $$ H4; iintro H4
  iapply (wp_read c A.m5 _ fullShare _) $$ H5; iintro H5
  iapply (wp_word_at i c A.m1 J.first (hi := k0_off19_inb i) (h1 := numel1_S1) (hp := rfl)) $$ H1; iintro H1
  iapply (wp_assume Variants.none (c : Thread nD τ) none Set.univ (J.ok1 ⟨(i 0).val, (i 0).isLt⟩))
  iapply (wp_word_at i c A.m2 J.last (hi := k0_off19_inb i) (h1 := numel1_S1) (hp := rfl)) $$ H2; iintro H2
  iapply (wp_assume Variants.none (c : Thread nD τ) none Set.univ (J.ok2 ⟨(i 0).val, (i 0).isLt⟩))
  unfold k0_part5_skel k0_part6_skel k0_part7_skel k0_part8_skel k0_part9_skel k0_part10_skel k0_part11_skel k0_part12_skel
  simp only [bind_assoc, pure_bind]
  iapply (wp_xread c J.x ⟨(i 0).val, (i 0).isLt⟩ 0 (off20_eq i)) $$ B; iintro B
  iapply (wp_read c rowsM _ fullShare _) $$ HR; iintro HR
  iapply (wp_write c rowsM _ _ _) $$ HR; iintro HR
  iapply (wp_read c A.m8 _ fullShare _) $$ H8; iintro H8
  iapply (wp_xread c J.x ⟨(i 0).val, (i 0).isLt⟩ 1 (off21_eq i)) $$ B; iintro B
  iapply (wp_read c rowsM _ fullShare _) $$ HR; iintro HR
  iapply (wp_write c rowsM _ _ _) $$ HR; iintro HR
  iapply (wp_read c A.m8 _ fullShare _) $$ H8; iintro H8
  iapply (wp_xread c J.x ⟨(i 0).val, (i 0).isLt⟩ 2 (off22_eq i)) $$ B; iintro B
  iapply (wp_read c rowsM _ fullShare _) $$ HR; iintro HR
  iapply (wp_write c rowsM _ _ _) $$ HR; iintro HR
  iapply (wp_read c A.m8 _ fullShare _) $$ H8; iintro H8
  iapply (wp_xread c J.x ⟨(i 0).val, (i 0).isLt⟩ 3 (off23_eq i)) $$ B; iintro B
  iapply (wp_read c rowsM _ fullShare _) $$ HR; iintro HR
  iapply (wp_write c rowsM _ _ _) $$ HR; iintro HR
  iapply (wp_read c A.m8 _ fullShare _) $$ H8; iintro H8
  iapply (wp_xread c J.x ⟨(i 0).val, (i 0).isLt⟩ 4 (off24_eq i)) $$ B; iintro B
  iapply (wp_read c rowsM _ fullShare _) $$ HR; iintro HR
  iapply (wp_write c rowsM _ _ _) $$ HR; iintro HR
  iapply (wp_read c A.m8 _ fullShare _) $$ H8; iintro H8
  iapply (wp_read c sumM _ fullShare _) $$ HS; iintro HS
  iapply (wp_read c sumM _ fullShare _) $$ HS; iintro HS
  iapply (wp_write c sumM _ _ _) $$ HS; iintro HS
  iapply (wp_read c sqM _ fullShare _) $$ HQ; iintro HQ
  iapply (wp_read c sqM _ fullShare _) $$ HQ; iintro HQ
  iapply (wp_write c sqM _ _ _) $$ HQ; iintro HQ
  iapply (wp_read c poolM _ fullShare _) $$ HP; iintro HP
  iapply (wp_read c poolM _ fullShare _) $$ HP; iintro HP
  iapply (wp_write c poolM _ _ _) $$ HP; iintro HP
  iapply (wp_read c poolM _ fullShare _) $$ HP; iintro HP
  iapply (wp_read c poolM _ fullShare _) $$ HP; iintro HP
  iapply (wp_write c poolM _ _ _) $$ HP; iintro HP
  iapply (wp_read c poolM _ fullShare _) $$ HP; iintro HP
  iapply (wp_read c poolM _ fullShare _) $$ HP; iintro HP
  iapply (wp_write c poolM _ _ _) $$ HP; iintro HP
  iapply (wp_read c poolM _ fullShare _) $$ HP; iintro HP
  iapply (wp_read c poolM _ fullShare _) $$ HP; iintro HP
  iapply (wp_write c poolM _ _ _) $$ HP; iintro HP
  iapply (wp_read c A.m8 _ fullShare _) $$ H8; iintro H8
  iapply (Scf.wp_for_bind (M := 𝕄) frame (wpE (defs₀ (F := F)) Variants.none (c : Thread nD τ) none) Set.univ _ _ _
    (k0_t1_ok (J.s0 ⟨(i 0).val, (i 0).isLt⟩) (J.s1 ⟨(i 0).val, (i 0).isLt⟩) (J.ok2 ⟨(i 0).val, (i 0).isLt⟩)) ⟨⟩ _
    (fun k _ => iprop(owns (c : Thread nD τ) rowsM fullShare (J.rows ⟨(i 0).val, (i 0).isLt⟩)
      ∗ owns (c : Thread nD τ) poolM fullShare (J.loop ⟨(i 0).val, (i 0).isLt⟩ (J.pool4 ⟨(i 0).val, (i 0).isLt⟩ (J.pool3 ⟨(i 0).val, (i 0).isLt⟩
          (J.pool2 ⟨(i 0).val, (i 0).isLt⟩ (J.pool1 ⟨(i 0).val, (i 0).isLt⟩ (if (i 0).val = 0 then Acc.start else p).pool)))) k)))
    (fun k u => wp_loop A i c J ⟨(i 0).val, (i 0).isLt⟩ _ k u)) $$ [HR HP]
  · isplitl [HR]
    · iapply (rows_owned c J ⟨(i 0).val, (i 0).isLt⟩ f)
      iexact HR
    iexact HP
  iintro %_ ⟨HR, HP⟩
  rw [show Scf.Loop.for (k0_t2_loop (J.s0 ⟨(i 0).val, (i 0).isLt⟩) (J.s1 ⟨(i 0).val, (i 0).isLt⟩))
      (k0_t2_ok (J.s0 ⟨(i 0).val, (i 0).isLt⟩) (J.s1 ⟨(i 0).val, (i 0).isLt⟩) (J.ok2 ⟨(i 0).val, (i 0).isLt⟩)) () _ = Prog.ret () from
    Scf.for_rem_eq _ _ _ _ _]
  simp only [Prog.bind_ret]
  icases (Entails.of_eq (congrArg (owns (c : Thread nD τ) sumM fullShare) (over_whole _ _ _))) $$ HS with HS
  icases (Entails.of_eq (congrArg (owns (c : Thread nD τ) sqM fullShare) (over_whole _ _ _))) $$ HQ with HQ
  by_cases h9 : (i 0).val = 99
  · rw [dif_pos ((cond3_iff i).mpr h9), if_pos h9]
    simp only [bind_assoc, pure_bind]
    iapply (wp_read c sumM _ fullShare _) $$ HS; iintro HS
    iapply (wp_read c sqM _ fullShare _) $$ HQ; iintro HQ
    iapply (wp_read c A.m6 _ fullShare _) $$ H6; iintro H6
    iapply (wp_read c A.m7 _ fullShare _) $$ H7; iintro H7
    iapply (wp_read c poolM _ fullShare _) $$ HP; iintro HP
    iapply (wp_read c A.m9 _ fullShare _) $$ H9; iintro H9
    iapply (wp_write c A.m9 _ _ _) $$ H9; iintro H9
    iapply Hk
    isplitl [B HZ HN]
    · unfold ring
      rw [if_neg (Nat.succ_ne_zero _)]
      isplitl [HN]; · iexact HN
      rw [show slot ((i 0).val + 1 + 1) = slot (i 0).val from slot_two _]
      iapply (scatter_slot c J.x (slot (i 0).val) (arrived J.x ⟨(i 0).val, (i 0).isLt⟩))
      isplitl [B]; · iexact B
      iexact HZ
    isplitl [HP HS HQ]
    · isplitl [HP]; · iexact HP
      isplitl [HS]; · iexact HS
      iexact HQ
    isplitl [HR]; · iexists _; iexact HR
    isplitl [H1 H2 H4 H5 H6 H7 H8]
    · isplitl [H1]; · iexact H1
      isplitl [H2]; · iexact H2
      isplitl [H4]; · iexact H4
      isplitl [H5]; · iexact H5
      isplitl [H6]; · iexact H6
      isplitl [H7]; · iexact H7
      iexact H8
    isplitl [H9]; · iapply (Entails.of_eq (congrArg (owns (c : Thread nD τ) A.m9 fullShare) (over_whole _ _ _))) $$ H9
    iexact HO
  · rw [dif_neg (fun h => h9 ((cond3_iff i).mp h)), if_neg h9]
    simp only [pure_bind]
    iapply Hk
    isplitl [B HZ HN]
    · unfold ring
      rw [if_neg (Nat.succ_ne_zero _)]
      isplitl [HN]; · iexact HN
      rw [show slot ((i 0).val + 1 + 1) = slot (i 0).val from slot_two _]
      iapply (scatter_slot c J.x (slot (i 0).val) (arrived J.x ⟨(i 0).val, (i 0).isLt⟩))
      isplitl [B]; · iexact B
      iexact HZ
    isplitl [HP HS HQ]
    · isplitl [HP]; · iexact HP
      isplitl [HS]; · iexact HS
      iexact HQ
    isplitl [HR]; · iexists _; iexact HR
    isplitl [H1 H2 H4 H5 H6 H7 H8]
    · isplitl [H1]; · iexact H1
      isplitl [H2]; · iexact H2
      isplitl [H4]; · iexact H4
      isplitl [H5]; · iexact H5
      isplitl [H6]; · iexact H6
      isplitl [H7]; · iexact H7
      iexact H8
    isplitl [H9]; · iexact H9
    iexact HO

end Cert.PoolIdeal.Pass
-- ==== Proof.PoolIdealLaunch.lean ====
/-
  The pooling pass launched: what its grid points find and leave, and what the whole call leaves.
-/
module

public import proofs.«01_k».proof.Proof.PoolIdealPoint
public import proofs.«01_k».proof.Proof.Gen.PoolIdeal.Frame
public import proofs.«01_k».proof.Proof.Gen.PoolIdeal.Points
public import Idealize.ShloMosaic.Lib.Pipeline.Routed

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC Dat BodyObligation)

variable {F : FTy → Type} [FloatOps F] [Named F]

local notation "𝕄" => MT nD τ sig Unit (Elt F) ℕ (UC sig nD τ) ℕ

variable (m : (ℓ : Loc nD τ sig) → Buf (Elt F) ℓ) (ρ : Dev nD → PrngReg)

abbrev t0 : Fin cfg0.N := ⟨0, by decide⟩
theorem lt_N (n : Fin 100) : n.val < cfg0.N := n.isLt.trans_eq N_0.symm

/-- The first and last segments of a block are within the program's checks. -/
def Checked (c : Dev nD) : Prop :=
  (∀ n : Fin 100, k0_chk1 ((iblk m c 0 t0 : S100.Idx → Elt F .i32) (ix1 n)))
    ∧ ∀ n : Fin 100, k0_chk2 ((iblk m c 0 t0 : S100.Idx → Elt F .i32) (ix1 n)) ((iblk m c 1 t0 : S100.Idx → Elt F .i32) (ix1 n))

/-- What the pass works on, off the buffers it is entered with. -/
def ins (c : Dev nD) (h : Checked m c) : Ins F where
  x := V m c main_arg0
  first := iblk m c 0 t0
  last := iblk m c 1 t0
  W := iblk m c 2 t0
  b := iblk m c 3 t0
  gamma := iblk m c 4 t0
  beta := iblk m c 5 t0
  seg n := iblk m c 6 ⟨n.val, lt_N n⟩
  ok1 := h.1
  ok2 := h.2

variable (hk : ∀ c, Checked m c)

/-- Between points: the slots, the running maxima and sums, the rows, and the generator. -/
def between (c : Dev nD) (n : ℕ) : sProp 𝕄 :=
  iprop(ring c (V m c main_arg0) n ∗ (∃ p, ⌜n ≠ 0 → p = (ins m c (hk c)).after n⌝ ∗ accs c p) ∗ (∃ f, owns (c : Thread nD τ) rowsM fullShare f)
    ∗ ∃ r, prngReg c r)

/-- What the windows hold after a point: the inputs their blocks, the output the result. -/
def left (c : Dev nD) : (w : Fin cfg0.W) → (t : Fin cfg0.N) → (cfg0.win w).block.Idx → Elt F (cfg0.win w).elt
  | 0 => fun t => iblk m c 0 t
  | 1 => fun t => iblk m c 1 t
  | 2 => fun t => iblk m c 2 t
  | 3 => fun t => iblk m c 3 t
  | 4 => fun t => iblk m c 4 t
  | 5 => fun t => iblk m c 5 t
  | 6 => fun t => iblk m c 6 t
  | 7 => fun _ => (ins m c (hk c)).result ((ins m c (hk c)).after 100)
  | ⟨_ + 8, h⟩ => absurd h (Nat.not_lt.2 (Nat.le_add_left _ _))

def dats (_ : Fin 1) (c : Dev nD) : Dat τ (Elt F) Unit ℕ (UC sig nD τ) ℕ cfg0 c where
  A w := V m c (Pipeline.arrRef spec0 w)
  after := left m hk c
  Φ t := between m hk c t.val
  q _ := fullShare
  owed _ := 0

/-! ## What a point finds in its input windows -/

section Found

variable {c : Dev nD} (dat : Dat τ (Elt F) Unit ℕ (UC sig nD τ) ℕ cfg0 c) (t : Fin cfg0.N)

theorem found0 (hA : dat.A 0 = V m c (Pipeline.arrRef spec0 0)) (ha : ∀ t, dat.after 0 t = iblk m c 0 t) (d) : dat.before 0 t d = iblk m c 0 t :=
  (dat.before_in_eq_fetched 0 rfl (fun _ => rfl) (fun _ _ _ => rfl) (fun t => by rw [ha]; unfold Dat.blockOf iblk; rw [hA]) t d).trans
    (by unfold Dat.fetched Dat.blockOf iblk; rw [hA]; try rfl)
theorem found1 (hA : dat.A 1 = V m c (Pipeline.arrRef spec0 1)) (ha : ∀ t, dat.after 1 t = iblk m c 1 t) (d) : dat.before 1 t d = iblk m c 1 t :=
  (dat.before_in_eq_fetched 1 rfl (fun _ => rfl) (fun _ _ _ => rfl) (fun t => by rw [ha]; unfold Dat.blockOf iblk; rw [hA]) t d).trans
    (by unfold Dat.fetched Dat.blockOf iblk; rw [hA]; try rfl)
theorem found2 (hA : dat.A 2 = V m c (Pipeline.arrRef spec0 2)) (ha : ∀ t, dat.after 2 t = iblk m c 2 t) (d) : dat.before 2 t d = iblk m c 2 t :=
  (dat.before_in_eq_fetched 2 rfl (fun _ => rfl) (fun _ _ _ => rfl) (fun t => by rw [ha]; unfold Dat.blockOf iblk; rw [hA]) t d).trans
    (by unfold Dat.fetched Dat.blockOf iblk; rw [hA]; try rfl)
theorem found3 (hA : dat.A 3 = V m c (Pipeline.arrRef spec0 3)) (ha : ∀ t, dat.after 3 t = iblk m c 3 t) (d) : dat.before 3 t d = iblk m c 3 t :=
  (dat.before_in_eq_fetched 3 rfl (fun _ => rfl) (fun _ _ _ => rfl) (fun t => by rw [ha]; unfold Dat.blockOf iblk; rw [hA]) t d).trans
    (by unfold Dat.fetched Dat.blockOf iblk; rw [hA]; try rfl)
theorem found4 (hA : dat.A 4 = V m c (Pipeline.arrRef spec0 4)) (ha : ∀ t, dat.after 4 t = iblk m c 4 t) (d) : dat.before 4 t d = iblk m c 4 t :=
  (dat.before_in_eq_fetched 4 rfl (fun _ => rfl) (fun _ _ _ => rfl) (fun t => by rw [ha]; unfold Dat.blockOf iblk; rw [hA]) t d).trans
    (by unfold Dat.fetched Dat.blockOf iblk; rw [hA]; try rfl)
theorem found5 (hA : dat.A 5 = V m c (Pipeline.arrRef spec0 5)) (ha : ∀ t, dat.after 5 t = iblk m c 5 t) (d) : dat.before 5 t d = iblk m c 5 t :=
  (dat.before_in_eq_fetched 5 rfl (fun _ => rfl) (fun _ _ _ => rfl) (fun t => by rw [ha]; unfold Dat.blockOf iblk; rw [hA]) t d).trans
    (by unfold Dat.fetched Dat.blockOf iblk; rw [hA]; try rfl)
theorem found6 (hA : dat.A 6 = V m c (Pipeline.arrRef spec0 6)) (ha : ∀ t, dat.after 6 t = iblk m c 6 t) (d) : dat.before 6 t d = iblk m c 6 t :=
  (dat.before_in_eq_fetched 6 rfl (fun _ => rfl) (fun _ _ _ => rfl) (fun t => by rw [ha]; unfold Dat.blockOf iblk; rw [hA]) t d).trans
    (by unfold Dat.fetched Dat.blockOf iblk; rw [hA]; try rfl)

end Found

/-! ## A point -/

/-- The staging buffers of point `t`. -/
abbrev places (t : Fin cfg0.N) : Places where
  m1 := win0_0.stage (cfg0.slots t 0)
  h1 := hstage0_0 ((cfg0.slots t 0).cast nbuf0_0)
  m2 := win0_1.stage (cfg0.slots t 1)
  h2 := hstage0_1 ((cfg0.slots t 1).cast nbuf0_1)
  m4 := win0_2.stage (cfg0.slots t 2)
  h4 := hstage0_2 ((cfg0.slots t 2).cast nbuf0_2)
  m5 := win0_3.stage (cfg0.slots t 3)
  h5 := hstage0_3 ((cfg0.slots t 3).cast nbuf0_3)
  m6 := win0_4.stage (cfg0.slots t 4)
  h6 := hstage0_4 ((cfg0.slots t 4).cast nbuf0_4)
  m7 := win0_5.stage (cfg0.slots t 5)
  h7 := hstage0_5 ((cfg0.slots t 5).cast nbuf0_5)
  m8 := win0_6.stage (cfg0.slots t 6)
  h8 := hstage0_6 ((cfg0.slots t 6).cast nbuf0_6)
  m9 := win0_7.stage (cfg0.slots t 7)
  h9 := hstage0_7 ((cfg0.slots t 7).cast nbuf0_7)

theorem coords_val : ∀ t : Fin cfg0.N, (grid0.coords t 0).val = t.val := by decide +kernel

theorem idle_out : ∀ t : Fin cfg0.N, (t.val = 99 → cfg0.idle 7 (cfg0.grid.coords t) = false ∧ (cfg0.win 7).flush t = true)
    ∧ (t.val ≠ 99 → cfg0.idle 7 (cfg0.grid.coords t) = true ∧ (cfg0.win 7).flush t = false) := by decide +kernel

theorem blk0 (c : Dev nD) (t : Fin cfg0.N) : iblk m c 0 t = iblk m c 0 t0 := rfl
theorem blk1 (c : Dev nD) (t : Fin cfg0.N) : iblk m c 1 t = iblk m c 1 t0 := rfl
theorem blk2 (c : Dev nD) (t : Fin cfg0.N) : iblk m c 2 t = iblk m c 2 t0 := rfl
theorem blk3 (c : Dev nD) (t : Fin cfg0.N) : iblk m c 3 t = iblk m c 3 t0 := rfl
theorem blk4 (c : Dev nD) (t : Fin cfg0.N) : iblk m c 4 t = iblk m c 4 t0 := rfl
theorem blk5 (c : Dev nD) (t : Fin cfg0.N) : iblk m c 5 t = iblk m c 5 t0 := rfl

/-- The program of a point, between what it finds and what it leaves. -/
theorem wp_at (c : Dev nD) (t : Fin cfg0.N) (out : S256x128.Idx → Elt F .f32) {Q : PUnit.{1} → sProp 𝕄} :
    iprop(between m hk c t.val ∗ inputs (places t) c (ins m c (hk c)) ⟨t.val, t.isLt.trans_eq N_0⟩
        ∗ owns (c : Thread nD τ) (places t).m9 fullShare out ∗ ∃ W, owes (c : Thread nD τ) 0 W)
      ⊢ iprop((iprop(between m hk c (t.val + 1) ∗ inputs (places t) c (ins m c (hk c)) ⟨t.val, t.isLt.trans_eq N_0⟩
            ∗ owns (c : Thread nD τ) (places t).m9 fullShare (if t.val = 99 then (ins m c (hk c)).result ((ins m c (hk c)).after (t.val + 1)) else out)
            ∗ ∃ W, owes (c : Thread nD τ) 0 W) -∗ Q ⟨⟩)
          -∗ wp frame (wpE (defs₀ (F := F)) Variants.none (c : Thread nD τ) none) Set.univ (bodyAt0 t) Q) := by
  have ht : t.val < 100 := t.isLt.trans_eq N_0
  unfold between
  iintro ⟨⟨HG, ⟨%p, %hp, HA⟩, HR, HV⟩, HI, H9, HO⟩ Hk
  have e : (if t.val = 0 then Acc.start else p) = (ins m c (hk c)).after t.val := by
    split
    · next h => rw [h]; rfl
    · next h => exact hp h
  have es : (ins m c (hk c)).after (t.val + 1) = (ins m c (hk c)).step ⟨t.val, ht⟩ ((ins m c (hk c)).after t.val) := dif_pos ht
  have hpt := wp_point (places t) (grid0.coords t) c (ins m c (hk c)) p ⟨t.val, ht⟩ (coords_val t) out (.ret) Q
  rw [show body (F := F) (places t) (grid0.coords t) >>= Prog.ret = bodyAt0 t from bind_pure _] at hpt
  simp only [e, ← es] at hpt
  iapply hpt $$ [HG HA HR HI H9 HO]
  · isplitl [HG]; · iexact HG
    isplitl [HA]; · iexact HA
    isplitl [HR]; · iexact HR
    isplitl [HI]; · iexact HI
    isplitl [H9]; · iexact H9
    iexact HO
  iintro ⟨HG, HA, HR, HI, H9, HO⟩
  rw [wp_ret]
  imodintro
  iapply Hk
  isplitl [HG HA HR HV]
  · isplitl [HG]; · iexact HG
    isplitl [HA]
    · iexists _
      isplitr; · ipureintro; exact fun _ => rfl
      iexact HA
    isplitl [HR]; · iexact HR
    iexact HV
  isplitl [HI]; · iexact HI
  isplitl [H9]; · iexact H9
  iexact HO

theorem owes_in (c : Dev nD) (t : Fin (cfg0.N + 1)) : (dats m hk 0 c).owesAt () t ⊣⊢ iprop(∃ W, owes (c : Thread nD τ) 0 W) := by
  constructor
  · iintro ⟨%W, %hW, H⟩
    iexists W
    iexact H
  · iintro ⟨%W, H⟩
    iexists W
    isplitr; · ipureintro; exact fun _ _ => Or.inl trivial
    iexact H

theorem phi_before (c : Dev nD) (t : Fin cfg0.N) : (dats m hk 0 c).Φ t.castSucc = between m hk c t.val := rfl
theorem phi_after (c : Dev nD) (t : Fin cfg0.N) : (dats m hk 0 c).Φ t.succ = between m hk c (t.val + 1) := rfl

theorem obligation (c : Dev nD) : BodyObligation (dats m hk 0 c) (defs₀ (F := F)) Variants.none () Set.univ := by
  intro t
  have ht : t.val < 100 := t.isLt.trans_eq N_0
  rw [bigSep_W0, bigSep_W0, show defs₀ (F := F) .tc cfg0.body (cfg0.bodyArgs t (cfg0.slots t)) = bodyAt0 t by unfold defs₀; rw [Defs.onTc_tc],
    phi_before, phi_after]
  iintro ⟨HΦ, HO, ⟨%d0, H0⟩, ⟨%d1, H1⟩, ⟨%d2, H2⟩, ⟨%d3, H3⟩, ⟨%d4, H4⟩, ⟨%d5, H5⟩, ⟨%d6, H6⟩, %d7, H7⟩
  rw [found0 m (dats m hk 0 c) t rfl (fun _ => rfl) d0, found1 m (dats m hk 0 c) t rfl (fun _ => rfl) d1,
    found2 m (dats m hk 0 c) t rfl (fun _ => rfl) d2, found3 m (dats m hk 0 c) t rfl (fun _ => rfl) d3,
    found4 m (dats m hk 0 c) t rfl (fun _ => rfl) d4, found5 m (dats m hk 0 c) t rfl (fun _ => rfl) d5,
    found6 m (dats m hk 0 c) t rfl (fun _ => rfl) d6]
  iapply (wp_at m hk c t ((dats m hk 0 c).before 7 t d7)) $$ [HΦ HO H0 H1 H2 H3 H4 H5 H6 H7]
  · isplitl [HΦ]; · iexact HΦ
    isplitl [H0 H1 H2 H3 H4 H5 H6]
    · unfold inputs
      isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iapply (owes_in m hk c t.castSucc).1
    iexact HO
  unfold inputs
  iintro ⟨HΦ, ⟨H0, H1, H2, H3, H4, H5, H6⟩, H7, HO⟩
  isplitl [HΦ]; · iexact HΦ
  isplitl [HO]
  · iapply (owes_in m hk c t.succ).2
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h9 : t.val = 99
  · rw [((idle_out t).1 h9).1, if_pos h9]
    rw [show t.val + 1 = 100 by omega]
    iexact H7
  · rw [((idle_out t).2 h9).1, ((idle_out t).2 h9).2, if_neg h9]
    iexists d7
    iexact H7

end Cert.PoolIdeal.Pass
-- ==== Proof.PoolIdealRun.lean ====
/-
  The pooling pass run: its slots, semaphores and shares handed out before the first point and collected after the
  last, and what the whole call leaves.
-/
module

public import proofs.«01_k».proof.Proof.PoolIdealLaunch

@[expose] public section

noncomputable section

namespace Cert.PoolIdeal.Pass

open Cert.PoolIdeal Cert.PoolIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC Dat BodyObligation)

variable {F : FTy → Type} [FloatOps F] [Named F]

local notation "𝕄" => MT nD τ sig Unit (Elt F) ℕ (UC sig nD τ) ℕ

variable (c : Dev nD) (x : S100000x128.Idx → Elt F .f32)

/-! ## The block buffer, whole and in quarters -/

theorem buf_congr (s : Fin 2) (q : Fin 4) {f g : S2x1000x128.Idx → Elt F .f32} (h : ∀ i ∈ (dstAt s q).view.set, f i = g i) :
    (bufAt c s q f : sProp 𝕄) = bufAt c s q g := pointsTo_congr h

theorem slot_congr (s : Fin 2) (n : ℕ) {f g : S2x1000x128.Idx → Elt F .f32} (h : ∀ i ∈ slotFrom s n, f i = g i) :
    (slotAt c s n f : sProp 𝕄) = slotAt c s n g := pointsTo_congr h

/-- A quarter and what follows it, at contents of their own. -/
theorem slot_join (s : Fin 2) (q : Fin 4) (n m : ℕ) (hn : q.val = n) (hm : q.val + 1 = m) :
    iprop((∃ f, bufAt c s q f) ∗ ∃ f, slotAt c s m f) ⊢ (iprop(∃ f, slotAt c s n f) : sProp 𝕄) := by
  iintro ⟨⟨%f, B⟩, %g, S⟩
  classical
  iexists (fun i => if i ∈ (dstAt s q).view.set then f i else g i)
  iapply (slot_split c s q n m hn hm _).2
  isplitl [B]
  · rw [buf_congr c s q (g := f) fun i hi => if_pos hi]
    iexact B
  · have e : ∀ i ∈ slotFrom s m, (if i ∈ (dstAt s q).view.set then f i else g i) = g i := fun i hi => if_neg fun hd => by
      subst hm
      have h1 := (Finset.mem_filter.mp hi).2.2
      have h2 := ((mem_dst s q i).mp hd).2.2
      omega
    rw [slot_congr c s m e]
    iexact S

theorem slot_last (s : Fin 2) : iprop(∃ f, bufAt c s 3 f) ⊢ (iprop(∃ f, slotAt c s 3 f) : sProp 𝕄) := by
  iintro ⟨%f, B⟩
  iexists f
  iapply (slot_split c s 3 3 4 rfl rfl f).2
  isplitl [B]; · iexact B
  have e : (slotAt c s 4 f : sProp 𝕄) = BI.emp := by
    unfold slotAt
    rw [slot_end]
    exact pointsTo_empty
  rw [e]
  iempintro

theorem slot_collect (s : Fin 2) : frees c x s ⊢ iprop((∃ f, slotAt c s 0 f) ∗ idle c x s) := by
  unfold frees free idle
  iintro ⟨⟨B0, Z0, X0⟩, ⟨B1, Z1, X1⟩, ⟨B2, Z2, X2⟩, B3, Z3, X3⟩
  isplitl [B0 B1 B2 B3]
  · iapply slot_join c s 0 0 1 rfl rfl
    isplitl [B0]; · iexact B0
    iapply slot_join c s 1 1 2 rfl rfl
    isplitl [B1]; · iexact B1
    iapply slot_join c s 2 2 3 rfl rfl
    isplitl [B2]; · iexact B2
    iapply slot_last c s
    iexact B3
  isplitl [Z0 X0]; · isplitl [Z0]; · iexact Z0
                     iexact X0
  isplitl [Z1 X1]; · isplitl [Z1]; · iexact Z1
                     iexact X1
  isplitl [Z2 X2]; · isplitl [Z2]; · iexact Z2
                     iexact X2
  isplitl [Z3]; · iexact Z3
  iexact X3

theorem other_slot : (Finset.univ : Finset S2x1000x128.Idx) \ slotFrom 0 0 = slotFrom 1 0 := by
  ext i
  unfold slotFrom
  simp only [Finset.mem_sdiff, Finset.mem_filter, Finset.mem_univ, true_and, Nat.mul_zero, Nat.zero_le, and_true]
  have : (i 0).val < 2 := (i 0).isLt
  show ¬ (i 0).val = 0 ↔ (i 0).val = 1
  omega

theorem slots_split (f : S2x1000x128.Idx → Elt F .f32) :
    (bufV.view.loc (c : Thread nD τ) ↦{fullShare} f : sProp 𝕄) ⊣⊢ iprop(slotAt c 0 0 f ∗ slotAt c 1 0 f) := by
  have h := pointsTo_split_subset (Ix := Unit) (Name := ℕ) (U := UC sig nD τ) (Lvl := ℕ) (ℓ := bufV.view.loc (c : Thread nD τ)) (q := fullShare) (f := f)
    (Finset.subset_univ (slotFrom 0 0))
  rw [other_slot] at h
  exact h

theorem slots_join : iprop((∃ f, slotAt c 0 0 f) ∗ ∃ f, slotAt c 1 0 f) ⊢ (iprop(∃ f, bufV.view.loc (c : Thread nD τ) ↦{fullShare} f) : sProp 𝕄) := by
  iintro ⟨⟨%f, B⟩, %g, S⟩
  iexists (fun i => if i ∈ slotFrom 0 0 then f i else g i)
  iapply (slots_split c _).2
  isplitl [B]
  · rw [slot_congr c 0 0 (g := f) fun i hi => if_pos hi]
    iexact B
  · have e : ∀ i ∈ slotFrom 1 0, (if i ∈ slotFrom 0 0 then f i else g i) = g i := fun i hi => if_neg fun hd => by
      have h1 : (i 0).val = 1 := (Finset.mem_filter.mp hi).2.1
      have h2 : (i 0).val = 0 := (Finset.mem_filter.mp hd).2.1
      omega
    rw [slot_congr c 1 0 e]
    iexact S

/-! ## The points and the semaphores, one to each quarter of each slot -/

abbrev quarters : List (Fin 2 × Fin 4) := [(0, 0), (0, 1), (0, 2), (0, 3), (1, 0), (1, 1), (1, 2), (1, 3)]

abbrev osem (k : Fin 2 × Fin 4) : SemLoc sig := .dma (semAt k.1 k.2)

theorem osem_facts : Pipeline.OwnSemFacts (cfgs 0).spec osem := by decide

theorem shares_eq : (xV.view.loc (c : Thread nD τ) ↦{fullShare} x : sProp 𝕄) = bigSepL quarters fun k => xAt c x k.1 k.2 := by
  have h := pointsTo_piecesOf (Ix := Unit) (Name := ℕ) (U := UC sig nD τ) (Lvl := ℕ) (ℓ := xV.view.loc (c : Thread nD τ)) Finset.univ x (by decide : 0 < 8) fullShare
  rw [h, BI.bigSep_univ_equiv (finProdFinEquiv : Fin 2 × Fin 4 ≃ Fin 8),
    bigSep_univ_eq_bigSepL quarters (by decide) (by decide)]
  rfl

theorem sems_eq : (Pipeline.ownSems0 (Ix := Unit) (Name := ℕ) (U := UC sig nD τ) (Lvl := ℕ) (Val := Elt F) (τ := τ) osem c : sProp 𝕄)
    = bigSepL quarters fun k => zeroAt c k.1 k.2 :=
  Pipeline.ownSems0_eq_of_list c osem quarters (by decide) (by decide)

theorem eight (Φ : Fin 2 × Fin 4 → sProp 𝕄) : bigSepL quarters Φ
    = iprop(Φ (0, 0) ∗ Φ (0, 1) ∗ Φ (0, 2) ∗ Φ (0, 3) ∗ Φ (1, 0) ∗ Φ (1, 1) ∗ Φ (1, 2) ∗ Φ (1, 3)) := rfl

/-- What is held of the points and the semaphores, by slot. -/
theorem idle_all : iprop((xV.view.loc (c : Thread nD τ) ↦{fullShare} x) ∗ Pipeline.ownSems0 (Ix := Unit) (Name := ℕ) (U := UC sig nD τ) (Lvl := ℕ) (Val := Elt F) (τ := τ) osem c)
    ⊣⊢ (iprop(idle c x 0 ∗ idle c x 1) : sProp 𝕄) := by
  rw [shares_eq, sems_eq, eight, eight]
  unfold idle
  constructor
  · iintro ⟨⟨X0, X1, X2, X3, Y0, Y1, Y2, Y3⟩, Z0, Z1, Z2, Z3, W0, W1, W2, W3⟩
    isplitl [X0 X1 X2 X3 Z0 Z1 Z2 Z3]
    · isplitl [X0 Z0]; · isplitl [Z0]; · iexact Z0
                         iexact X0
      isplitl [X1 Z1]; · isplitl [Z1]; · iexact Z1
                         iexact X1
      isplitl [X2 Z2]; · isplitl [Z2]; · iexact Z2
                         iexact X2
      isplitl [Z3]; · iexact Z3
      iexact X3
    · isplitl [Y0 W0]; · isplitl [W0]; · iexact W0
                         iexact Y0
      isplitl [Y1 W1]; · isplitl [W1]; · iexact W1
                         iexact Y1
      isplitl [Y2 W2]; · isplitl [W2]; · iexact W2
                         iexact Y2
      isplitl [W3]; · iexact W3
      iexact Y3
  · iintro ⟨⟨⟨Z0, X0⟩, ⟨Z1, X1⟩, ⟨Z2, X2⟩, Z3, X3⟩, ⟨W0, Y0⟩, ⟨W1, Y1⟩, ⟨W2, Y2⟩, W3, Y3⟩
    isplitl [X0 X1 X2 X3 Y0 Y1 Y2 Y3]
    · isplitl [X0]; · iexact X0
      isplitl [X1]; · iexact X1
      isplitl [X2]; · iexact X2
      isplitl [X3]; · iexact X3
      isplitl [Y0]; · iexact Y0
      isplitl [Y1]; · iexact Y1
      isplitl [Y2]; · iexact Y2
      iexact Y3
    · isplitl [Z0]; · iexact Z0
      isplitl [Z1]; · iexact Z1
      isplitl [Z2]; · iexact Z2
      isplitl [Z3]; · iexact Z3
      isplitl [W0]; · iexact W0
      isplitl [W1]; · iexact W1
      isplitl [W2]; · iexact W2
      iexact W3

variable (m : (ℓ : Loc nD τ sig) → Buf (Elt F) ℓ) (ρ : Dev nD → PrngReg) (hk : ∀ c, Checked m c)

/-! ## Before the first point and after the last -/

theorem enter : Pipeline.Ends spec0 osem {main_arg0} c (V m c) ⊢ between m hk c 0 := by
  unfold Pipeline.Ends between
  rw [Pipeline.routed_singleton, scopedRest0_eq]
  iintro ⟨X, O, ⟨⟨%f0, B⟩, ⟨%f1, P⟩, ⟨%f2, R⟩, ⟨%f3, S⟩, %f4, T⟩, G⟩
  icases (slots_split c f0).1 $$ B with ⟨B0, B1⟩
  ihave I : iprop((xV.view.loc (c : Thread nD τ) ↦{fullShare} V m c main_arg0) ∗ Pipeline.ownSems0 (Ix := Unit) (Name := ℕ) (U := UC sig nD τ) (Lvl := ℕ) (Val := Elt F) (τ := τ) osem c) $$ [X O]
  · isplitl [X]; · iexact X
    iexact O
  icases (idle_all c (V m c main_arg0)).1 $$ I with ⟨I0, I1⟩
  isplitl [B0 I0 B1 I1]
  · unfold ring
    rw [if_pos rfl]
    isplitl [B0 I0]
    · iapply scatter_slot c (V m c main_arg0) 0 f0
      isplitl [B0]; · iexact B0
      iexact I0
    · iapply scatter_slot c (V m c main_arg0) 1 f0
      isplitl [B1]; · iexact B1
      iexact I1
  isplitl [P S T]
  · iexists ⟨f1, f3, f4⟩
    isplitr; · ipureintro; exact fun h => absurd rfl h
    unfold accs
    rw [owns_whole, owns_whole, owns_whole]
    isplitl [P]; · iexact P
    isplitl [S]; · iexact S
    iexact T
  isplitl [R]
  · iexists f2
    rw [owns_whole]
    iexact R
  iexact G

theorem leave : between m hk c 100 ⊢ Pipeline.Ends spec0 osem {main_arg0} c (V m c) := by
  unfold Pipeline.Ends between
  rw [Pipeline.routed_singleton, scopedRest0_eq]
  have er : ring c (V m c main_arg0) 100 = iprop(frees c (V m c main_arg0) 0 ∗ frees c (V m c main_arg0) 1) := by
    unfold ring
    rw [if_neg (by decide), next_end c _ 100 (by decide)]
    rfl
  rw [er]
  unfold accs
  simp only [owns_whole]
  iintro ⟨⟨F0, F1⟩, ⟨%p, -, P, S, T⟩, ⟨%f2, R⟩, G⟩
  icases (slot_collect c (V m c main_arg0) 0) $$ F0 with ⟨B0, I0⟩
  icases (slot_collect c (V m c main_arg0) 1) $$ F1 with ⟨B1, I1⟩
  ihave I : iprop(idle c (V m c main_arg0) 0 ∗ idle c (V m c main_arg0) 1) $$ [I0 I1]
  · isplitl [I0]; · iexact I0
    iexact I1
  icases (idle_all c (V m c main_arg0)).2 $$ I with ⟨X, O⟩
  isplitl [X]; · iexact X
  isplitl [O]; · iexact O
  isplitl [B0 B1 P S T R]
  · isplitl [B0 B1]
    · iapply slots_join c
      isplitl [B0]; · iexact B0
      iexact B1
    isplitl [P]; · iexists p.pool; iexact P
    isplitl [R]; · iexists f2; iexact R
    isplitl [S]; · iexists p.sum; iexact S
    iexists p.sq; iexact T
  iexact G

/-! ## The call -/

/-- What the whole call leaves: the result array at the last point's result, every argument as it was, and every
    semaphore at zero. -/
theorem run_pool : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v6) = (dats m hk 0 c).arrAt 7 cfg0.N) ∧ r.2.sem = fun _ => 0) := by
  refine Pipeline.θ_run_frame_routed cfgs (dats m hk) 0 launch0 osem_facts defs₀ Variants.none m ρ main
    (fun c => (obligation m hk c).loose) (fun c => (dats m hk 0 c).share_full fun _ => rfl) (fun _ _ => rfl) (V m)
    (Pipeline.hmain_prefix cfgs 0 defs₀ Variants.none m main hostOps0 hostOps0_sub hostOps0_fresh main_chain)
    (fun _ _ => rfl) {main_arg0} (by decide) (V m) (fun c => enter c m hk) (fun c => leave c m hk)
    (Q' := _) (hQ' := fun r hq => ⟨fun c => ?_, hq.2⟩)
  obtain ⟨hw, hr, hn⟩ := hq.1 c
  refine ⟨⟨(hr main_arg0 (Finset.mem_singleton_self _)).trans (V_main_arg0 m c), (hn main_arg1 (by decide)).trans (V_main_arg1 m c),
    (hn main_arg2 (by decide)).trans (V_main_arg2 m c), (hw 2).trans (((dats m hk 0 c).arrAt_in 2 rfl _).trans (V_main_arg3 m c)),
    (hn main_arg4 (by decide)).trans (V_main_arg4 m c), (hn main_arg5 (by decide)).trans (V_main_arg5 m c), (hn main_arg6 (by decide)).trans (V_main_arg6 m c)⟩, hw 7⟩

end Cert.PoolIdeal.Pass
-- ==== Proof.PoolIdealRange.lean ====
/-
  The pooling pass's checks, off a batch array of numbers below 256.
-/
module

public import proofs.«01_k».proof.Proof.PoolIdealRun
public import proofs.«01_k».proof.Proof.Gen.Pre_batch_in_range
public import Idealize.ShloMosaic.Lib.Pipeline.FrameTail
public import Idealize.ShloMosaic.Lib.Pointwise
public import Idealize.ShloMosaic.Lib.ReduceAll
public import Idealize.ShloMosaic.Lib.WordCmp
public import Idealize.ShloMosaic.Lib.StableHlo.Predicate
public import Idealize.ShloMosaic.Lib.Pipeline.ValueKit

@[expose] public section

noncomputable section

namespace Cert.PoolIdeal.Pass

open Cert.PoolIdeal Cert.PoolIdeal.Gen
open Idealize.ShloMosaic Idealize.ShloMosaic.TcCoe Idealize.ShloMosaic.WordCmp Idealize.ShloMosaic.StableHlo.Predicate

variable {F : FTy → Type} [FloatOps F] [Named F]

/-! ## Small numbers as words -/

theorem int_small {v : BitVec 32} (h : v.toNat < 1000) : v.toInt = v.toNat := BitVec.toInt_eq_toNat_of_lt (by omega)

theorem add_small {v : BitVec 32} (h : v.toNat < 256) (k : ℕ) (hk : k < 700) : (Scalar.addi v (BitVec.ofNat 32 k)).toNat = v.toNat + k := by
  show (v + BitVec.ofNat 32 k).toNat = _
  rw [BitVec.toNat_add, BitVec.toNat_ofNat]
  omega

theorem near_row {v : BitVec 32} (h : v.toNat < 256) (k : ℕ) (hk : k < 4) : k0_off25 v (BitVec.ofNat 32 k) 0 = min (v.toNat + k) 255 := by
  have e := add_small h k (by omega)
  show (Scalar.minsi (Scalar.addi v (BitVec.ofNat 32 k)) 255#32).toNat = _
  have h1 := int_small (v := Scalar.addi v (BitVec.ofNat 32 k)) (by omega)
  have h2 : (255#32 : BitVec 32).toInt = 255 := by decide
  have hm : Scalar.minsi (Scalar.addi v (BitVec.ofNat 32 k)) 255#32
      = if (Scalar.addi v (BitVec.ofNat 32 k)).toInt < (255#32 : BitVec 32).toInt then Scalar.addi v (BitVec.ofNat 32 k) else 255#32 := by
    show (if BitVec.slt _ _ then _ else _) = _
    simp only [BitVec.slt, decide_eq_true_eq]
  rw [hm, h1, h2]
  split
  · omega
  · show 255 = _
    omega

theorem loop_end (v u : BitVec 32) : (k0_t1_loop v u).ub = Scalar.addi u 1#32 := by
  show Scalar.addi (Scalar.addi v 4#32) (Scalar.muli (Scalar.divsi (Scalar.subi (Scalar.addi u 1#32) (Scalar.addi v 4#32)) 1#32) 1#32) = _
  rw [Scalar.muli_divsi_one]
  show (v + 4#32) + ((u + 1#32) - (v + 4#32)) = u + 1#32
  rw [BitVec.add_comm, BitVec.sub_add_cancel]

theorem loop_trips {v u : BitVec 32} (h : v.toNat < 256) (g : u.toNat < 256) : (k0_t1_loop v u).trips = u.toNat + 1 - (v.toNat + 4) := by
  have e1 := add_small h 4 (by omega)
  have e2 := add_small g 1 (by omega)
  have i1 := int_small (v := Scalar.addi v 4#32) (by omega)
  have i2 := int_small (v := Scalar.addi u 1#32) (by omega)
  have i3 : (1#32 : BitVec 32).toInt = 1 := by decide
  show (((k0_t1_loop v u).ub.toInt - (Scalar.addi v 4#32).toInt + (1#32 : BitVec 32).toInt - 1) / (1#32 : BitVec 32).toInt).toNat = _
  rw [loop_end, i1, i2, i3, Int.ediv_one]
  omega

theorem far_word {v u : BitVec 32} (h : v.toNat < 256) (g : u.toNat < 256) (k : Fin (k0_t1_loop v u).trips) :
    (Scf.iv (Scalar.addi v 4#32) 1#32 k).toNat = v.toNat + 4 + k.val := by
  have e1 := add_small h 4 (by omega)
  have hk : k.val < u.toNat + 1 - (v.toNat + 4) := k.isLt.trans_eq (loop_trips h g)
  show (Scalar.addi v 4#32 + BitVec.ofNat 32 k.val * 1#32).toNat = _
  rw [BitVec.mul_one, BitVec.toNat_add, BitVec.toNat_ofNat, e1]
  omega

theorem far_row {v u : BitVec 32} (h : v.toNat < 256) (g : u.toNat < 256) (k : Fin (k0_t1_loop v u).trips) :
    k0_off26 v u k 0 = v.toNat + 4 + k.val := far_word h g k

theorem chk1_small {v : BitVec 32} (h : v.toNat < 256) : k0_chk1 v := by
  intro r a
  match a with
  | 0 =>
    show k0_off25 v (BitVec.ofNat 32 r.val) 0 + 1 ≤ 256
    rw [near_row h r.val r.isLt]
    omega
  | 1 => exact (by decide : 0 + 128 ≤ 128)

theorem chk2_small {v u : BitVec 32} (h : v.toNat < 256) (g : u.toNat < 256) : k0_chk2 v u := by
  have e1 := add_small h 4 (by omega)
  have i1 := int_small (v := Scalar.addi v 4#32) (by omega)
  refine ⟨⟨(by decide : 0 < (1#32 : BitVec 32).toInt), ?_⟩, fun k a => ?_, Scf.rem_ok _ _, fun k => (Scf.rem_no_trip _ _ k).elim⟩
  · show (Scalar.addi v 4#32).toInt + ((k0_t1_loop v u).trips : ℤ) * (1#32 : BitVec 32).toInt < _
    rw [i1, loop_trips h g, show (1#32 : BitVec 32).toInt = 1 by decide]
    norm_num
    omega
  · match a with
    | 0 =>
      show k0_off26 v u k 0 + 1 ≤ 256
      have hk : k.val < u.toNat + 1 - (v.toNat + 4) := k.isLt.trans_eq (loop_trips h g)
      rw [far_row h g]
      omega
    | 1 => exact (by decide : 0 + 128 ≤ 128)

/-! ## What the host hands the pass -/

variable (m : (ℓ : Loc nD τ sig) → Buf (Elt F) ℓ) (c : Dev nD)

theorem V_column : V m c main_v0 = shapeCast S100000x1 (m ((c : Thread nD τ).loc main_arg2) : S100000.Idx → Elt F .i32) shapeCasts_S100000_S100000x1 := by
  show StableHlo.after hostOps0 _ (Proc.devRef .tc main_v0) = _
  after_results
  rfl

theorem V_firsts : (V m c main_v1 : S100.Idx → Elt F .i32) = Host.slice S100 ![0] ![1000] (m ((c : Thread nD τ).loc main_arg2) : S100000.Idx → Elt F .i32) slicesBy_S100000_S100_0s1000 := by
  show StableHlo.after hostOps0 _ (Proc.devRef .tc main_v1) = _
  after_results

theorem V_lasts : (V m c main_v2 : S100.Idx → Elt F .i32) = Host.slice S100 ![999] ![1000] (m ((c : Thread nD τ).loc main_arg2) : S100000.Idx → Elt F .i32) slicesBy_S100000_S100_999s1000 := by
  show StableHlo.after hostOps0 _ (Proc.devRef .tc main_v2) = _
  after_results

theorem V_b : V m c main_v3 = shapeCast S1x128 (m ((c : Thread nD τ).loc main_arg4) : S128.Idx → Elt F .f32) shapeCasts_S128_S1x128 := by
  show StableHlo.after hostOps0 _ (Proc.devRef .tc main_v3) = _
  after_results
  rfl

theorem V_gamma : V m c main_v4 = shapeCast S1x128 (m ((c : Thread nD τ).loc main_arg5) : S128.Idx → Elt F .f32) shapeCasts_S128_S1x128 := by
  show StableHlo.after hostOps0 _ (Proc.devRef .tc main_v4) = _
  after_results
  rfl

theorem V_beta : V m c main_v5 = shapeCast S1x128 (m ((c : Thread nD τ).loc main_arg6) : S128.Idx → Elt F .f32) shapeCasts_S128_S1x128 := by
  show StableHlo.after hostOps0 _ (Proc.devRef .tc main_v5) = _
  after_results
  rfl

/-- The batch array. -/
abbrev batch : S100000.Idx → Elt F .i32 := m ((c : Thread nD τ).loc main_arg2)

theorem index_0 : ∀ t, win0_0.index t = ![0] := by decide +kernel
theorem index_1 : ∀ t, win0_1.index t = ![0] := by decide +kernel
theorem index_2 : ∀ t, win0_2.index t = ![0, 0] := by decide +kernel
theorem index_3 : ∀ t, win0_3.index t = ![0, 0] := by decide +kernel
theorem index_4 : ∀ t, win0_4.index t = ![0, 0] := by decide +kernel
theorem index_5 : ∀ t, win0_5.index t = ![0, 0] := by decide +kernel
theorem index_6 : ∀ t : Fin cfg0.N, win0_6.index t = ![t.val, 0] := by decide +kernel

theorem first_at (n : Fin 100) : (iblk m c 0 t0 : S100.Idx → Elt F .i32) (ix1 n) = batch m c (ix1 ⟨1000 * n.val, by omega⟩) := by
  have e : (iblk m c 0 t0 : S100.Idx → Elt F .i32) (ix1 n) = (V m c main_v1 : S100.Idx → Elt F .i32) (ix1 n) := by
    blk_ext [iblk, index_0]
  rw [e, V_firsts]
  show batch m c _ = batch m c _
  refine congrArg _ (funext fun a => ?_)
  match a with
  | 0 => exact Fin.ext (show 0 + 1000 * n.val = 1000 * n.val by omega)

theorem last_at (n : Fin 100) : (iblk m c 1 t0 : S100.Idx → Elt F .i32) (ix1 n) = batch m c (ix1 ⟨1000 * n.val + 999, by omega⟩) := by
  have e : (iblk m c 1 t0 : S100.Idx → Elt F .i32) (ix1 n) = (V m c main_v2 : S100.Idx → Elt F .i32) (ix1 n) := by
    blk_ext [iblk, index_1]
  rw [e, V_lasts]
  show batch m c _ = batch m c _
  refine congrArg _ (funext fun a => ?_)
  match a with
  | 0 => exact Fin.ext (show 999 + 1000 * n.val = 1000 * n.val + 999 by omega)

theorem seg_at (n : Fin 100) (r : Fin 1000) :
    (iblk m c 6 ⟨n.val, lt_N n⟩ : S1000x1.Idx → Elt F .i32) (ix2 r 0) = batch m c (ix1 ⟨1000 * n.val + r.val, by omega⟩) := by
  have e : (iblk m c 6 ⟨n.val, lt_N n⟩ : S1000x1.Idx → Elt F .i32) (ix2 r 0)
      = (V m c main_v0 : S100000x1.Idx → Elt F .i32) (ix2 ⟨1000 * n.val + r.val, by omega⟩ 0) := by
    blk_ext [iblk, index_6]
  rw [e, V_column]
  pointwise

theorem W_at (i : Fin 128) (d : Fin 128) : (iblk m c 2 t0 : S128x128.Idx → Elt F .f32) (ix2 i d) = m ((c : Thread nD τ).loc main_arg3) (ix2 i d) := by
  have e : (iblk m c 2 t0 : S128x128.Idx → Elt F .f32) (ix2 i d) = (V m c main_arg3 : S128x128.Idx → Elt F .f32) (ix2 i d) := by
    blk_ext [iblk, index_2]
  rw [e, V_main_arg3]

theorem b_at (d : Fin 128) : (iblk m c 3 t0 : S1x128.Idx → Elt F .f32) (ix2 0 d) = m ((c : Thread nD τ).loc main_arg4) (ix1 d) := by
  have e : (iblk m c 3 t0 : S1x128.Idx → Elt F .f32) (ix2 0 d) = (V m c main_v3 : S1x128.Idx → Elt F .f32) (ix2 0 d) := by
    blk_ext [iblk, index_3]
  rw [e, V_b]
  pointwise

theorem gamma_at (d : Fin 128) : (iblk m c 4 t0 : S1x128.Idx → Elt F .f32) (ix2 0 d) = m ((c : Thread nD τ).loc main_arg5) (ix1 d) := by
  have e : (iblk m c 4 t0 : S1x128.Idx → Elt F .f32) (ix2 0 d) = (V m c main_v4 : S1x128.Idx → Elt F .f32) (ix2 0 d) := by
    blk_ext [iblk, index_4]
  rw [e, V_gamma]
  pointwise

theorem beta_at (d : Fin 128) : (iblk m c 5 t0 : S1x128.Idx → Elt F .f32) (ix2 0 d) = m ((c : Thread nD τ).loc main_arg6) (ix1 d) := by
  have e : (iblk m c 5 t0 : S1x128.Idx → Elt F .f32) (ix2 0 d) = (V m c main_v5 : S1x128.Idx → Elt F .f32) (ix2 0 d) := by
    blk_ext [iblk, index_5]
  rw [e, V_beta]
  pointwise

/-- Numbers below 256 pass the checks. -/
theorem checked (h : ∀ i, (batch m c i).toNat < 256) : Checked m c := by
  refine ⟨fun n => ?_, fun n => ?_⟩
  · rw [first_at]
    exact chk1_small (h _)
  · rw [first_at, last_at]
    exact chk2_small (h _) (h _)

/-- The result array after the run. -/
theorem out_eq (hk : ∀ c, Checked m c) : (dats m hk 0 c).arrAt 7 cfg0.N = (ins m c (hk c)).result ((ins m c (hk c)).after 100) := by
  refine (dats m hk 0 c).arrAt_eq_of_after_last 7 ⟨99, by decide⟩ (by decide +kernel) _ fun j => ?_
  blk_simp
  rfl

/-! ## The range condition -/

/-- A batch array that the predicate accepts holds numbers below 256. -/
theorem batch_lt (a0 : FVec F Cert.Pre_batch_in_range.S100000x128 .f32) (a1 : IVec Cert.Pre_batch_in_range.S2x100000 32)
    (a2 : IVec Cert.Pre_batch_in_range.S100000 32) (a3 : FVec F Cert.Pre_batch_in_range.S128x128 .f32)
    (a4 a5 a6 : FVec F Cert.Pre_batch_in_range.S128 .f32)
    (h : Cert.Pre_batch_in_range.fn (F := F) a0 a1 a2 a3 a4 a5 a6 = fun _ => 1#1) (x : Cert.Pre_batch_in_range.S100000.Idx) : (a2 x).toNat < 256 := by
  haveI : Subsingleton Cert.Pre_batch_in_range.S_.Idx := ⟨fun a b => funext fun x => x.elim0⟩
  have e := Host.reduce_andi_all _ _ _ _ (fun a => a.elim0) (congrFun h fun a => a.elim0) x
  have e' : IntOp.andi (IntOp.cmpi .sge (a2 x) 0#32) (IntOp.cmpi .slt (a2 x) (BitVec.ofNat 32 256)) = 1#1 := e
  rw [andi_sge_zero_slt_ofNat (by decide), ofBool_decide_eq_one_iff] at e'
  exact e'

end Cert.PoolIdeal.Pass
-- ==== Proof.PoolConst.lean ====
/-
  The literals of the pooling pass and its reference at the extended reals.
-/
module

public import Idealize.ShloMosaic.Lib.Pointwise
public import Idealize.ShloMosaic.Lib.IdealHost

@[expose] public section

noncomputable section

namespace Cert.PoolLit

open Idealize.ShloMosaic

theorem lowest : Ideal.ofBits .f32 0xFF800000#32 = (⊥ : EReal) := by simp [Ideal.ofBits, Ideal.ieee]

theorem highest : Ideal.ofBits .f32 0x7F800000#32 = (⊤ : EReal) := by simp [Ideal.ofBits, Ideal.ieee]

theorem count : Ideal.ofBits .f32 0x47C35000#32 = ((100000 : ℝ) : EReal) := by
  simp [Ideal.ofBits, Ideal.ieee, -EReal.coe_mul]; norm_num

end Cert.PoolLit

end
-- ==== Proof.PoolValue.lean ====
/-
  The values of the pooling pass at the extended reals: what each block adds to the running maxima and sums.
-/
module

public import proofs.«01_k».proof.Proof.PoolIdealRange
public import proofs.«01_k».proof.Proof.PoolConst

@[expose] public section

set_option maxRecDepth 16384

noncomputable section

namespace Cert.PoolIdeal.Pass

open Cert.PoolIdeal Cert.PoolIdeal.Gen Cert.PoolLit
open Idealize.ShloMosaic Idealize.ShloMosaic.TcCoe

theorem cut_whole {e : EltTy} {N M : ℕ} (h : ∀ a, (![0, 0] : Fin 2 → ℕ) a + (![N, M] : Fin 2 → ℕ) a ≤ (![N, M] : Fin 2 → ℕ) a)
    (X : (⟨2, ![N, M]⟩ : Shape).Idx → Elt Ideal e) : cut (Rect.unit (s := ⟨2, ![N, M]⟩) ![0, 0] ![N, M] h) X = X := by
  funext i
  refine congrArg X (funext fun a => ?_)
  match a with
  | 0 => exact Fin.ext (show 0 + 1 * (i 0).val = (i 0).val by omega)
  | 1 => exact Fin.ext (show 0 + 1 * (i 1).val = (i 1).val by omega)

theorem pick_eq {α : Type} (a b : BitVec 32) (x y : α) : Scalar.select (IntOp.cmpi .eq a b) x y = if a.toNat = b.toNat then x else y := by
  rw [WordCmp.cmpi_eq_eq_toNat, WordCmp.select_ofBool]
  simp

/-! ## Maxima over stretches of rows -/

/-- The greatest of `H` over those of the `m` rows from `o` that belong to `g`. -/
def best (H : ℕ → EReal) (B : ℕ → ℕ) (o m g : ℕ) : EReal := (Finset.range m).sup fun i => if B (o + i) = g then H (o + i) else ⊥

theorem best_add (H : ℕ → EReal) (B : ℕ → ℕ) (o a g : ℕ) : ∀ b, best H B o (a + b) g = max (best H B o a g) (best H B (o + a) b g)
  | 0 => by simp [best]
  | b + 1 => by
    have ih := best_add H B o a g b
    simp only [best, ← Nat.add_assoc, Finset.range_add_one, Finset.sup_insert] at ih ⊢
    rw [ih]
    exact sup_left_comm _ _ _

theorem best_none (H : ℕ → EReal) (B : ℕ → ℕ) (o m g : ℕ) (h : ∀ i < m, B (o + i) ≠ g) : best H B o m g = ⊥ :=
  le_bot_iff.mp (Finset.sup_le fun i hi => by rw [if_neg (h i (Finset.mem_range.mp hi))])

theorem fold_best {m : ℕ} {H : ℕ → EReal} {B : ℕ → ℕ} (o : ℕ) {X : Fin m → EReal} {ids : Fin m → BitVec 32} (g : BitVec 32)
    (hX : ∀ i, X i = H (o + i.val)) (hB : ∀ i, (ids i).toNat = B (o + i.val)) :
    Finset.fold max (Ideal.ofBits .f32 0xFF800000#32) (fun i => Scalar.select (IntOp.cmpi .eq (ids i) g) (X i) (Ideal.ofBits .f32 0xFF800000#32)) Finset.univ
      = best H B o m g.toNat := by
  rw [lowest]
  simp only [pick_eq, hX, hB]
  show Finset.sup Finset.univ _ = _
  refine le_antisymm (Finset.sup_le fun i _ => Finset.le_sup (f := fun i => if B (o + i) = g.toNat then H (o + i) else ⊥) (Finset.mem_range.mpr i.isLt))
    (Finset.sup_le fun i hi => Finset.le_sup (f := fun i : Fin m => if B (o + i.val) = g.toNat then H (o + i.val) else ⊥)
      (Finset.mem_univ (⟨i, Finset.mem_range.mp hi⟩ : Fin m)))

/-! ## Sums over stretches of rows -/

theorem sum_chunk (F : ℕ → EReal) (o : ℕ) : ∑ s : Fin 8, ∑ x : Fin 25, F (o + (x.val * 8 + s.val)) = ∑ i ∈ Finset.range 200, F (o + i) := by
  rw [Finset.sum_comm, ← Finset.sum_product', Finset.univ_product_univ, ← Fin.sum_univ_eq_sum_range (fun i => F (o + i)) 200,
    ← Equiv.sum_comp (finProdFinEquiv : Fin 25 × Fin 8 ≃ Fin 200)]
  refine Finset.sum_congr rfl fun p _ => congrArg F ?_
  show o + (p.1.val * 8 + p.2.val) = o + (p.2.val + 8 * p.1.val)
  omega

theorem sum_stretch (F : ℕ → EReal) (o a b : ℕ) :
    ∑ i ∈ Finset.range (a + b), F (o + i) = ∑ i ∈ Finset.range a, F (o + i) + ∑ i ∈ Finset.range b, F (o + a + i) := by
  rw [Finset.sum_range_add]
  simp only [Nat.add_assoc]

theorem sum_block (F : ℕ → EReal) (o : ℕ) :
    ∑ i ∈ Finset.range 1000, F (o + i)
      = ∑ i ∈ Finset.range 200, F (o + i) + ∑ i ∈ Finset.range 200, F (o + 200 + i) + ∑ i ∈ Finset.range 200, F (o + 400 + i)
        + ∑ i ∈ Finset.range 200, F (o + 600 + i) + ∑ i ∈ Finset.range 200, F (o + 800 + i) := by
  rw [show 1000 = 800 + 200 from rfl, sum_stretch, show 800 = 600 + 200 from rfl, sum_stretch, show 600 = 400 + 200 from rfl, sum_stretch,
    show 400 = 200 + 200 from rfl, sum_stretch]

/-! ## A row written into the running maxima -/

theorem over_row (o : Fin 2 → ℕ) (g0 : ℕ) (ho : o = ![g0, 0]) (h : ∀ a, o a + S1x128.size a ≤ S256x128.size a) (P : S256x128.Idx → EReal)
    (v : S1x128.Idx → EReal) (g : Fin 256) (d : Fin 128) :
    over (α := EReal) (Rect.unit (s := S256x128) o S1x128.size h) P v (ix2 g d) = if g.val = g0 then v (ix2 0 d) else P (ix2 g d) := by
  subst ho
  by_cases hi : g.val = g0
  · rw [if_pos hi]
    have e : (Rect.unit (s := S256x128) ![g0, 0] S1x128.size h).emb (ix2 (0 : Fin 1) d) = ix2 g d := by
      funext a
      match a with
      | 0 => exact Fin.ext (show g0 + 1 * 0 = g.val by omega)
      | 1 => exact Fin.ext (show 0 + 1 * d.val = d.val by omega)
    have h' := over_emb (α := EReal) (Rect.unit (s := S256x128) ![g0, 0] S1x128.size h) P v (ix2 (0 : Fin 1) d)
    rw [e] at h'
    exact h'
  · rw [if_neg hi]
    refine over_of_not _ _ _ _ fun j hj => hi ?_
    have : g0 + 1 * (j 0).val = g.val := congrArg (fun i : S256x128.Idx => (i 0).val) hj
    have hj0 : (j 0).val < 1 := (j 0).isLt
    omega

theorem cut_row (o : Fin 2 → ℕ) (g0 : ℕ) (ho : o = ![g0, 0]) (h : ∀ a, o a + S1x128.size a ≤ S256x128.size a) (P : S256x128.Idx → EReal)
    (g : Fin 256) (hg : g.val = g0) (d : Fin 128) :
    cut (α := EReal) (Rect.unit (s := S256x128) o S1x128.size h) P (ix2 0 d) = P (ix2 g d) := by
  subst ho
  refine congrArg P (funext fun a => ?_)
  match a with
  | 0 => exact Fin.ext (show g0 + 1 * 0 = g.val by omega)
  | 1 => exact Fin.ext (show 0 + 1 * d.val = d.val by omega)

variable (J : Ins Ideal) (n : Fin 100)

namespace Ins

theorem w_eq : J.w = J.W := cut_whole (e := .f32) _ _

theorem bias_at (d : Fin 128) : J.bias (ix2 0 d) = J.b (ix2 0 d) := by
  have e := cut_whole (e := .f32) inb_S1x128_S1x128_0_0 J.b
  show k0_pay9 (F := Ideal) _ _ = _
  pointwise [k0_pay9]
  exact congrFun e _

/-- A point through the linear layer. -/
def lin (r : Fin 100000) (d : Fin 128) : EReal := (∑ k : Fin 128, J.x (ix2 r k) * J.W (ix2 k d)) + J.b (ix2 0 d)

/-- The same, by the point's number. -/
def H (d : Fin 128) (r : ℕ) : EReal := if h : r < 100000 then J.lin ⟨r, h⟩ d else 0

theorem H_at (k : Fin 5) (o : ℕ) (ho : o = 200 * k.val) (i : Fin 200) (d : Fin 128) :
    ∑ x : Fin 128, xs J.x n k (ix3 0 i x) * J.w (ix2 x d) + J.b (ix2 0 d) = J.H d (1000 * n.val + o + i.val) := by
  subst ho
  have hk := k.isLt
  have hn := n.isLt
  have hi := i.isLt
  rw [w_eq, H, dif_pos (by omega), lin]
  refine congrArg (· + J.b (ix2 0 d)) (Finset.sum_congr rfl fun x _ => congrArg (· * J.W (ix2 x d)) (congrArg J.x ?_))
  funext a
  match a with
  | 0 => exact Fin.ext (show n.val * 1000 + (200 * k.val + i.val) = 1000 * n.val + 200 * k.val + i.val by omega)
  | 1 => rfl

theorem h0_def : k0_pay15 J.w J.bias (xs J.x n 0) = J.h0 n := rfl
theorem h1_def : k0_pay25 J.w J.bias (xs J.x n 1) = J.h1 n := rfl
theorem h3_def : k0_pay45 J.w J.bias (xs J.x n 3) = J.h3 n := rfl
theorem h4_def : k0_pay55 J.w J.bias (xs J.x n 4) = J.h4 n := rfl

theorem h0_at (i : Fin 200) (d : Fin 128) : J.h0 n (ix2 i d) = J.H d (1000 * n.val + 0 + i.val) := by
  unfold h0
  pointwise [k0_pay15, bias_at]
  exact J.H_at n 0 0 rfl i d

theorem h1_at (i : Fin 200) (d : Fin 128) : J.h1 n (ix2 i d) = J.H d (1000 * n.val + 200 + i.val) := by
  unfold h1
  pointwise [k0_pay25, bias_at]
  exact J.H_at n 1 200 rfl i d

theorem h2_at (i : Fin 200) (d : Fin 128) : J.h2 n (ix2 i d) = J.H d (1000 * n.val + 400 + i.val) := by
  unfold h2
  pointwise [k0_pay35, bias_at]
  exact J.H_at n 2 400 rfl i d

theorem h3_at (i : Fin 200) (d : Fin 128) : J.h3 n (ix2 i d) = J.H d (1000 * n.val + 600 + i.val) := by
  unfold h3
  pointwise [k0_pay45, bias_at]
  exact J.H_at n 3 600 rfl i d

theorem h4_at (i : Fin 200) (d : Fin 128) : J.h4 n (ix2 i d) = J.H d (1000 * n.val + 800 + i.val) := by
  unfold h4
  pointwise [k0_pay55, bias_at]
  exact J.H_at n 4 800 rfl i d

theorem over_chunk (o : ℕ) (h : ∀ a, (![o, 0] : Fin 2 → ℕ) a + S200x128.size a ≤ S1000x128.size a) (X : S1000x128.Idx → Elt Ideal .f32)
    (v : S200x128.Idx → Elt Ideal .f32) (r : Fin 1000) (d : Fin 128) :
    over (Rect.unit (s := S1000x128) ![o, 0] S200x128.size h) X v (ix2 r d)
      = if hi : o ≤ r.val ∧ r.val < o + 200 then v (ix2 ⟨r.val - o, by omega⟩ d) else X (ix2 r d) :=
  over_rows o h X v (ix2 r d)

theorem rows_at (r : Fin 1000) (d : Fin 128) : J.rows n (ix2 r d) = J.H d (1000 * n.val + r.val) := by
  have hr := r.isLt
  unfold rows rowsOn
  rw [over_chunk 800, over_chunk 600, over_chunk 400, over_chunk 200, over_chunk 0]
  split
  · refine (?_ : _ = J.h4 n (ix2 ⟨r.val - 800, by omega⟩ d)).trans ((J.h4_at n _ d).trans (congrArg (J.H d) (by show _ + (r.val - 800) = _; omega)))
    unfold h4; pointwise [k0_pay56, k0_pay55]
  split
  · refine (?_ : _ = J.h3 n (ix2 ⟨r.val - 600, by omega⟩ d)).trans ((J.h3_at n _ d).trans (congrArg (J.H d) (by show _ + (r.val - 600) = _; omega)))
    unfold h3; pointwise [k0_pay46, k0_pay45]
  split
  · refine (?_ : _ = J.h2 n (ix2 ⟨r.val - 400, by omega⟩ d)).trans ((J.h2_at n _ d).trans (congrArg (J.H d) (by show _ + (r.val - 400) = _; omega)))
    pointwise [k0_pay36]
  split
  · refine (?_ : _ = J.h1 n (ix2 ⟨r.val - 200, by omega⟩ d)).trans ((J.h1_at n _ d).trans (congrArg (J.H d) (by show _ + (r.val - 200) = _; omega)))
    unfold h1; pointwise [k0_pay26, k0_pay25]
  split
  · refine (?_ : _ = J.h0 n (ix2 ⟨r.val - 0, by omega⟩ d)).trans ((J.h0_at n _ d).trans (congrArg (J.H d) (by show _ + (r.val - 0) = _; omega)))
    unfold h0; pointwise [k0_pay16, k0_pay15]
  · omega

/-! ## The block's sums -/

theorem sum_at (d : Fin 128) : ∑ s : Fin 8, J.sum n (ix2 s d) = ∑ i ∈ Finset.range 1000, J.H d (1000 * n.val + i) := by
  have e : ∀ s : Fin 8, J.sum n (ix2 s d)
      = ∑ x : Fin 25, J.H d (1000 * n.val + 0 + (x.val * 8 + s.val)) + ∑ x : Fin 25, J.H d (1000 * n.val + 200 + (x.val * 8 + s.val))
        + ∑ x : Fin 25, J.H d (1000 * n.val + 400 + (x.val * 8 + s.val)) + ∑ x : Fin 25, J.H d (1000 * n.val + 600 + (x.val * 8 + s.val))
        + ∑ x : Fin 25, J.H d (1000 * n.val + 800 + (x.val * 8 + s.val)) := fun s => by
    unfold sum
    pointwise [k0_pay57, k0_pay47, k0_pay37, k0_pay27, k0_pay17, k0_pay10]
    exact congrArg₂ (· + ·) (congrArg₂ (· + ·) (congrArg₂ (· + ·) (congrArg₂ (· + ·) (Finset.sum_congr rfl fun x _ => J.h0_at n _ d)
      (Finset.sum_congr rfl fun x _ => J.h1_at n _ d)) (Finset.sum_congr rfl fun x _ => J.h2_at n _ d)) (Finset.sum_congr rfl fun x _ => J.h3_at n _ d))
      (Finset.sum_congr rfl fun x _ => J.h4_at n _ d)
  rw [sum_block]
  simp only [e, Finset.sum_add_distrib, sum_chunk, Nat.add_zero]

theorem sq_at (d : Fin 128) : ∑ s : Fin 8, J.sq n (ix2 s d) = ∑ i ∈ Finset.range 1000, J.H d (1000 * n.val + i) * J.H d (1000 * n.val + i) := by
  have m : ∀ {a b : EReal}, a = b → a * a = b * b := fun h => by rw [h]
  have e : ∀ s : Fin 8, J.sq n (ix2 s d)
      = ∑ x : Fin 25, J.H d (1000 * n.val + 0 + (x.val * 8 + s.val)) * J.H d (1000 * n.val + 0 + (x.val * 8 + s.val))
        + ∑ x : Fin 25, J.H d (1000 * n.val + 200 + (x.val * 8 + s.val)) * J.H d (1000 * n.val + 200 + (x.val * 8 + s.val))
        + ∑ x : Fin 25, J.H d (1000 * n.val + 400 + (x.val * 8 + s.val)) * J.H d (1000 * n.val + 400 + (x.val * 8 + s.val))
        + ∑ x : Fin 25, J.H d (1000 * n.val + 600 + (x.val * 8 + s.val)) * J.H d (1000 * n.val + 600 + (x.val * 8 + s.val))
        + ∑ x : Fin 25, J.H d (1000 * n.val + 800 + (x.val * 8 + s.val)) * J.H d (1000 * n.val + 800 + (x.val * 8 + s.val)) := fun s => by
    unfold sq
    pointwise [k0_pay58, k0_pay48, k0_pay38, k0_pay28, k0_pay18, k0_pay11]
    exact congrArg₂ (· + ·) (congrArg₂ (· + ·) (congrArg₂ (· + ·) (congrArg₂ (· + ·) (Finset.sum_congr rfl fun x _ => m (J.h0_at n _ d))
      (Finset.sum_congr rfl fun x _ => m (J.h1_at n _ d))) (Finset.sum_congr rfl fun x _ => m (J.h2_at n _ d)))
      (Finset.sum_congr rfl fun x _ => m (J.h3_at n _ d))) (Finset.sum_congr rfl fun x _ => m (J.h4_at n _ d))
  rw [sum_block fun i => J.H d i * J.H d i]
  simp only [e, Finset.sum_add_distrib, sum_chunk fun i => J.H d i * J.H d i, Nat.add_zero]

/-! ## The block's maxima -/

/-- The segments the pass reads are `B`'s: a block's own, and its first and last. -/
structure Reads (B : ℕ → ℕ) : Prop where
  seg : ∀ (n : Fin 100) (r : Fin 1000), (J.seg n (ix2 r 0)).toNat = B (1000 * n.val + r.val)
  first : ∀ n : Fin 100, (J.s0 n).toNat = B (1000 * n.val)
  last : ∀ n : Fin 100, (J.s1 n).toNat = B (1000 * n.val + 999)
  small : ∀ r, B r < 256
  sorted : ∀ r s, r ≤ s → s < 100000 → B r ≤ B s

variable {J} {B : ℕ → ℕ} (hB : J.Reads B)
include hB

theorem ids_at (o : ℕ) (h : ∀ a, (![o, 0] : Fin 2 → ℕ) a + S200x1.size a ≤ S1000x1.size a) (i : Fin 200) :
    (cut (Rect.unit (s := S1000x1) ![o, 0] S200x1.size h) (J.seg n) (ix2 i 0)).toNat = B (1000 * n.val + o + i.val) := by
  have ho : o + 200 ≤ 1000 := h 0
  have hi := i.isLt
  rw [Nat.add_assoc, ← hB.seg n ⟨o + i.val, by omega⟩]
  refine congrArg (fun i => (J.seg n i).toNat) (funext fun a => ?_)
  match a with
  | 0 => exact Fin.ext (show o + 1 * i.val = o + i.val by omega)
  | 1 => rfl

theorem maxima (d : Fin 128) (g : BitVec 32) :
    max (max (max (max (max (Ideal.ofBits .f32 0xFF800000#32)
      (Finset.fold max (Ideal.ofBits .f32 0xFF800000#32) (fun i : Fin 200 => Scalar.select (IntOp.cmpi .eq (J.ids0 n (ix2 i 0)) g) (J.h0 n (ix2 i d))
        (Ideal.ofBits .f32 0xFF800000#32)) Finset.univ))
      (Finset.fold max (Ideal.ofBits .f32 0xFF800000#32) (fun i : Fin 200 => Scalar.select (IntOp.cmpi .eq (J.ids1 n (ix2 i 0)) g) (J.h1 n (ix2 i d))
        (Ideal.ofBits .f32 0xFF800000#32)) Finset.univ))
      (Finset.fold max (Ideal.ofBits .f32 0xFF800000#32) (fun i : Fin 200 => Scalar.select (IntOp.cmpi .eq (J.ids2 n (ix2 i 0)) g) (J.h2 n (ix2 i d))
        (Ideal.ofBits .f32 0xFF800000#32)) Finset.univ))
      (Finset.fold max (Ideal.ofBits .f32 0xFF800000#32) (fun i : Fin 200 => Scalar.select (IntOp.cmpi .eq (J.ids3 n (ix2 i 0)) g) (J.h3 n (ix2 i d))
        (Ideal.ofBits .f32 0xFF800000#32)) Finset.univ))
      (Finset.fold max (Ideal.ofBits .f32 0xFF800000#32) (fun i : Fin 200 => Scalar.select (IntOp.cmpi .eq (J.ids4 n (ix2 i 0)) g) (J.h4 n (ix2 i d))
        (Ideal.ofBits .f32 0xFF800000#32)) Finset.univ)
      = best (J.H d) B (1000 * n.val) 1000 g.toNat := by
  rw [fold_best (1000 * n.val + 0) g (fun i => J.h0_at n i d) fun i => ids_at n hB 0 _ i,
    fold_best (1000 * n.val + 200) g (fun i => J.h1_at n i d) fun i => ids_at n hB 200 _ i,
    fold_best (1000 * n.val + 400) g (fun i => J.h2_at n i d) fun i => ids_at n hB 400 _ i,
    fold_best (1000 * n.val + 600) g (fun i => J.h3_at n i d) fun i => ids_at n hB 600 _ i,
    fold_best (1000 * n.val + 800) g (fun i => J.h4_at n i d) fun i => ids_at n hB 800 _ i,
    lowest, max_eq_right bot_le, show 1000 = 800 + 200 from rfl, best_add, show 800 = 600 + 200 from rfl, best_add, show 600 = 400 + 200 from rfl, best_add,
    show 400 = 200 + 200 from rfl, best_add]
  simp only [Nat.add_zero]

theorem max0_at (d : Fin 128) : J.max0 n (ix2 0 d) = best (J.H d) B (1000 * n.val) 1000 (Scalar.addi (J.s0 n) 0#32).toNat := by
  unfold max0
  pointwise [k0_pay61, k0_pay19, k0_pay39, k0_pay49, k0_pay29, k0_pay59, k0_pay50, k0_pay40, k0_pay31, k0_pay20, k0_pay30, k0_pay60]
  simp only [h0_def, h3_def]
  exact maxima n hB d (Scalar.addi (J.s0 n) 0#32)

theorem max1_at (d : Fin 128) : J.max1 n (ix2 0 d) = best (J.H d) B (1000 * n.val) 1000 (Scalar.addi (J.s0 n) 1#32).toNat := by
  unfold max1
  pointwise [k0_pay62, k0_pay19, k0_pay39, k0_pay49, k0_pay52, k0_pay41, k0_pay32, k0_pay22, k0_pay12, k0_pay21, k0_pay29, k0_pay51, k0_pay59]
  simp only [h0_def, h3_def]
  exact maxima n hB d (Scalar.addi (J.s0 n) 1#32)

theorem max2_at (d : Fin 128) : J.max2 n (ix2 0 d) = best (J.H d) B (1000 * n.val) 1000 (Scalar.addi (J.s0 n) 2#32).toNat := by
  unfold max2
  pointwise [k0_pay63, k0_pay53, k0_pay42, k0_pay33, k0_pay23, k0_pay13, k0_pay19, k0_pay39, k0_pay29, k0_pay49, k0_pay59]
  exact maxima n hB d (Scalar.addi (J.s0 n) 2#32)

theorem max3_at (d : Fin 128) : J.max3 n (ix2 0 d) = best (J.H d) B (1000 * n.val) 1000 (Scalar.addi (J.s0 n) 3#32).toNat := by
  unfold max3
  pointwise [k0_pay64, k0_pay54, k0_pay44, k0_pay34, k0_pay24, k0_pay14, k0_pay19, k0_pay39, k0_pay29, k0_pay43, k0_pay49, k0_pay59]
  exact maxima n hB d (Scalar.addi (J.s0 n) 3#32)

/-! ## The running maxima -/

omit hB in
theorem near_eq (k : Fin 4) (hs : (J.s0 n).toNat < 256) :
    k0_off25 (J.s0 n) (BitVec.ofNat 32 k.val) = ![min ((J.s0 n).toNat + k.val) 255, 0] := by
  funext a
  match a with
  | 0 => exact near_row hs k.val k.isLt
  | 1 => rfl

theorem near_at (k : Fin 4) (P : S256x128.Idx → EReal) (v : S1x128.Idx → EReal) (g : Fin 256) (d : Fin 128)
    (hv : v (ix2 0 d) = max (cut (J.near n k) P (ix2 0 d)) (best (J.H d) B (1000 * n.val) 1000 (Scalar.addi (J.s0 n) (BitVec.ofNat 32 k.val)).toNat)) :
    over (J.near n k) P v (ix2 g d) = max (P (ix2 g d)) (if g.val = B (1000 * n.val) + k.val then best (J.H d) B (1000 * n.val) 1000 g.val else ⊥) := by
  have hs : (J.s0 n).toNat < 256 := by rw [hB.first]; exact hB.small _
  have hg := g.isLt
  have hk := k.isLt
  have hn := near_eq n k hs
  refine (over_row _ _ hn _ P v g d).trans ?_
  rw [← hB.first n]
  split
  · rename_i h
    rw [hv, cut_row _ _ hn _ P g h d, add_small hs k.val (by omega)]
    by_cases hc : (J.s0 n).toNat + k.val ≤ 255
    · rw [if_pos (by omega), show (J.s0 n).toNat + k.val = g.val by omega]
    · rw [if_neg (by omega), best_none _ _ _ _ _ fun i _ => by have := hB.small (1000 * n.val + i); omega]
  · rw [if_neg (by omega), max_eq_left bot_le]

theorem pool1_at (P : S256x128.Idx → EReal) (g : Fin 256) (d : Fin 128) :
    J.pool1 n P (ix2 g d) = max (P (ix2 g d)) (if g.val = B (1000 * n.val) + 0 then best (J.H d) B (1000 * n.val) 1000 g.val else ⊥) := by
  refine near_at n hB 0 P _ g d ?_
  pointwise [k0_pay67, max0_at n hB d]

theorem pool2_at (P : S256x128.Idx → EReal) (g : Fin 256) (d : Fin 128) :
    J.pool2 n P (ix2 g d) = max (P (ix2 g d)) (if g.val = B (1000 * n.val) + 1 then best (J.H d) B (1000 * n.val) 1000 g.val else ⊥) := by
  refine near_at n hB 1 P _ g d ?_
  pointwise [k0_pay68, max1_at n hB d]

theorem pool3_at (P : S256x128.Idx → EReal) (g : Fin 256) (d : Fin 128) :
    J.pool3 n P (ix2 g d) = max (P (ix2 g d)) (if g.val = B (1000 * n.val) + 2 then best (J.H d) B (1000 * n.val) 1000 g.val else ⊥) := by
  refine near_at n hB 2 P _ g d ?_
  pointwise [k0_pay69, max2_at n hB d]

theorem pool4_at (P : S256x128.Idx → EReal) (g : Fin 256) (d : Fin 128) :
    J.pool4 n P (ix2 g d) = max (P (ix2 g d)) (if g.val = B (1000 * n.val) + 3 then best (J.H d) B (1000 * n.val) 1000 g.val else ⊥) := by
  refine near_at n hB 3 P _ g d ?_
  pointwise [k0_pay1, k0_pay70, max3_at n hB d]

theorem seg_at (h : ∀ a, (![0, 0] : Fin 2 → ℕ) a + S1000x1.size a ≤ S1000x1.size a) (i : Fin 1000) :
    (cut (Rect.unit (s := S1000x1) ![0, 0] S1000x1.size h) (J.seg n) (ix2 i 0)).toNat = B (1000 * n.val + i.val) :=
  (congrArg BitVec.toNat (congrFun (cut_whole (e := .i32) h (J.seg n)) (ix2 i 0))).trans (hB.seg n i)

theorem block_at (h : ∀ a, (![0, 0] : Fin 2 → ℕ) a + S1000x128.size a ≤ S1000x128.size a) (i : Fin 1000) (d : Fin 128) :
    cut (Rect.unit (s := S1000x128) ![0, 0] S1000x128.size h) (J.rows n) (ix2 i d) = J.H d (1000 * n.val + i.val) :=
  (congrFun (cut_whole (e := .f32) h (J.rows n)) (ix2 i d)).trans (J.rows_at n i d)

theorem loop_at (P : S256x128.Idx → EReal) (g : Fin 256) (d : Fin 128) : ∀ K, K ≤ (k0_t1_loop (J.s0 n) (J.s1 n)).trips →
    J.loop n P K (ix2 g d) = max (P (ix2 g d))
      (if B (1000 * n.val) + 4 ≤ g.val ∧ g.val < B (1000 * n.val) + 4 + K then best (J.H d) B (1000 * n.val) 1000 g.val else ⊥)
  | 0, _ => by rw [if_neg (by omega), max_eq_left bot_le]; rfl
  | K + 1, hK => by
    have hs : (J.s0 n).toNat < 256 := by rw [hB.first]; exact hB.small _
    have hl : (J.s1 n).toNat < 256 := by rw [hB.last]; exact hB.small _
    have ih := loop_at P g d K (by omega)
    have hf : k0_off26 (J.s0 n) (J.s1 n) ⟨K, hK⟩ = ![(J.s0 n).toNat + 4 + K, 0] := by
      funext a
      match a with
      | 0 => exact far_row hs hl ⟨K, hK⟩
      | 1 => rfl
    show (if h : K < (k0_t1_loop (J.s0 n) (J.s1 n)).trips then _ else _ : S256x128.Idx → EReal) (ix2 g d) = _
    rw [dif_pos (show K < (k0_t1_loop (J.s0 n) (J.s1 n)).trips from hK)]
    refine (over_row _ _ hf _ _ _ g d).trans ?_
    rw [← hB.first n] at ih ⊢
    split
    · rename_i h
      have e : ∀ X : S256x128.Idx → EReal, k0_pay3 (F := Ideal) (J.s0 n) (J.s1 n)
          (cut (Rect.unit (s := S1000x1) ![0, 0] S1000x1.size inb_S1000x1_S1000x1_0_0) (J.seg n)) ⟨K, hK⟩
          (cut (Rect.unit (s := S1000x128) ![0, 0] S1000x128.size inb_S1000x128_S1000x128_0_0) (J.rows n)) (cut (J.far n ⟨K, hK⟩) X) (ix2 0 d)
          = max (X (ix2 g d)) (best (J.H d) B (1000 * n.val) 1000 g.val) := fun X => by
        have e1 := fold_best (1000 * n.val) (Scf.iv (Scalar.addi (J.s0 n) 4#32) 1#32 (⟨K, hK⟩ : Fin (k0_t1_loop (J.s0 n) (J.s1 n)).trips))
          (fun i => block_at n hB inb_S1000x128_S1000x128_0_0 i d) (fun i => seg_at n hB inb_S1000x1_S1000x1_0_0 i)
        rw [far_word hs hl, show (J.s0 n).toNat + 4 + K = g.val from h.symm] at e1
        rw [← e1, ← cut_row _ _ hf (k0_off26_inb (J.s0 n) (J.s1 n) (J.ok2 n) ⟨K, hK⟩) X g h d]
        pointwise [k0_pay3, k0_pay2]
      rw [e, ih, if_neg (by omega), if_pos (by omega), max_eq_left (b := (⊥ : EReal)) bot_le]
    · rw [ih]
      refine congrArg (max _) ?_
      by_cases hc : (J.s0 n).toNat + 4 ≤ g.val ∧ g.val < (J.s0 n).toNat + 4 + K
      · rw [if_pos hc, if_pos (by omega)]
      · rw [if_neg hc, if_neg (by omega)]

/-- A block takes its rows' maxima into the running ones. -/
theorem step_pool (p : Acc Ideal) (g : Fin 256) (d : Fin 128) :
    (J.step n p).pool (ix2 g d) = max (p.pool (ix2 g d)) (best (J.H d) B (1000 * n.val) 1000 g.val) := by
  have hn := n.isLt
  have hs : (J.s0 n).toNat < 256 := by rw [hB.first]; exact hB.small _
  have hl : (J.s1 n).toNat < 256 := by rw [hB.last]; exact hB.small _
  have ht := loop_trips hs hl
  rw [hB.first, hB.last] at ht
  refine (loop_at n hB _ g d _ le_rfl).trans ?_
  rw [pool4_at n hB, pool3_at n hB, pool2_at n hB, pool1_at n hB, ht]
  have hmono := hB.sorted (1000 * n.val) (1000 * n.val + 999) (by omega) (by omega)
  by_cases hout : g.val < B (1000 * n.val) ∨ B (1000 * n.val + 999) < g.val
  · rw [best_none _ _ _ _ _ fun i hi => by
      have h1 := hB.sorted (1000 * n.val) (1000 * n.val + i) (by omega) (by omega)
      have h2 := hB.sorted (1000 * n.val + i) (1000 * n.val + 999) (by omega) (by omega)
      omega]
    simp only [ite_self, max_eq_left (bot_le : (⊥ : EReal) ≤ _)]
  · generalize best (J.H d) B (1000 * n.val) 1000 g.val = m
    generalize p.pool (ix2 g d) = q
    by_cases h0 : g.val = B (1000 * n.val)
    · rw [if_pos (by omega), if_neg (by omega), if_neg (by omega), if_neg (by omega), if_neg (by omega)]
      simp only [max_eq_left (bot_le : (⊥ : EReal) ≤ _)]
    by_cases h1 : g.val = B (1000 * n.val) + 1
    · rw [if_neg (by omega), if_pos (by omega), if_neg (by omega), if_neg (by omega), if_neg (by omega)]
      simp only [max_eq_left (bot_le : (⊥ : EReal) ≤ _)]
    by_cases h2 : g.val = B (1000 * n.val) + 2
    · rw [if_neg (by omega), if_neg (by omega), if_pos (by omega), if_neg (by omega), if_neg (by omega)]
      simp only [max_eq_left (bot_le : (⊥ : EReal) ≤ _)]
    by_cases h3 : g.val = B (1000 * n.val) + 3
    · rw [if_neg (by omega), if_neg (by omega), if_neg (by omega), if_pos (by omega), if_neg (by omega)]
      simp only [max_eq_left (bot_le : (⊥ : EReal) ≤ _)]
    · rw [if_neg (by omega), if_neg (by omega), if_neg (by omega), if_neg (by omega), if_pos (by omega)]
      simp only [max_eq_left (bot_le : (⊥ : EReal) ≤ _)]

omit hB in
theorem step_sum (p : Acc Ideal) (d : Fin 128) :
    ∑ s : Fin 8, (J.step n p).sum (ix2 s d) = ∑ s : Fin 8, p.sum (ix2 s d) + ∑ i ∈ Finset.range 1000, J.H d (1000 * n.val + i) := by
  rw [← sum_at, ← Finset.sum_add_distrib]
  refine Finset.sum_congr rfl fun s _ => ?_
  show k0_pay65 (F := Ideal) _ _ _ = _
  rw [← congrFun (cut_whole (e := .f32) inb_S8x128_S8x128_0_0 p.sum) (ix2 s d)]
  pointwise [k0_pay65]

omit hB in
theorem step_sq (p : Acc Ideal) (d : Fin 128) :
    ∑ s : Fin 8, (J.step n p).sq (ix2 s d)
      = ∑ s : Fin 8, p.sq (ix2 s d) + ∑ i ∈ Finset.range 1000, J.H d (1000 * n.val + i) * J.H d (1000 * n.val + i) := by
  rw [← sq_at, ← Finset.sum_add_distrib]
  refine Finset.sum_congr rfl fun s _ => ?_
  show k0_pay66 (F := Ideal) _ _ _ = _
  rw [← congrFun (cut_whole (e := .f32) inb_S8x128_S8x128_0_0 p.sq) (ix2 s d)]
  pointwise [k0_pay66]

theorem after_pool (g : Fin 256) (d : Fin 128) : ∀ k ≤ 100, (J.after k).pool (ix2 g d) = best (J.H d) B 0 (1000 * k) g.val
  | 0, _ => by
    show k0_pay6 (F := Ideal) (ix2 g d) = _
    pointwise [k0_pay6]
    exact lowest
  | k + 1, hk => by
    show (if h : k < 100 then J.step ⟨k, h⟩ (J.after k) else J.after k).pool (ix2 g d) = _
    rw [dif_pos (by omega), step_pool _ hB, after_pool g d k (by omega), Nat.mul_succ, best_add, Nat.zero_add]

omit hB in
theorem after_sum (d : Fin 128) : ∀ k ≤ 100, ∑ s : Fin 8, (J.after k).sum (ix2 s d) = ∑ i ∈ Finset.range (1000 * k), J.H d i
  | 0, _ => by
    refine Finset.sum_eq_zero fun s _ => ?_
    show k0_pay7 (F := Ideal) (ix2 s d) = _
    pointwise [k0_pay7]
  | k + 1, hk => by
    show ∑ s : Fin 8, (if h : k < 100 then J.step ⟨k, h⟩ (J.after k) else J.after k).sum (ix2 s d) = _
    rw [dif_pos (by omega), step_sum, after_sum d k (by omega), Nat.mul_succ, Finset.sum_range_add]

omit hB in
theorem after_sq (d : Fin 128) : ∀ k ≤ 100, ∑ s : Fin 8, (J.after k).sq (ix2 s d) = ∑ i ∈ Finset.range (1000 * k), J.H d i * J.H d i
  | 0, _ => by
    refine Finset.sum_eq_zero fun s _ => ?_
    show k0_pay8 (F := Ideal) (ix2 s d) = _
    pointwise [k0_pay8]
  | k + 1, hk => by
    show ∑ s : Fin 8, (if h : k < 100 then J.step ⟨k, h⟩ (J.after k) else J.after k).sq (ix2 s d) = _
    rw [dif_pos (by omega), step_sq, after_sq d k (by omega), Nat.mul_succ, Finset.sum_range_add]

/-- The pass's result: the maxima scaled and shifted by the column's statistics. -/
theorem result_at (g : Fin 256) (d : Fin 128) (m q e s : EReal) (he : e = ((1 / 100000 : ℝ) : EReal)) (hm : m = (∑ i ∈ Finset.range 100000, J.H d i) * e)
    (hq : q = (∑ i ∈ Finset.range 100000, J.H d i * J.H d i) * e) (hs : s = J.gamma (ix2 0 d) * Ideal.rsqrt (q - m * m + e)) :
    J.result (J.after 100) (ix2 g d) = max (best (J.H d) B 0 100000 g.val * s + (J.beta (ix2 0 d) - m * s)) 0 := by
  have es := cut_whole (e := .f32) inb_S8x128_S8x128_0_0 (J.after 100).sum
  have eq := cut_whole (e := .f32) inb_S8x128_S8x128_0_0 (J.after 100).sq
  have eg := cut_whole (e := .f32) inb_S1x128_S1x128_0_0 J.gamma
  have eb := cut_whole (e := .f32) inb_S1x128_S1x128_0_0 J.beta
  have ep := cut_whole (e := .f32) inb_S256x128_S256x128_0_0 (J.after 100).pool
  have ek : Named.named (F := Ideal) (φ := .f32) κ "one_e5" 0x3727C5AC#32 = e :=
    (IdealRules.named_const.ideal_named_scalar _ _ _ _ rfl).trans he.symm
  unfold result
  rw [es, eq, eg, eb, ep]
  pointwise [k0_pay5, after_sum d 100 le_rfl, after_sq d 100 le_rfl, after_pool hB g d 100 le_rfl]
  rw [ek, ← hm, ← hq, ← hs]

end Ins

end Cert.PoolIdeal.Pass
-- ==== Proof.PoolMath.lean ====
/-
  The two forms of the normalized maxima, over the extended reals: scaling and shifting the maxima of the raw points by the column's
  statistics, and taking the maxima of the normalized points.
-/
module

public import proofs.«01_k».proof.Proof.PoolValue

@[expose] public section

noncomputable section

namespace Cert.PoolIdeal.Pass

open Idealize.ShloMosaic

theorem coe_total {α : Type} (s : Finset α) (f : α → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The mean of the squared distances from the mean is the mean square less the squared mean. -/
theorem spread_eq (f : ℕ → ℝ) (N : ℕ) (hN : (N : ℝ) ≠ 0) (μ : ℝ) (hμ : μ = (∑ i ∈ Finset.range N, f i) * (1 / N)) :
    (∑ i ∈ Finset.range N, (f i - μ) * (f i - μ)) * (1 / N) = (∑ i ∈ Finset.range N, f i * f i) * (1 / N) - μ * μ := by
  have e : ∀ i, (f i - μ) * (f i - μ) = f i * f i - 2 * μ * f i + μ * μ := fun i => by ring
  have h : ∑ i ∈ Finset.range N, f i = μ * N := by rw [hμ]; field_simp
  simp only [e, Finset.sum_add_distrib, Finset.sum_sub_distrib, ← Finset.mul_sum, Finset.sum_const, Finset.card_range, nsmul_eq_mul, h]
  field_simp
  ring

/-- The greatest of the members' values, or none. -/
theorem best_cases (H : ℕ → EReal) (B : ℕ → ℕ) (N g : ℕ) :
    (best H B 0 N g = ⊥ ∧ ∀ i < N, B i ≠ g) ∨ ∃ r < N, B r = g ∧ best H B 0 N g = H r ∧ ∀ i < N, B i = g → H i ≤ H r := by
  classical
  by_cases h : ∀ i < N, B i ≠ g
  · exact .inl ⟨best_none H B 0 N g (by simpa using h), h⟩
  · push Not at h
    obtain ⟨i, hi, hg⟩ := h
    have hne : ((Finset.range N).filter fun i => B i = g).Nonempty := ⟨i, Finset.mem_filter.mpr ⟨Finset.mem_range.mpr hi, hg⟩⟩
    obtain ⟨r, hr, hmax⟩ := Finset.exists_max_image _ H hne
    obtain ⟨hr1, hr2⟩ := Finset.mem_filter.mp hr
    have hle : ∀ i < N, B i = g → H i ≤ H r := fun i hi hb => hmax i (Finset.mem_filter.mpr ⟨Finset.mem_range.mpr hi, hb⟩)
    refine .inr ⟨r, Finset.mem_range.mp hr1, hr2, le_antisymm (Finset.sup_le fun i hi => ?_) ?_, hle⟩
    · simp only [Nat.zero_add]
      split
      · exact hle i (Finset.mem_range.mp hi) ‹_›
      · exact bot_le
    · refine le_trans (le_of_eq ?_) (Finset.le_sup (f := fun i => if B (0 + i) = g then H (0 + i) else ⊥) hr1)
      simp only [Nat.zero_add, if_pos hr2]

theorem scaled_eq (f : ℕ → ℝ) (B : ℕ → ℕ) (g : ℕ) (γ : ℝ) (hγ : 0 < γ) (β : EReal) (e : EReal) (he : e = ((1 / 100000 : ℝ) : EReal)) (m q s m' v' : EReal)
    (hm : m = (∑ i ∈ Finset.range 100000, (f i : EReal)) * e) (hq : q = (∑ i ∈ Finset.range 100000, (f i : EReal) * (f i : EReal)) * e)
    (hs : s = (γ : EReal) * Ideal.rsqrt (q - m * m + e))
    (hm' : m' = (∑ r : Fin 100000, (f r.val : EReal)) * e) (hv' : v' = (∑ r : Fin 100000, ((f r.val : EReal) - m') * ((f r.val : EReal) - m')) * e) :
    max (best (fun i => (f i : EReal)) B 0 100000 g * s + (β - m * s)) 0
      = Finset.univ.sup fun r : Fin 100000 => if B r.val = g then max (((f r.val : EReal) - m') * Ideal.rsqrt (v' + e) * (γ : EReal) + β) 0 else 0 := by
  obtain ⟨μ, hμ⟩ : ∃ μ : ℝ, μ = (∑ i ∈ Finset.range 100000, f i) * (1 / (100000 : ℕ)) := ⟨_, rfl⟩
  obtain ⟨ν, hν⟩ : ∃ ν : ℝ, ν = (∑ i ∈ Finset.range 100000, (f i - μ) * (f i - μ)) * (1 / (100000 : ℕ)) := ⟨_, rfl⟩
  have e1 : m = (μ : EReal) := by rw [hm, he, coe_total, ← EReal.coe_mul, hμ]; norm_num
  have e2 : m' = (μ : EReal) := by rw [hm', he, Fin.sum_univ_eq_sum_range (fun i => (f i : EReal)), coe_total, ← EReal.coe_mul, hμ]; norm_num
  have e3 : v' = (ν : EReal) := by
    rw [hv', he, e2]
    simp only [← EReal.coe_sub, ← EReal.coe_mul]
    rw [Fin.sum_univ_eq_sum_range (fun i => (((f i - μ) * (f i - μ) : ℝ) : EReal)), coe_total, ← EReal.coe_mul, hν]; norm_num
  have e4 : q - m * m = (ν : EReal) := by
    rw [hq, he, e1]
    simp only [← EReal.coe_mul]
    rw [coe_total, ← EReal.coe_mul, ← EReal.coe_sub, hν, spread_eq f 100000 (by norm_num) μ hμ]; norm_num
  have hν0 : 0 ≤ ν := by
    rw [hν]; exact mul_nonneg (Finset.sum_nonneg fun i _ => mul_self_nonneg _) (by positivity)
  obtain ⟨ρ, hρ, hρ0⟩ : ∃ ρ : ℝ, Ideal.rsqrt ((ν : EReal) + e) = (ρ : EReal) ∧ 0 < ρ := by
    have hp : 0 < ν + 1 / 100000 := by positivity
    refine ⟨(Real.sqrt (ν + 1 / 100000))⁻¹, ?_, inv_pos.mpr (Real.sqrt_pos.mpr hp)⟩
    rw [he, ← EReal.coe_add]
    show (if ν + 1 / 100000 < 0 then (⊥ : EReal) else if ν + 1 / 100000 = 0 then ⊤ else _) = _
    rw [if_neg (not_lt.mpr hp.le), if_neg hp.ne']
  have e5 : s = ((γ * ρ : ℝ) : EReal) := by rw [hs, e4, hρ, ← EReal.coe_mul]
  have hσ : 0 < γ * ρ := mul_pos hγ hρ0
  rw [e1, e2, e3, e5, hρ]
  simp only [← EReal.coe_sub, ← EReal.coe_mul]
  rcases best_cases (fun i => (f i : EReal)) B 100000 g with ⟨hb, hno⟩ | ⟨r0, hr0, hg, hb, hle⟩
  · rw [hb, EReal.bot_mul_coe_of_pos hσ, EReal.bot_add, max_eq_right bot_le]
    refine (le_antisymm (Finset.sup_le fun r _ => ?_) ?_).symm
    · rw [if_neg (hno r.val r.isLt)]
    · refine le_trans (le_of_eq ?_) (Finset.le_sup (Finset.mem_univ (0 : Fin 100000)))
      rw [if_neg (hno (0 : Fin 100000).val (0 : Fin 100000).isLt)]
  · have key : ∀ t : ℝ, ((t * (γ * ρ) : ℝ) : EReal) + (β - ((μ * (γ * ρ) : ℝ) : EReal)) = (((t - μ) * ρ * γ : ℝ) : EReal) + β := fun t => by
      rw [sub_eq_add_neg, add_comm β, ← add_assoc, ← EReal.coe_neg, ← EReal.coe_add]
      exact congrArg (fun r : ℝ => (r : EReal) + β) (by ring)
    rw [hb, ← EReal.coe_mul, key]
    refine le_antisymm ?_ (Finset.sup_le fun r _ => ?_)
    · refine le_trans (le_of_eq ?_) (Finset.le_sup (Finset.mem_univ (⟨r0, hr0⟩ : Fin 100000)))
      rw [if_pos hg]
    · split
      · rename_i hr
        have hfr : f r.val ≤ f r0 := EReal.coe_le_coe_iff.mp (hle r.val r.isLt hr)
        refine max_le_max (add_le_add_left (EReal.coe_le_coe_iff.mpr ?_) β) le_rfl
        exact mul_le_mul_of_nonneg_right (mul_le_mul_of_nonneg_right (by linarith) hρ0.le) hγ.le
      · exact le_max_right _ _

end Cert.PoolIdeal.Pass
-- ==== Proof.PoolRegular.lean ====
/-
  What the precondition of the pooling pass's value claim says, element by element.
-/
module

public import proofs.«01_k».proof.Proof.Gen.Pre_regular
public import proofs.«01_k».proof.Proof.PoolMath

@[expose] public section

set_option maxRecDepth 16384

noncomputable section

namespace Cert.PoolIdeal.Pass

open Cert.Pre_regular Cert.PoolLit
open Idealize.ShloMosaic Idealize.ShloMosaic.WordCmp Idealize.ShloMosaic.StableHlo.Predicate

structure Regular (x : FVec Ideal S100000x128 .f32) (batch : IVec S100000 32) (W : FVec Ideal S128x128 .f32) (b gamma : FVec Ideal S128 .f32) : Prop where
  small : ∀ i, (batch i).toNat < 256
  sorted : ∀ r s (h : r ≤ s) (hs : s < 100000), (batch (ix1 ⟨r, by omega⟩)).toNat ≤ (batch (ix1 ⟨s, hs⟩)).toNat
  x : ∃ f : S100000x128.Idx → ℝ, ∀ i, x i = (f i : EReal)
  W : ∃ f : S128x128.Idx → ℝ, ∀ i, W i = (f i : EReal)
  b : ∃ f : S128.Idx → ℝ, ∀ i, b i = (f i : EReal)
  gamma : ∃ f : S128.Idx → ℝ, ∀ i, gamma i = (f i : EReal) ∧ 0 < f i

theorem both {a b : BitVec 1} (h : IntOp.andi a b = 1#1) : a = 1#1 ∧ b = 1#1 := by
  revert a b; decide

theorem below {y z : EReal} (h : FloatOps.cmpf (F := Ideal) (φ := .f32) .olt y z = 1#1) : y < z := by
  by_contra hn
  have e : Ideal.cmp .olt y z = 0#1 := by simp [Ideal.cmp, hn]
  exact absurd (e.symm.trans h) (by decide)

theorem above {y z : EReal} (h : FloatOps.cmpf (F := Ideal) (φ := .f32) .ogt y z = 1#1) : z < y := by
  by_contra hn
  have e : Ideal.cmp .ogt y z = 0#1 := by simp [Ideal.cmp, hn]
  exact absurd (e.symm.trans h) (by decide)

theorem real_of {y : EReal} (h : FloatOps.cmpf (F := Ideal) (φ := .f32) .olt (FloatOps.absf (F := Ideal) (φ := .f32) y) (Ideal.ofBits .f32 0x7F800000#32) = 1#1) :
    ∃ r : ℝ, y = (r : EReal) := by
  have h' : max y (-y) < ⊤ := (below h).trans_eq highest
  induction y with
  | bot => simp at h'
  | coe r => exact ⟨r, rfl⟩
  | top => simp at h'

theorem regular_of (a0 a1 a2 a3 a4 a5 a6) (h : Cert.Pre_regular.fn (F := Ideal) a0 a1 a2 a3 a4 a5 a6 = fun _ => 1#1) : Regular a0 a2 a3 a4 a5 := by
  haveI : Subsingleton Cert.Pre_regular.S_.Idx := ⟨fun a b => funext fun x => x.elim0⟩
  have e := congrFun h fun a => a.elim0
  obtain ⟨e, eg⟩ := both e
  obtain ⟨e, eb⟩ := both e
  obtain ⟨e, ew⟩ := both e
  obtain ⟨e, ex⟩ := both e
  obtain ⟨er, es⟩ := both e
  have er := Host.reduce_andi_all _ _ _ _ _ er
  have es := Host.reduce_andi_all _ _ _ _ _ es
  have ex := Host.reduce_andi_all _ _ _ _ _ ex
  have ew := Host.reduce_andi_all _ _ _ _ _ ew
  have eb := Host.reduce_andi_all _ _ _ _ _ eb
  have eg := Host.reduce_andi_all _ _ _ _ _ eg
  have small : ∀ i, (a2 i).toNat < 256 := fun i => by
    have e' : IntOp.andi (IntOp.cmpi .sge (a2 i) 0#32) (IntOp.cmpi .slt (a2 i) (BitVec.ofNat 32 256)) = 1#1 := er i
    rw [andi_sge_zero_slt_ofNat (by decide), ofBool_decide_eq_one_iff] at e'
    exact e'
  have next : ∀ r (h : r + 1 < 100000), (a2 (ix1 ⟨r, by omega⟩)).toNat ≤ (a2 (ix1 ⟨r + 1, h⟩)).toNat := fun r h => by
    have e1 := es (ix1 ⟨r, by omega⟩)
    pointwise at e1
    rw [cmpi_sle_of_lt ((small _).trans (by norm_num)) ((small _).trans (by norm_num)), ofBool_decide_eq_one_iff] at e1
    exact e1.trans_eq (congrArg (fun k => (a2 (ix1 k)).toNat) (Fin.ext (Nat.add_comm 1 r)))
  refine ⟨small, fun r s h hs => ?_, ?_, ?_, ?_, ?_⟩
  · induction s, h using Nat.le_induction with
    | base => exact le_rfl
    | succ s h ih => exact (ih (by omega)).trans (next s hs)
  · exact ⟨_, fun i => (real_of (ex i)).choose_spec⟩
  · exact ⟨_, fun i => (real_of (ew i)).choose_spec⟩
  · exact ⟨_, fun i => (real_of (eb i)).choose_spec⟩
  · have hg : ∀ i, ∃ r : ℝ, a5 i = (r : EReal) ∧ 0 < r := fun i => by
      obtain ⟨h1, h2⟩ := both (eg i)
      have h1 : (0 : EReal) < a5 i := Ideal.ofBits_zero_f32.symm.trans_lt (above h1)
      have h2 : a5 i < ⊤ := (below h2).trans_eq highest
      lift a5 i to ℝ using ⟨h2.ne, (bot_le.trans_lt h1).ne'⟩ with r
      exact ⟨r, rfl, EReal.coe_pos.mp h1⟩
    exact ⟨_, fun i => (hg i).choose_spec⟩

end Cert.PoolIdeal.Pass
-- ==== Proof.PoolRef.lean ====
/-
  The pooling reference at an index, at the extended reals.
-/
module

public import proofs.«01_k».proof.Proof.PoolConst
public import proofs.«01_k».proof.Proof.Gen.PoolReferenceIdeal.Run
public import Idealize.ShloMosaic.Lib.Pointwise
public import Idealize.ShloMosaic.Lib.WordCmp
public import Idealize.ShloMosaic.Lib.IdealHost

@[expose] public section

set_option maxRecDepth 16384

noncomputable section

namespace Cert.PoolReferenceIdeal.Pass

open Cert.PoolReferenceIdeal Cert.PoolReferenceIdeal.Gen Cert.PoolReferenceIdeal.Value Cert.PoolLit
open Idealize.ShloMosaic Idealize.ShloMosaic.TcCoe

variable (m : (ℓ : Loc nD τ sig) → Buf (Elt Ideal) ℓ) (c : Dev nD)

abbrev xArr : FVec Ideal S100000x128 .f32 := m (c.tc.loc main_arg0)
abbrev batchArr : IVec S100000 32 := m (c.tc.loc main_arg2)
abbrev wArr : FVec Ideal S128x128 .f32 := m (c.tc.loc main_arg3)
abbrev bArr : FVec Ideal S128 .f32 := m (c.tc.loc main_arg4)
abbrev gammaArr : FVec Ideal S128 .f32 := m (c.tc.loc main_arg5)
abbrev betaArr : FVec Ideal S128 .f32 := m (c.tc.loc main_arg6)

/-- A vector of one value per column, given to every point. -/
abbrev spread (v : FVec Ideal S128 .f32) : FVec Ideal S100000x128 .f32 :=
  broadcastInDim S100000x128 ![0, 1] bcast_S1x128_S100000x128_0_1 (broadcastInDim S1x128 ![1] bcast_S128_S1x128_1 v)

/-- The mean of a column over the points. -/
abbrev over_points (v : FVec Ideal S100000x128 .f32) : FVec Ideal S128 .f32 :=
  Host.divf (Host.reduceAdd v (constant S_ .f32 0x00000000#32) reducesTo_S100000x128_S128_d0 h_S_) (broadcastInDim S128 ![] bcast_S_S128 (constant S_ .f32 0x47C35000#32))

def lin : FVec Ideal S100000x128 .f32 :=
  addf (Host.dotGeneral (F := Ideal) dot_S100000x128_S128x128_S100000x128_1_0_0_1_n_n none (xArr m c) (wArr m c))
    (spread (bArr m c))
def mean : FVec Ideal S128 .f32 := over_points (lin m c)
def centred : FVec Ideal S100000x128 .f32 := subf (lin m c) (spread (mean m c))
def var : FVec Ideal S128 .f32 := over_points (mulf (centred m c) (centred m c))
def eps : FVec Ideal S128 .f32 :=
  Host.divf (broadcastInDim S128 ![] bcast_S_S128 (constant (F := Ideal) S_ .f32 0x3F800000#32)) (broadcastInDim S128 ![] bcast_S_S128 (constant S_ .f32 0x47C35000#32))
/-- The points normalized and cut off at zero. -/
def point : FVec Ideal S100000x128 .f32 :=
  maximumf (addf (mulf (mulf (centred m c) (spread (Host.rsqrt (addf (var m c) eps)))) (spread (gammaArr m c))) (spread (betaArr m c)))
    (broadcastInDim S100000x128 ![] bcast_S_S100000x128 (constant S_ .f32 0x00000000#32))
/-- Every graph's view of the points: its own, and zero for the others. -/
def members : S256x100000x128.Idx → Elt Ideal .f32 :=
  select (broadcastInDim S256x100000x128 ![0, 1, 2] bcast_S256x100000x1_S256x100000x128_0_1_2
      (cmpi .eq (broadcastInDim S256x100000x1 ![0, 1, 2] bcast_S1x100000x1_S256x100000x1_0_1_2 (broadcastInDim S1x100000x1 ![1] bcast_S100000_S1x100000x1_1 (batchArr m c)))
        (broadcastInDim S256x100000x1 ![0, 1, 2] bcast_S256x1x1_S256x100000x1_0_1_2 (broadcastInDim S256x1x1 ![0] bcast_S256_S256x1x1_0 (iotaInDim S256 32 0)))))
    (broadcastInDim S256x100000x128 ![0, 1, 2] bcast_S1x100000x128_S256x100000x128_0_1_2 (broadcastInDim S1x100000x128 ![1, 2] bcast_S100000x128_S1x100000x128_1_2 (point m c)))
    (broadcastInDim S256x100000x128 ![] bcast_S_S256x100000x128 (id (constant (F := Ideal) S_ .f32 0x00000000#32)))

theorem res_eq : res_main_v44 m c
    = Host.reduce (α := Elt Ideal .f32) (FloatOps.maximumf (F := Ideal) (φ := .f32)) (members m c) (constant (F := Ideal) S_ .f32 0xFF800000#32) reducesTo_S256x100000x128_S256x128_d1 h_S_ := by
  unfold res_main_v44 members point var centred mean lin eps
  rfl

theorem over_points_at (v : FVec Ideal S100000x128 .f32) (d : Fin 128) :
    over_points v (ix1 d) = (∑ r : Fin 100000, v (ix2 r d)) * ((1 / 100000 : ℝ) : EReal) := by
  unfold over_points
  pointwise
  rw [count, Ideal.div_coe (by norm_num)]

theorem eps_at (d : Fin 128) : eps (ix1 d) = ((1 / 100000 : ℝ) : EReal) := by
  unfold eps
  pointwise
  rw [count, Ideal.div_coe (by norm_num)]
  simp

theorem lin_at (r : Fin 100000) (d : Fin 128) :
    lin m c (ix2 r d) = (∑ k : Fin 128, xArr m c (ix2 r k) * wArr m c (ix2 k d))
      + bArr m c (ix1 d) := by
  unfold lin
  pointwise

theorem centred_at (r : Fin 100000) (d : Fin 128) : centred m c (ix2 r d) = lin m c (ix2 r d) - mean m c (ix1 d) := by
  unfold centred
  pointwise

theorem square_at (r : Fin 100000) (d : Fin 128) : mulf (centred m c) (centred m c) (ix2 r d) = centred m c (ix2 r d) * centred m c (ix2 r d) := rfl

theorem point_at (r : Fin 100000) (d : Fin 128) :
    point m c (ix2 r d) = max ((lin m c (ix2 r d) - mean m c (ix1 d)) * Ideal.rsqrt (var m c (ix1 d) + ((1 / 100000 : ℝ) : EReal))
      * gammaArr m c (ix1 d) + betaArr m c (ix1 d)) 0 := by
  unfold point
  pointwise [centred_at, eps_at]

theorem members_at (g : Fin 256) (r : Fin 100000) (d : Fin 128) :
    members m c (ix3 g r d) = if (batchArr m c (ix1 r)).toNat = g.val then point m c (ix2 r d) else (0 : EReal) := by
  unfold members
  pointwise
  rw [WordCmp.cmpi_eq_eq_toNat, WordCmp.select_ofBool, BitVec.toNat_ofNat, Nat.mod_eq_of_lt (a := g.val) (by omega)]
  simp only [decide_eq_true_eq]
  refine if_congr Iff.rfl rfl ?_
  exact Ideal.ofBits_zero_f32

theorem reduces : S256x100000x128.Reduces [1] S256x128 := ⟨reducesTo_S256x100000x128_S256x128_d1.1, by decide, reducesTo_S256x100000x128_S256x128_d1.2⟩

theorem result_at (g : Fin 256) (d : Fin 128) : res_main_v44 m c (ix2 g d)
    = Finset.univ.sup fun r : Fin 100000 => if (batchArr m c (ix1 r)).toNat = g.val then point m c (ix2 r d) else (0 : EReal) := by
  rw [res_eq]
  refine (Host.reduce_eq_fold_single (a := 1) (FloatOps.maximumf (F := Ideal) (φ := .f32)) _ _ _ reduces _ _).trans ?_
  have e : (members m c) ∘ reduces.lift (ix2 g d) = fun r : Fin 100000 =>
      if (batchArr m c (ix1 r)).toNat = g.val then point m c (ix2 r d) else (0 : EReal) := by
    funext r
    refine Eq.trans (congrArg (members m c) (funext fun a => ?_)) (members_at m c g r d)
    match a with
    | 0 => rfl
    | 1 => rfl
    | 2 => rfl
  rw [e]
  have b : (constant (F := Ideal) S_ .f32 0xFF800000#32) (Shape.Idx.first h_S_) = (⊥ : EReal) := by
    exact lowest
  rw [b]
  rfl

end Cert.PoolReferenceIdeal.Pass
-- ==== Proof.PoolAgree.lean ====
/-
  The pooling pass computes the reference's result on regular arguments, at the extended reals.
-/
module

public import proofs.«01_k».proof.Proof.PoolRegular
public import proofs.«01_k».proof.Proof.PoolRef

@[expose] public section

set_option maxRecDepth 16384

noncomputable section

namespace Cert.PoolIdeal.Pass

open Cert.PoolIdeal Cert.PoolIdeal.Gen
open Idealize.ShloMosaic Idealize.ShloMosaic.TcCoe

variable (m : (ℓ : Loc nD τ sig) → Buf (Elt Ideal) ℓ) (c : Dev nD)

abbrev argX : FVec Ideal S100000x128 .f32 := m (c.tc.loc main_arg0)
abbrev argW : FVec Ideal S128x128 .f32 := m (c.tc.loc main_arg3)
abbrev argb : FVec Ideal S128 .f32 := m (c.tc.loc main_arg4)
abbrev argGamma : FVec Ideal S128 .f32 := m (c.tc.loc main_arg5)
abbrev argBeta : FVec Ideal S128 .f32 := m (c.tc.loc main_arg6)

/-- The segment of a point by its number. -/
def segment (r : ℕ) : ℕ := if h : r < 100000 then (batch m c (ix1 ⟨r, h⟩)).toNat else 0

theorem segment_at (r : ℕ) (h : r < 100000) : segment m c r = (batch m c (ix1 ⟨r, h⟩)).toNat := dif_pos h

theorem reads (hk : Checked m c) (h : Regular (argX m c) (batch m c) (argW m c) (argb m c) (argGamma m c)) : (ins m c hk).Reads (segment m c) where
  seg n r := (congrArg BitVec.toNat (seg_at m c n r)).trans (segment_at m c _ _).symm
  first n := (congrArg BitVec.toNat (first_at m c n)).trans (segment_at m c _ _).symm
  last n := (congrArg BitVec.toNat (last_at m c n)).trans (segment_at m c _ _).symm
  small r := by
    unfold segment
    split
    · exact h.small _
    · norm_num
  sorted r s hrs hs := by
    rw [segment_at m c r (by omega), segment_at m c s hs]
    exact h.sorted r s hrs hs

/-- A regular point through the linear layer is a real number. -/
theorem real_lin (h : Regular (argX m c) (batch m c) (argW m c) (argb m c) (argGamma m c)) (d : Fin 128) : ∃ f : ℕ → ℝ, ∀ r (hr : r < 100000),
    (∑ k : Fin 128, argX m c (ix2 ⟨r, hr⟩ k) * argW m c (ix2 k d)) + argb m c (ix1 d) = (f r : EReal) := by
  obtain ⟨x, hx⟩ := h.x
  obtain ⟨w, hw⟩ := h.W
  obtain ⟨b, hb⟩ := h.b
  refine ⟨fun r => if hr : r < 100000 then (∑ k : Fin 128, x (ix2 ⟨r, hr⟩ k) * w (ix2 k d)) + b (ix1 d) else 0, fun r hr => ?_⟩
  simp only [dif_pos hr, hx, hw, hb, ← EReal.coe_mul]
  rw [coe_total, ← EReal.coe_add]

variable (m' : (ℓ : Loc Cert.PoolReferenceIdeal.nD Cert.PoolReferenceIdeal.τ Cert.PoolReferenceIdeal.sig) → Buf (Elt Ideal) ℓ)

theorem agree (hk : Checked m c) (h : Regular (argX m c) (batch m c) (argW m c) (argb m c) (argGamma m c))
    (e0 : Cert.PoolReferenceIdeal.Pass.xArr m' c = argX m c) (e2 : Cert.PoolReferenceIdeal.Pass.batchArr m' c = batch m c)
    (e3 : Cert.PoolReferenceIdeal.Pass.wArr m' c = argW m c) (e4 : Cert.PoolReferenceIdeal.Pass.bArr m' c = argb m c)
    (e5 : Cert.PoolReferenceIdeal.Pass.gammaArr m' c = argGamma m c) (e6 : Cert.PoolReferenceIdeal.Pass.betaArr m' c = argBeta m c) (g : Fin 256) (d : Fin 128) :
    (ins m c hk).result ((ins m c hk).after 100) (ix2 g d) = Cert.PoolReferenceIdeal.Value.res_main_v44 m' c (ix2 g d) := by
  have hB := reads m c hk h
  obtain ⟨f, hf⟩ := real_lin m c h d
  obtain ⟨γ, hγ⟩ := h.gamma
  have hH : ∀ r < 100000, (ins m c hk).H d r = (f r : EReal) := fun r hr => by
    rw [← hf r hr]
    unfold Ins.H Ins.lin
    rw [dif_pos hr]
    refine congrArg₂ (· + ·) (Finset.sum_congr rfl fun k _ => congrArg₂ (· * ·) ?_ (W_at m c k d)) (b_at m c d)
    exact congrFun (V_main_arg0 m c) _
  have hL : ∀ r : Fin 100000, Cert.PoolReferenceIdeal.Pass.lin m' c (ix2 r d) = (f r.val : EReal) := fun r => by
    rw [Cert.PoolReferenceIdeal.Pass.lin_at, e0, e3, e4]
    exact hf r.val r.isLt
  have hbest : best ((ins m c hk).H d) (segment m c) 0 100000 g.val = best (fun i => (f i : EReal)) (segment m c) 0 100000 g.val :=
    Finset.sup_congr rfl fun i hi => by simp only [Nat.zero_add, hH i (Finset.mem_range.mp hi)]
  have hsum : ∑ i ∈ Finset.range 100000, (ins m c hk).H d i = ∑ i ∈ Finset.range 100000, (f i : EReal) :=
    Finset.sum_congr rfl fun i hi => hH i (Finset.mem_range.mp hi)
  have hsq : ∑ i ∈ Finset.range 100000, (ins m c hk).H d i * (ins m c hk).H d i = ∑ i ∈ Finset.range 100000, (f i : EReal) * (f i : EReal) :=
    Finset.sum_congr rfl fun i hi => by rw [hH i (Finset.mem_range.mp hi)]
  have hg : (ins m c hk).gamma (ix2 0 d) = (γ (ix1 d) : EReal) := (gamma_at m c d).trans (hγ (ix1 d)).1
  have hb : (ins m c hk).beta (ix2 0 d) = argBeta m c (ix1 d) := beta_at m c d
  have hmean : Cert.PoolReferenceIdeal.Pass.mean m' c (ix1 d) = (∑ r : Fin 100000, (f r.val : EReal)) * ((1 / 100000 : ℝ) : EReal) := by
    unfold Cert.PoolReferenceIdeal.Pass.mean
    rw [Cert.PoolReferenceIdeal.Pass.over_points_at]
    simp only [hL]
  have hvar : Cert.PoolReferenceIdeal.Pass.var m' c (ix1 d)
      = (∑ r : Fin 100000, ((f r.val : EReal) - Cert.PoolReferenceIdeal.Pass.mean m' c (ix1 d))
          * ((f r.val : EReal) - Cert.PoolReferenceIdeal.Pass.mean m' c (ix1 d))) * ((1 / 100000 : ℝ) : EReal) := by
    unfold Cert.PoolReferenceIdeal.Pass.var
    rw [Cert.PoolReferenceIdeal.Pass.over_points_at]
    refine congrArg (fun s : EReal => s * ((1 / 100000 : ℝ) : EReal)) (Finset.sum_congr rfl fun r _ => ?_)
    exact (Cert.PoolReferenceIdeal.Pass.square_at m' c r d).trans (by rw [Cert.PoolReferenceIdeal.Pass.centred_at, hL])
  refine (Ins.result_at hB g d _ _ _ _ rfl rfl rfl rfl).trans ?_
  rw [hbest, hsum, hsq, hg, hb]
  refine (scaled_eq f (segment m c) g.val (γ (ix1 d)) (hγ (ix1 d)).2 (argBeta m c (ix1 d)) _ rfl _ _ _ _ _ rfl rfl rfl hmean hvar).trans ?_
  refine Eq.trans (Finset.sup_congr rfl fun r _ => ?_) (Cert.PoolReferenceIdeal.Pass.result_at m' c g d).symm
  rw [Cert.PoolReferenceIdeal.Pass.point_at, hL, e2, e5, e6, (hγ (ix1 d)).1, segment_at m c r.val r.isLt]

end Cert.PoolIdeal.Pass
-- ==== Proof.lean ====
/-
  The certificate: each claim from a program's one run (`run_main` for the SparseCore call, `run_pool` for the TensorCore call, each at both
  instances) and its reference's.
-/
module

public import proofs.«01_k».proof.Defs
public import proofs.«01_k».proof.Proof.Launch
public import proofs.«01_k».proof.Proof.Value
public import proofs.«01_k».proof.Proof.PoolRange
public import proofs.«01_k».proof.Proof.PoolAgree
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import proofs.«01_k».proof.Proof.Gen.Pool
public import proofs.«01_k».proof.Proof.Gen.PoolIdeal
public import proofs.«01_k».proof.Proof.Gen.PoolReferenceIdeal
public import proofs.«01_k».proof.Proof.Gen.Pool.Frame
public import proofs.«01_k».proof.Proof.Gen.Pool.Skeleton
public import proofs.«01_k».proof.Proof.Gen.Pool.Loops
public import proofs.«01_k».proof.Proof.Gen.PoolIdeal.Skeleton
public import proofs.«01_k».proof.Proof.Gen.PoolIdeal.Frame
public import proofs.«01_k».proof.Proof.Gen.PoolReferenceIdeal.Run
public import proofs.«01_k».proof.Proof.Gen.Pre_batch_in_range
public import proofs.«01_k».proof.Proof.Gen.Pre_regular
public import Idealize.ShloMosaic.Adequacy
public import Idealize.ShloMosaic.Init
public import Idealize.ShloMosaic.Lib.Claim

@[expose] public section

set_option maxRecDepth 65536

noncomputable section

namespace Cert.Proof

open Idealize.ShloMosaic Idealize.SL.Sem Cert.Kernel Cert.Kernel.Gen Cert.Proof.Expand

/-! ## The kernel -/

/-- The kernel's batch entries name rows, from the precondition. -/
theorem rows_Kernel (m : (ℓ : Loc nD τ sig) → Buf (Elt Bits) ℓ) (h : Cert.Pre_Kernel m) (d : Dev nD) (x : S100000.Idx) :
    (m (batchLoc d) x).toNat < 256 := in_range_lt (F := Bits) _ _ (h d) x

/-- The same of the kernel read at the extended reals. -/
theorem rows_KernelIdeal (m : (ℓ : Loc Cert.KernelIdeal.nD Cert.KernelIdeal.τ Cert.KernelIdeal.sig) → Buf (Elt Ideal) ℓ)
    (h : Cert.Pre_KernelIdeal m) (d : Dev nD) (x : S100000.Idx) :
    ((show (ℓ : Loc nD τ sig) → Buf (Elt Ideal) ℓ from m) (batchLoc d) x).toNat < 256 :=
  in_range_lt (F := Ideal) _ _ (h d) x

/-- The kernel read at the extended reals is the same program as the kernel, so it has the kernel's run. -/
theorem run_ideal (m : (ℓ : Loc nD τ sig) → Buf (Elt Ideal) ℓ) (ρ : Dev nD → PrngReg)
    (hm : ∀ d x, (m (batchLoc d) x).toNat < 256) :
    θ_run (Cert.KernelIdeal.defs (F := Ideal)) (Cert.KernelIdeal.threads (F := Ideal)) ⟨m, fun _ => 0, ρ⟩ (Done m hm) :=
  haveI : ∀ e, Nonempty (Elt Ideal e) := fun e => ⟨default⟩
  run_main m ρ hm

theorem run_bits (m : (ℓ : Loc nD τ sig) → Buf (Elt Bits) ℓ) (ρ : Dev nD → PrngReg)
    (hm : ∀ d x, (m (batchLoc d) x).toNat < 256) :
    θ_run (Cert.Kernel.defs (F := Bits)) (Cert.Kernel.threads (F := Bits)) ⟨m, fun _ => 0, ρ⟩ (Done m hm) :=
  haveI : ∀ e, Nonempty (Elt Bits e) := fun e => ⟨default⟩
  run_main m ρ hm

theorem quiescent_Kernel : Cert.quiescent_Kernel := fun m g h =>
  θ_run_mono (run_bits m g (rows_Kernel m h)) fun _ hr => ⟨fun c => ⟨(hr.1 c).1, (hr.1 c).2.1⟩, hr.2⟩

theorem quiescent_KernelIdeal : Cert.quiescent_KernelIdeal := fun m g h =>
  θ_run_mono (run_ideal m g (rows_KernelIdeal m h)) fun _ hr => ⟨fun c => ⟨(hr.1 c).1, (hr.1 c).2.1⟩, hr.2⟩

/-! ## The reference -/

/-- The reference's arguments keep their contents, and it declares no semaphore. -/
theorem quiescent_ReferenceIdeal : Cert.quiescent_ReferenceIdeal := fun m g _ => by
  hlo_run
  · exact fun _ => ⟨trivial, trivial⟩
  · exact sem_eq_zero_of_no_sems (by decide) _

theorem quiescent_ReferenceIdeal_pre_in_range : Cert.quiescent_ReferenceIdeal_pre_in_range := fun m g _ =>
  quiescent_ReferenceIdeal m g trivial

theorem quiescent_Reference : Cert.quiescent_Reference := fun m g _ => by
  hlo_run
  · exact fun _ => ⟨trivial, trivial⟩
  · exact sem_eq_zero_of_no_sems (by decide) _

/-! ## The two together -/

theorem algebraic : Cert.algebraic_KernelIdeal_ReferenceIdeal := by
  intro m g m' g' hpre hagree
  refine ⟨fun c => want (show (ℓ : Loc nD τ sig) → Buf (Elt Ideal) ℓ from m) (rows_KernelIdeal m hpre) c, ?_, ?_⟩
  · exact θ_run_mono (run_ideal m g (rows_KernelIdeal m hpre)) fun _ hr c =>
      ⟨(hr.1 c).2.2, (hr.1 c).1, (hr.1 c).2.1⟩
  · hlo_run
    exact reference_rows (F := Ideal) _ _ _

theorem bitexact : Cert.bitexact_Kernel_Reference := by
  intro m g m' g' hpre hagree
  refine ⟨fun c => want m (rows_Kernel m hpre) c, ?_, ?_⟩
  · exact θ_run_mono (run_bits m g (rows_Kernel m hpre)) fun _ hr c =>
      ⟨(hr.1 c).2.2, (hr.1 c).1, (hr.1 c).2.1⟩
  · hlo_run
    exact reference_rows (F := Bits) _ _ _

/-! ## The TensorCore call -/

/-- The segments are in range, from the precondition. -/
theorem checked_Pool (m : (ℓ : Loc Cert.Pool.nD Cert.Pool.τ Cert.Pool.sig) → Buf (Elt Bits) ℓ) (h : Cert.Pre_Pool m) (c : Dev Cert.Pool.nD) :
    Cert.Pool.Pass.Checked m c :=
  Cert.Pool.Pass.checked m c fun x => Cert.Pool.Pass.batch_lt _ _ _ _ _ _ _ (h c) x

theorem checked_PoolIdeal (m : (ℓ : Loc Cert.PoolIdeal.nD Cert.PoolIdeal.τ Cert.PoolIdeal.sig) → Buf (Elt Ideal) ℓ) (h : Cert.Pre_PoolIdeal m)
    (c : Dev Cert.PoolIdeal.nD) : Cert.PoolIdeal.Pass.Checked m c :=
  Cert.PoolIdeal.Pass.checked m c fun x => Cert.PoolIdeal.Pass.batch_lt _ _ _ _ _ _ _ (h c) x

theorem regular_PoolIdeal (m : (ℓ : Loc Cert.PoolIdeal.nD Cert.PoolIdeal.τ Cert.PoolIdeal.sig) → Buf (Elt Ideal) ℓ) (h : Cert.Pre_PoolIdeal_regular m)
    (c : Dev Cert.PoolIdeal.nD) :
    Cert.PoolIdeal.Pass.Regular (Cert.PoolIdeal.Pass.argX m c) (Cert.PoolIdeal.Pass.batch m c) (Cert.PoolIdeal.Pass.argW m c)
      (Cert.PoolIdeal.Pass.argb m c) (Cert.PoolIdeal.Pass.argGamma m c) :=
  Cert.PoolIdeal.Pass.regular_of _ _ _ _ _ _ _ (h c)

theorem checked_regular (m : (ℓ : Loc Cert.PoolIdeal.nD Cert.PoolIdeal.τ Cert.PoolIdeal.sig) → Buf (Elt Ideal) ℓ) (h : Cert.Pre_PoolIdeal_regular m)
    (c : Dev Cert.PoolIdeal.nD) : Cert.PoolIdeal.Pass.Checked m c :=
  Cert.PoolIdeal.Pass.checked m c (regular_PoolIdeal m h c).small

theorem quiescent_Pool : Cert.quiescent_Pool := fun m g h =>
  θ_run_mono (Cert.Pool.Pass.run_pool m g (checked_Pool m h)) fun _ hr => ⟨fun c => (hr.1 c).1, hr.2⟩

theorem quiescent_PoolIdeal : Cert.quiescent_PoolIdeal := fun m g h =>
  θ_run_mono (Cert.PoolIdeal.Pass.run_pool m g (checked_PoolIdeal m h)) fun _ hr => ⟨fun c => (hr.1 c).1, hr.2⟩

theorem quiescent_PoolIdeal_pre_regular : Cert.quiescent_PoolIdeal_pre_regular := fun m g h =>
  θ_run_mono (Cert.PoolIdeal.Pass.run_pool m g (checked_regular m h)) fun _ hr => ⟨fun c => (hr.1 c).1, hr.2⟩

theorem quiescent_PoolReferenceIdeal : Cert.quiescent_PoolReferenceIdeal := fun m g _ =>
  θ_run_mono (Cert.PoolReferenceIdeal.Value.run m g) fun r hr =>
    ⟨fun c => (hr c).2, sem_eq_zero_of_no_sems (nD := Cert.PoolReferenceIdeal.nD) (τ := Cert.PoolReferenceIdeal.τ)
      (sig := Cert.PoolReferenceIdeal.sig) (by decide) r.2⟩

theorem quiescent_PoolReferenceIdeal_pre_regular : Cert.quiescent_PoolReferenceIdeal_pre_regular := fun m g _ =>
  quiescent_PoolReferenceIdeal m g trivial

theorem preserves_Pool : Cert.preserves_Pool_PoolIdeal :=
  IdealRules.named_const.statement Cert.PoolIdeal.κ "one_e5" .f32 0x3727C5AC#32 ((1 / 100000 : ℝ) : EReal) rfl

theorem algebraic_Pool : Cert.algebraic_PoolIdeal_PoolReferenceIdeal_pre_regular := by
  intro m g m' g' hpre hagree
  refine ⟨fun c => Cert.PoolReferenceIdeal.Value.res_main_v44 m' c, ?_, Cert.PoolReferenceIdeal.Value.run m' g'⟩
  refine θ_run_mono (Cert.PoolIdeal.Pass.run_pool m g (checked_regular m hpre)) fun _ hr c => ⟨?_, (hr.1 c).1⟩
  refine ((hr.1 c).2.trans (Cert.PoolIdeal.Pass.out_eq m c (checked_regular m hpre))).trans (funext fun j => ?_)
  obtain ⟨e0, -, e2, e3, e4, e5, e6⟩ := hagree c
  have e := Cert.PoolIdeal.Pass.agree m c m' (checked_regular m hpre c) (regular_PoolIdeal m hpre c) e0 e2 e3 e4 e5 e6 (j 0) (j 1)
  have hj : (ix2 (j 0) (j 1) : Cert.PoolIdeal.S256x128.Idx) = j := funext fun a => by
    match a with
    | 0 => rfl
    | 1 => rfl
  exact (congrArg _ hj).symm.trans (e.trans (congrArg (Cert.PoolReferenceIdeal.Value.res_main_v44 m' c) hj))

/-- Every claim of the certificate, with the facts of its programs. -/
theorem claim : Cert.Claim :=
  ⟨Cert.Kernel.Gen.facts, Cert.KernelIdeal.Gen.facts, Cert.ReferenceIdeal.Gen.facts, Cert.Reference.Gen.facts, Cert.Pool.Gen.facts,
    Cert.PoolIdeal.Gen.facts, Cert.PoolReferenceIdeal.Gen.facts, Cert.Pre_in_range.Gen.facts, Cert.Pre_batch_in_range.Gen.facts,
    Cert.Pre_regular.Gen.facts, quiescent_Kernel, quiescent_KernelIdeal, quiescent_ReferenceIdeal, quiescent_ReferenceIdeal_pre_in_range,
    quiescent_Reference, quiescent_Pool, quiescent_PoolIdeal, quiescent_PoolIdeal_pre_regular, quiescent_PoolReferenceIdeal,
    quiescent_PoolReferenceIdeal_pre_regular, trivial, algebraic, bitexact, preserves_Pool, algebraic_Pool⟩

end Cert.Proof

end
